-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  IdealRules.named_const.Statement Cert.KernelIdeal.κ "dead" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v117_1)) (v1 : (c : Dev Cert.Kernel2Ideal.nD) → Buf (Elt Ideal) ((c.tc : Thread Cert.Kernel2Ideal.nD Cert.Kernel2Ideal.τ).loc Cert.Kernel2Ideal.main_v117_3)) (v2 : (c : Dev Cert.Kernel2Ideal.nD) → Buf (Elt Ideal) ((c.tc : Thread Cert.Kernel2Ideal.nD Cert.Kernel2Ideal.τ).loc Cert.Kernel2Ideal.main_v117_6)) (v3 : (c : Dev Cert.Kernel2Ideal.nD) → Buf (Elt Ideal) ((c.tc : Thread Cert.Kernel2Ideal.nD Cert.Kernel2Ideal.τ).loc Cert.Kernel2Ideal.main_v117_10)) (v4 : (c : Dev Cert.Kernel2Ideal.nD) → Buf (Elt Ideal) ((c.tc : Thread Cert.Kernel2Ideal.nD Cert.Kernel2Ideal.τ).loc Cert.Kernel2Ideal.main_v117_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v117_1) = v0 c
          ∧ r.2.mem ((c.tc : Thread Cert.Kernel2Ideal.nD Cert.Kernel2Ideal.τ).loc Cert.Kernel2Ideal.main_v117_3) = v1 c
          ∧ r.2.mem ((c.tc : Thread Cert.Kernel2Ideal.nD Cert.Kernel2Ideal.τ).loc Cert.Kernel2Ideal.main_v117_6) = v2 c
          ∧ r.2.mem ((c.tc : Thread Cert.Kernel2Ideal.nD Cert.Kernel2Ideal.τ).loc Cert.Kernel2Ideal.main_v117_10) = v3 c
          ∧ r.2.mem ((c.tc : Thread Cert.Kernel2Ideal.nD Cert.Kernel2Ideal.τ).loc Cert.Kernel2Ideal.main_v117_12) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v76) = v2 c
          ∧ r.2.mem ((c.tc : Thread Cert.Reference2Ideal.nD Cert.Reference2Ideal.τ).loc Cert.Reference2Ideal.main_v9) = v3 c
          ∧ r.2.mem ((c.tc : Thread Cert.Reference2Ideal.nD Cert.Reference2Ideal.τ).loc Cert.Reference2Ideal.main_v10) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x16384x64 : Shape := ⟨3, ![8, 16384, 64]⟩
abbrev S127 : Shape := ⟨1, ![127]⟩
abbrev S1953 : Shape := ⟨1, ![1953]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x512 : Shape := ⟨2, ![16384, 512]⟩
abbrev S16384x8 : Shape := ⟨2, ![16384, 8]⟩
abbrev S8x256x64 : Shape := ⟨3, ![8, 256, 64]⟩
abbrev S1 : Shape := ⟨1, ![1]⟩
abbrev S256x512 : Shape := ⟨2, ![256, 512]⟩
abbrev S256x8 : Shape := ⟨2, ![256, 8]⟩
abbrev S8x256x1 : Shape := ⟨3, ![8, 256, 1]⟩
abbrev S1x256x64 : Shape := ⟨3, ![1, 256, 64]⟩
abbrev S256x64 : Shape := ⟨2, ![256, 64]⟩
abbrev S1x256x1 : Shape := ⟨3, ![1, 256, 1]⟩
abbrev S1x1x1 : Shape := ⟨3, ![1, 1, 1]⟩

abbrev nBuf : Space → Nat
  | .hbm => 15
  | .vmem => 30
  | .smem => 10
  | _ => 0

abbrev bufTy : (tb : Table) → Fin (tcTables nBuf tb) → BufTy
  | .hbm, ⟨0, _⟩ => ⟨S8x16384x64, .bf16⟩
  | .hbm, ⟨1, _⟩ => ⟨S8x16384x64, .bf16⟩
  | .hbm, ⟨2, _⟩ => ⟨S8x16384x64, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .f32⟩
  | .hbm, ⟨10, _⟩ => ⟨S256x256, .bf16⟩
  | .hbm, ⟨11, _⟩ => ⟨S16384x512, .f32⟩
  | .hbm, ⟨12, _⟩ => ⟨S16384x8, .f32⟩
  | .hbm, ⟨13, _⟩ => ⟨S16384x512, .f32⟩
  | .hbm, ⟨14, _⟩ => ⟨S16384x8, .f32⟩
  | .local _ .vmem, ⟨0, _⟩ => ⟨S8x256x64, .bf16⟩
  | .local _ .vmem, ⟨1, _⟩ => ⟨S8x256x64, .bf16⟩
  | .local _ .vmem, ⟨2, _⟩ => ⟨S8x256x64, .bf16⟩
  | .local _ .vmem, ⟨3, _⟩ => ⟨S8x256x64, .bf16⟩
  | .local _ .vmem, ⟨4, _⟩ => ⟨S8x256x64, .bf16⟩
  | .local _ .vmem, ⟨5, _⟩ => ⟨S8x256x64, .bf16⟩
  | .local _ .vmem, ⟨6, _⟩ => ⟨S256x256, .bf16⟩
  | .local _ .vmem, ⟨7, _⟩ => ⟨S256x512, .f32⟩
  | .local _ .vmem, ⟨8, _⟩ => ⟨S256x512, .f32⟩
  | .local _ .vmem, ⟨9, _⟩ => ⟨S256x8, .f32⟩
  | .local _ .vmem, ⟨10, _⟩ => ⟨S256x8, .f32⟩
  | .local _ .vmem, ⟨11, _⟩ => ⟨S8x256x1, .f32⟩
  | .local _ .vmem, ⟨12, _⟩ => ⟨S8x256x64, .f32⟩
  | .local _ .vmem, ⟨13, _⟩ => ⟨S8x256x64, .bf16⟩
  | .local _ .vmem, ⟨14, _⟩ => ⟨S8x256x64, .bf16⟩
  | .local _ .vmem, ⟨15, _⟩ => ⟨S8x256x64, .bf16⟩
  | .local _ .vmem, ⟨16, _⟩ => ⟨S8x256x64, .bf16⟩
  | .local _ .vmem, ⟨17, _⟩ => ⟨S8x256x64, .bf16⟩
  | .local _ .vmem, ⟨18, _⟩ => ⟨S8x256x64, .bf16⟩
  | .local _ .vmem, ⟨19, _⟩ => ⟨S256x256, .bf16⟩
  | .local _ .vmem, ⟨20, _⟩ => ⟨S256x512, .f32⟩
  | .local _ .vmem, ⟨21, _⟩ => ⟨S256x512, .f32⟩
  | .local _ .vmem, ⟨22, _⟩ => ⟨S256x8, .f32⟩
  | .local _ .vmem, ⟨23, _⟩ => ⟨S256x8, .f32⟩
  | .local _ .vmem, ⟨24, _⟩ => ⟨S256x512, .f32⟩
  | .local _ .vmem, ⟨25, _⟩ => ⟨S256x512, .f32⟩
  | .local _ .vmem, ⟨26, _⟩ => ⟨S256x8, .f32⟩
  | .local _ .vmem, ⟨27, _⟩ => ⟨S256x8, .f32⟩
  | .local _ .vmem, ⟨28, _⟩ => ⟨S8x256x1, .f32⟩
  | .local _ .vmem, ⟨29, _⟩ => ⟨S8x256x64, .f32⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | .local _ .smem, ⟨4, _⟩ => ⟨S1, .i32⟩
  | .local _ .smem, ⟨5, _⟩ => ⟨S1953, .i32⟩
  | .local _ .smem, ⟨6, _⟩ => ⟨S1953, .i32⟩
  | .local _ .smem, ⟨7, _⟩ => ⟨S1953, .i32⟩
  | .local _ .smem, ⟨8, _⟩ => ⟨S1953, .i32⟩
  | .local _ .smem, ⟨9, _⟩ => ⟨S1, .i32⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨4, _⟩ => true
  | .smem, ⟨9, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9_0 : Ref sig .tc := ⟨.hbm, 13, rfl⟩
abbrev main_v9_1 : Ref sig .tc := ⟨.hbm, 14, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev main_c_3 : Ref sig .tc := ⟨.smem, 5, rfl⟩
abbrev main_c_4 : Ref sig .tc := ⟨.smem, 6, rfl⟩
abbrev main_c_5 : Ref sig .tc := ⟨.smem, 7, rfl⟩
abbrev main_c_6 : Ref sig .tc := ⟨.smem, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc1_scratch1 : Ref sig .tc := ⟨.vmem, 29, rfl⟩
abbrev cc0_scratch2 : Ref sig .tc := ⟨.smem, 4, rfl⟩
abbrev cc1_scratch2 : Ref sig .tc := ⟨.smem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![127], ![false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v13 : Index := Scalar.indexCast arg0
  ![v13.toNat]
def k0_cond3 (v14 : BitVec 32) : BitVec 1 :=
  let c1_i32_2 : BitVec 32 := 1#32
  let v15 : BitVec 1 := Scalar.cmpi .eq v14 c1_i32_2
  let v16 : BitVec 32 := Scalar.extui v15
  let c0_i32_3 : BitVec 32 := 0#32
  let v17 : BitVec 1 := Scalar.cmpi .ne v16 c0_i32_3
  v17

def cc0_transform_0 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_1 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1953], ![false]⟩

abbrev pre1 : Pipeline.Prefetch sig := ⟨4, ![main_c_3.idx, main_c_4.idx, main_c_5.idx, main_c_6.idx], fun | 0 => main_c_3.names | 1 => main_c_4.names | 2 => main_c_5.names | 3 => main_c_6.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v13 : Index := Scalar.indexCast arg0
  ![v13.toNat]
def k1_cond3 (v14 : BitVec 32) : BitVec 1 :=
  let c1_i32_2 : BitVec 32 := 1#32
  let v15 : BitVec 1 := Scalar.cmpi .eq v14 c1_i32_2
  let v16 : BitVec 32 := Scalar.extui v15
  let c0_i32_3 : BitVec 32 := 0#32
  let v17 : BitVec 1 := Scalar.cmpi .ne v16 c0_i32_3
  v17

def cc1_transform_0 (k1_off1_inb : ∀ i : grid1.Coords, ∀ a, (k1_off1 i) a + S1.size a ≤ S1953.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S1953) ![v0.toNat] S1.size (k1_off1_inb i)) numel1_S1
  let c0_i32 : BitVec 32 := 0#32
  let c0_i32_0 : BitVec 32 := 0#32
  let c0_i32_1 : BitVec 32 := 0#32
  ![c0_i32.toNat, v1.toNat, c0_i32_0.toNat]

def cc1_transform_1 (k1_off1_inb : ∀ i : grid1.Coords, ∀ a, (k1_off1 i) a + S1.size a ≤ S1953.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S1953) ![v0.toNat] S1.size (k1_off1_inb i)) numel1_S1
  let c0_i32 : BitVec 32 := 0#32
  let c0_i32_0 : BitVec 32 := 0#32
  let c0_i32_1 : BitVec 32 := 0#32
  ![c0_i32.toNat, v1.toNat, c0_i32_0.toNat]

def cc1_transform_2 (k1_off1_inb : ∀ i : grid1.Coords, ∀ a, (k1_off1 i) a + S1.size a ≤ S1953.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S1953) ![v0.toNat] S1.size (k1_off1_inb i)) numel1_S1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (k1_off1_inb : ∀ i : grid1.Coords, ∀ a, (k1_off1 i) a + S1.size a ≤ S1953.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S1953) ![v0.toNat] S1.size (k1_off1_inb i)) numel1_S1
  let c0_i32 : BitVec 32 := 0#32
  let c0_i32_0 : BitVec 32 := 0#32
  ![v1.toNat, c0_i32.toNat]

def cc1_transform_5 (k1_off1_inb : ∀ i : grid1.Coords, ∀ a, (k1_off1 i) a + S1.size a ≤ S1953.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S1953) ![v0.toNat] S1.size (k1_off1_inb i)) numel1_S1
  let c0_i32 : BitVec 32 := 0#32
  let c0_i32_0 : BitVec 32 := 0#32
  ![v1.toNat, c0_i32.toNat]

def cc1_transform_6 (k1_off1_inb : ∀ i : grid1.Coords, ∀ a, (k1_off1 i) a + S1.size a ≤ S1953.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S1953) ![v0.toNat] S1.size (k1_off1_inb i)) numel1_S1
  let c0_i32 : BitVec 32 := 0#32
  let c0_i32_0 : BitVec 32 := 0#32
  ![v1.toNat, c0_i32.toNat]

def cc1_transform_7 (k1_off1_inb : ∀ i : grid1.Coords, ∀ a, (k1_off1 i) a + S1.size a ≤ S1953.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S1953) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S8x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "dead" => some ⊥
  | _ => none
-- ==== ReferenceIdeal.lean ====
abbrev S8x16384x64 : Shape := ⟨3, ![8, 16384, 64]⟩
abbrev S16384 : Shape := ⟨1, ![16384]⟩
abbrev S8x16384x16384 : Shape := ⟨3, ![8, 16384, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S_ : Shape := ⟨0, ![]⟩
abbrev S8x64x16384 : Shape := ⟨3, ![8, 64, 16384]⟩
abbrev S16384x8x64 : Shape := ⟨3, ![16384, 8, 64]⟩
abbrev S16384x512 : Shape := ⟨2, ![16384, 512]⟩

abbrev nBuf : Space → Nat
  | .hbm => 66
  | .vmem => 0
  | .smem => 0
  | _ => 0

abbrev bufTy : (tb : Table) → Fin (tcTables nBuf tb) → BufTy
  | .hbm, ⟨0, _⟩ => ⟨S8x16384x64, .bf16⟩
  | .hbm, ⟨1, _⟩ => ⟨S8x16384x64, .bf16⟩
  | .hbm, ⟨2, _⟩ => ⟨S8x16384x64, .bf16⟩
  | .hbm, ⟨3, _⟩ => ⟨S8x16384x64, .f32⟩
  | .hbm, ⟨4, _⟩ => ⟨S8x16384x64, .f32⟩
  | .hbm, ⟨5, _⟩ => ⟨S8x16384x64, .f32⟩
  | .hbm, ⟨6, _⟩ => ⟨S16384, .i32⟩
  | .hbm, ⟨7, _⟩ => ⟨S8x16384x16384, .f32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x16384x16384, .i1⟩
  | .hbm, ⟨14, _⟩ => ⟨S8x16384x16384, .f32⟩
  | .hbm, ⟨15, _⟩ => ⟨S8x16384x16384, .f32⟩
  | .hbm, ⟨16, _⟩ => ⟨S_, .f32⟩
  | .hbm, ⟨17, _⟩ => ⟨S8x16384x16384, .f32⟩
  | .hbm, ⟨18, _⟩ => ⟨S8x16384x16384, .f32⟩
  | .hbm, ⟨19, _⟩ => ⟨S8x16384x16384, .f32⟩
  | .hbm, ⟨20, _⟩ => ⟨S8x16384x16384, .f32⟩
  | .hbm, ⟨21, _⟩ => ⟨S8x16384x16384, .i1⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S_, .f32⟩
  | .hbm, ⟨33, _⟩ => ⟨S8x16384x16384, .i1⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S_, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S_, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S8x16384x16384, .f32⟩
  | .hbm, ⟨46, _⟩ => ⟨S8x16384x16384, .i1⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S_, .f32⟩
  | .hbm, ⟨59, _⟩ => ⟨S_, .f32⟩
  | .hbm, ⟨60, _⟩ => ⟨S8x16384x16384, .i1⟩
  | .hbm, ⟨61, _⟩ => ⟨S8x16384x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S16384x512, .f32⟩
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v12 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_0 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩

abbrev nD : Nat := 1
abbrev τ : Topo := Topo.v7x

variable {F : FTy → Type} [FloatOps F]
-- ==== Kernel2.lean ====
abbrev S16384x1024 : Shape := ⟨2, ![16384, 1024]⟩
abbrev S1024x5416 : Shape := ⟨2, ![1024, 5416]⟩
abbrev S128 : Shape := ⟨1, ![128]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S1024x88 : Shape := ⟨2, ![1024, 88]⟩
abbrev S1024x5504 : Shape := ⟨2, ![1024, 5504]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S4 : Shape := ⟨1, ![4]⟩
abbrev S1x4 : Shape := ⟨2, ![1, 4]⟩
abbrev S16384x4 : Shape := ⟨2, ![16384, 4]⟩
abbrev S128x1 : Shape := ⟨2, ![128, 1]⟩
abbrev S16384x128 : Shape := ⟨2, ![16384, 128]⟩
abbrev S1x16384x128 : Shape := ⟨3, ![1, 16384, 128]⟩
abbrev S9x16384x128 : Shape := ⟨3, ![9, 16384, 128]⟩
abbrev S8x16384x64 : Shape := ⟨3, ![8, 16384, 64]⟩
abbrev S16384x512 : Shape := ⟨2, ![16384, 512]⟩
abbrev S8x16384x32 : Shape := ⟨3, ![8, 16384, 32]⟩
abbrev S16384x32 : Shape := ⟨2, ![16384, 32]⟩
abbrev S512x1024 : Shape := ⟨2, ![512, 1024]⟩
abbrev S9x512x128 : Shape := ⟨3, ![9, 512, 128]⟩
abbrev S8x512x64 : Shape := ⟨3, ![8, 512, 64]⟩
abbrev S512x512 : Shape := ⟨2, ![512, 512]⟩
abbrev S8x512x32 : Shape := ⟨3, ![8, 512, 32]⟩
abbrev S512x32 : Shape := ⟨2, ![512, 32]⟩
abbrev S512x8 : Shape := ⟨2, ![512, 8]⟩
abbrev S512x128 : Shape := ⟨2, ![512, 128]⟩
abbrev S1x512x128 : Shape := ⟨3, ![1, 512, 128]⟩
abbrev S512x64 : Shape := ⟨2, ![512, 64]⟩
abbrev S1x512x64 : Shape := ⟨3, ![1, 512, 64]⟩
abbrev S512x256 : Shape := ⟨2, ![512, 256]⟩
abbrev S1x512x32 : Shape := ⟨3, ![1, 512, 32]⟩
abbrev S1024x128 : Shape := ⟨2, ![1024, 128]⟩

abbrev nBuf : Space → Nat
  | .hbm => 210
  | .vmem => 37
  | .smem => 0
  | _ => 0

abbrev hbmTy0_0 (i : Nat) : BufTy := match i % 128 with
  | 0 => ⟨S16384x1024, .f32⟩
  | 1 => ⟨S1024x5416, .f32⟩
  | 2 => ⟨S128, .i32⟩
  | 3 => ⟨S128, .i1⟩
  | 4 => ⟨S128, .i1⟩
  | 5 => ⟨S128, .i1⟩
  | 6 => ⟨S128, .i1⟩
  | 7 => ⟨S128, .i1⟩
  | 8 => ⟨S128, .i1⟩
  | 9 => ⟨S128, .i32⟩
  | 10 => ⟨S128, .i1⟩
  | 11 => ⟨S128, .i1⟩
  | 12 => ⟨S128, .i1⟩
  | 13 => ⟨S128, .i1⟩
  | 14 => ⟨S128, .i1⟩
  | 15 => ⟨S128, .i1⟩
  | 16 => ⟨S128, .i32⟩
  | 17 => ⟨S128, .i1⟩
  | 18 => ⟨S128, .i1⟩
  | 19 => ⟨S128, .i1⟩
  | 20 => ⟨S128, .i1⟩
  | 21 => ⟨S128, .i1⟩
  | 22 => ⟨S128, .i1⟩
  | 23 => ⟨S1024x512, .f32⟩
  | 24 => ⟨S1024x512, .f32⟩
  | 25 => ⟨S1024x512, .f32⟩
  | 26 => ⟨S1024x256, .f32⟩
  | 27 => ⟨S1024x32, .f32⟩
  | 28 => ⟨S1024x8, .f32⟩
  | 29 => ⟨S1024x512, .f32⟩
  | 30 => ⟨S1024x512, .f32⟩
  | 31 => ⟨S1024x512, .f32⟩
  | 32 => ⟨S1024x1024, .f32⟩
  | 33 => ⟨S1024x1024, .f32⟩
  | 34 => ⟨S_, .f32⟩
  | 35 => ⟨S1024x88, .f32⟩
  | 36 => ⟨S_, .f32⟩
  | 37 => ⟨S1024x512, .f32⟩
  | 38 => ⟨S1024x512, .f32⟩
  | 39 => ⟨S_, .f32⟩
  | 40 => ⟨S1024x512, .f32⟩
  | 41 => ⟨S1024x512, .f32⟩
  | 42 => ⟨S1024x5504, .f32⟩
  | 43 => ⟨S1024x5504, .bf16⟩
  | 44 => ⟨S16384, .i32⟩
  | 45 => ⟨S16384, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8, .f32⟩
  | 54 => ⟨S_, .f32⟩
  | 55 => ⟨S8, .f32⟩
  | 56 => ⟨S8, .f32⟩
  | 57 => ⟨S16384x1, .f32⟩
  | 58 => ⟨S1x8, .f32⟩
  | 59 => ⟨S16384x8, .f32⟩
  | 60 => ⟨S16384x8, .f32⟩
  | 61 => ⟨S16384x8, .f32⟩
  | 62 => ⟨S16384x8, .f32⟩
  | 63 => ⟨S16384x8, .f32⟩
  | 64 => ⟨S4, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S_, .f32⟩
  | 73 => ⟨S4, .f32⟩
  | 74 => ⟨S4, .f32⟩
  | 75 => ⟨S16384x1, .f32⟩
  | 76 => ⟨S1x4, .f32⟩
  | 77 => ⟨S16384x4, .f32⟩
  | 78 => ⟨S16384x4, .f32⟩
  | 79 => ⟨S16384x4, .f32⟩
  | 80 => ⟨S16384x4, .f32⟩
  | 81 => ⟨S16384x4, .f32⟩
  | 82 => ⟨S_, .i32⟩
  | 83 => ⟨S128, .i32⟩
  | 84 => ⟨S128, .i32⟩
  | 85 => ⟨S128, .i32⟩
  | 86 => ⟨S128x1, .i32⟩
  | 87 => ⟨S16384x128, .f32⟩
  | 88 => ⟨S_, .f32⟩
  | 89 => ⟨S_, .f32⟩
  | 90 => ⟨S16384x128, .i1⟩
  | 91 => ⟨S16384x128, .f32⟩
  | 92 => ⟨S16384x128, .f32⟩
  | 93 => ⟨S_, .i32⟩
  | 94 => ⟨S128, .i32⟩
  | 95 => ⟨S128, .i32⟩
  | 96 => ⟨S128, .i32⟩
  | 97 => ⟨S128x1, .i32⟩
  | 98 => ⟨S16384x128, .f32⟩
  | 99 => ⟨S16384x128, .f32⟩
  | 100 => ⟨S_, .f32⟩
  | 101 => ⟨S_, .f32⟩
  | 102 => ⟨S16384x128, .i1⟩
  | 103 => ⟨S16384x128, .f32⟩
  | 104 => ⟨S16384x128, .f32⟩
  | 105 => ⟨S_, .i32⟩
  | 106 => ⟨S128, .i32⟩
  | 107 => ⟨S128, .i32⟩
  | 108 => ⟨S128, .i32⟩
  | 109 => ⟨S128x1, .i32⟩
  | 110 => ⟨S16384x128, .f32⟩
  | 111 => ⟨S_, .f32⟩
  | 112 => ⟨S_, .f32⟩
  | 113 => ⟨S16384x128, .i1⟩
  | 114 => ⟨S16384x128, .f32⟩
  | 115 => ⟨S16384x128, .f32⟩
  | 116 => ⟨S_, .i32⟩
  | 117 => ⟨S128, .i32⟩
  | 118 => ⟨S128, .i32⟩
  | 119 => ⟨S128, .i32⟩
  | 120 => ⟨S128x1, .i32⟩
  | 121 => ⟨S16384x128, .f32⟩
  | 122 => ⟨S_, .f32⟩
  | 123 => ⟨S_, .f32⟩
  | 124 => ⟨S16384x128, .i1⟩
  | 125 => ⟨S16384x128, .f32⟩
  | 126 => ⟨S16384x128, .f32⟩
  | 127 => ⟨S_, .i32⟩
  | _ => ⟨S16384x1024, .f32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S16384x128, .f32⟩
  | 5 => ⟨S16384x128, .f32⟩
  | 6 => ⟨S_, .f32⟩
  | 7 => ⟨S_, .f32⟩
  | 8 => ⟨S16384x128, .i1⟩
  | 9 => ⟨S16384x128, .f32⟩
  | 10 => ⟨S16384x128, .f32⟩
  | 11 => ⟨S_, .i32⟩
  | 12 => ⟨S128, .i32⟩
  | 13 => ⟨S128, .i32⟩
  | 14 => ⟨S128, .i32⟩
  | 15 => ⟨S128x1, .i32⟩
  | 16 => ⟨S16384x128, .f32⟩
  | 17 => ⟨S_, .f32⟩
  | 18 => ⟨S_, .f32⟩
  | 19 => ⟨S16384x128, .i1⟩
  | 20 => ⟨S16384x128, .f32⟩
  | 21 => ⟨S16384x128, .f32⟩
  | 22 => ⟨S_, .i32⟩
  | 23 => ⟨S128, .i32⟩
  | 24 => ⟨S128, .i32⟩
  | 25 => ⟨S128, .i32⟩
  | 26 => ⟨S128x1, .i32⟩
  | 27 => ⟨S16384x128, .f32⟩
  | 28 => ⟨S_, .f32⟩
  | 29 => ⟨S_, .f32⟩
  | 30 => ⟨S16384x128, .i1⟩
  | 31 => ⟨S16384x128, .f32⟩
  | 32 => ⟨S16384x128, .f32⟩
  | 33 => ⟨S_, .i32⟩
  | 34 => ⟨S128, .i32⟩
  | 35 => ⟨S128, .i32⟩
  | 36 => ⟨S128, .i32⟩
  | 37 => ⟨S128x1, .i32⟩
  | 38 => ⟨S16384x128, .f32⟩
  | 39 => ⟨S16384x128, .f32⟩
  | 40 => ⟨S_, .f32⟩
  | 41 => ⟨S_, .f32⟩
  | 42 => ⟨S16384x128, .i1⟩
  | 43 => ⟨S16384x128, .f32⟩
  | 44 => ⟨S16384x128, .f32⟩
  | 45 => ⟨S_, .i32⟩
  | 46 => ⟨S128, .i32⟩
  | 47 => ⟨S128, .i32⟩
  | 48 => ⟨S128, .i32⟩
  | 49 => ⟨S128x1, .i32⟩
  | 50 => ⟨S16384x128, .f32⟩
  | 51 => ⟨S_, .f32⟩
  | 52 => ⟨S_, .f32⟩
  | 53 => ⟨S16384x128, .i1⟩
  | 54 => ⟨S16384x128, .f32⟩
  | 55 => ⟨S16384x128, .f32⟩
  | 56 => ⟨S1x16384x128, .f32⟩
  | 57 => ⟨S1x16384x128, .f32⟩
  | 58 => ⟨S1x16384x128, .f32⟩
  | 59 => ⟨S1x16384x128, .f32⟩
  | 60 => ⟨S1x16384x128, .f32⟩
  | 61 => ⟨S1x16384x128, .f32⟩
  | 62 => ⟨S1x16384x128, .f32⟩
  | 63 => ⟨S1x16384x128, .f32⟩
  | 64 => ⟨S1x16384x128, .f32⟩
  | 65 => ⟨S9x16384x128, .f32⟩
  | 66 => ⟨S8x16384x64, .bf16⟩
  | 67 => ⟨S16384x512, .f32⟩
  | 68 => ⟨S8x16384x64, .bf16⟩
  | 69 => ⟨S16384x512, .f32⟩
  | 70 => ⟨S8x16384x64, .bf16⟩
  | 71 => ⟨S8x16384x32, .bf16⟩
  | 72 => ⟨S16384x32, .f32⟩
  | 73 => ⟨S16384x32, .bf16⟩
  | 74 => ⟨S16384x8, .f32⟩
  | 75 => ⟨S8x16384x64, .bf16⟩
  | 76 => ⟨S16384x512, .f32⟩
  | 77 => ⟨S8x16384x64, .bf16⟩
  | 78 => ⟨S16384x512, .f32⟩
  | 79 => ⟨S8x16384x64, .bf16⟩
  | 80 => ⟨S16384x1024, .bf16⟩
  | 81 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x5504, .bf16⟩
  | .local _ .vmem, ⟨3, _⟩ => ⟨S9x512x128, .f32⟩
  | .local _ .vmem, ⟨4, _⟩ => ⟨S9x512x128, .f32⟩
  | .local _ .vmem, ⟨5, _⟩ => ⟨S8x512x64, .bf16⟩
  | .local _ .vmem, ⟨6, _⟩ => ⟨S8x512x64, .bf16⟩
  | .local _ .vmem, ⟨7, _⟩ => ⟨S512x512, .f32⟩
  | .local _ .vmem, ⟨8, _⟩ => ⟨S512x512, .f32⟩
  | .local _ .vmem, ⟨9, _⟩ => ⟨S8x512x64, .bf16⟩
  | .local _ .vmem, ⟨10, _⟩ => ⟨S8x512x64, .bf16⟩
  | .local _ .vmem, ⟨11, _⟩ => ⟨S512x512, .f32⟩
  | .local _ .vmem, ⟨12, _⟩ => ⟨S512x512, .f32⟩
  | .local _ .vmem, ⟨13, _⟩ => ⟨S8x512x64, .bf16⟩
  | .local _ .vmem, ⟨14, _⟩ => ⟨S8x512x64, .bf16⟩
  | .local _ .vmem, ⟨15, _⟩ => ⟨S8x512x32, .bf16⟩
  | .local _ .vmem, ⟨16, _⟩ => ⟨S8x512x32, .bf16⟩
  | .local _ .vmem, ⟨17, _⟩ => ⟨S512x32, .f32⟩
  | .local _ .vmem, ⟨18, _⟩ => ⟨S512x32, .f32⟩
  | .local _ .vmem, ⟨19, _⟩ => ⟨S512x32, .bf16⟩
  | .local _ .vmem, ⟨20, _⟩ => ⟨S512x32, .bf16⟩
  | .local _ .vmem, ⟨21, _⟩ => ⟨S512x8, .f32⟩
  | .local _ .vmem, ⟨22, _⟩ => ⟨S512x8, .f32⟩
  | .local _ .vmem, ⟨23, _⟩ => ⟨S8x512x64, .bf16⟩
  | .local _ .vmem, ⟨24, _⟩ => ⟨S8x512x64, .bf16⟩
  | .local _ .vmem, ⟨25, _⟩ => ⟨S512x512, .f32⟩
  | .local _ .vmem, ⟨26, _⟩ => ⟨S512x512, .f32⟩
  | .local _ .vmem, ⟨27, _⟩ => ⟨S8x512x64, .bf16⟩
  | .local _ .vmem, ⟨28, _⟩ => ⟨S8x512x64, .bf16⟩
  | .local _ .vmem, ⟨29, _⟩ => ⟨S512x512, .f32⟩
  | .local _ .vmem, ⟨30, _⟩ => ⟨S512x512, .f32⟩
  | .local _ .vmem, ⟨31, _⟩ => ⟨S8x512x64, .bf16⟩
  | .local _ .vmem, ⟨32, _⟩ => ⟨S8x512x64, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_c_10 : Ref sig .tc := ⟨.hbm, 13, rfl⟩
abbrev main_c_11 : Ref sig .tc := ⟨.hbm, 14, rfl⟩
abbrev main_c_12 : Ref sig .tc := ⟨.hbm, 15, rfl⟩
abbrev main_c_13 : Ref sig .tc := ⟨.hbm, 16, rfl⟩
abbrev main_c_14 : Ref sig .tc := ⟨.hbm, 17, rfl⟩
abbrev main_c_15 : Ref sig .tc := ⟨.hbm, 18, rfl⟩
abbrev main_c_16 : Ref sig .tc := ⟨.hbm, 19, rfl⟩
abbrev main_c_17 : Ref sig .tc := ⟨.hbm, 20, rfl⟩
abbrev main_c_18 : Ref sig .tc := ⟨.hbm, 21, rfl⟩
abbrev main_c_19 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_cst_20 : Ref sig .tc := ⟨.hbm, 36, rfl⟩
abbrev main_v12 : Ref sig .tc := ⟨.hbm, 37, rfl⟩
abbrev main_v13 : Ref sig .tc := ⟨.hbm, 38, rfl⟩
abbrev main_cst_21 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_22 : Ref sig .tc := ⟨.hbm, 47, rfl⟩
abbrev main_v21 : Ref sig .tc := ⟨.hbm, 48, rfl⟩
abbrev main_v22 : Ref sig .tc := ⟨.hbm, 49, rfl⟩
abbrev main_cst_23 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_24 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_25 : Ref sig .tc := ⟨.hbm, 65, rfl⟩
abbrev main_v36 : Ref sig .tc := ⟨.hbm, 66, rfl⟩
abbrev main_v37 : Ref sig .tc := ⟨.hbm, 67, rfl⟩
abbrev main_cst_26 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_27 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_28 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_29 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v55 : Ref sig .tc := ⟨.hbm, 92, rfl⟩
abbrev main_c_30 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_31 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v62 : Ref sig .tc := ⟨.hbm, 104, rfl⟩
abbrev main_c_32 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_33 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v68 : Ref sig .tc := ⟨.hbm, 115, rfl⟩
abbrev main_c_34 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_35 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v74 : Ref sig .tc := ⟨.hbm, 126, rfl⟩
abbrev main_c_36 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_37 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v81 : Ref sig .tc := ⟨.hbm, 138, rfl⟩
abbrev main_c_38 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_39 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v87 : Ref sig .tc := ⟨.hbm, 149, rfl⟩
abbrev main_c_40 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_41 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v93 : Ref sig .tc := ⟨.hbm, 160, rfl⟩
abbrev main_c_42 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_43 : Ref sig .tc := ⟨.hbm, 168, rfl⟩
abbrev main_call7_v0 : Ref sig .tc := ⟨.hbm, 169, rfl⟩
abbrev main_call7_v1 : Ref sig .tc := ⟨.hbm, 170, rfl⟩
abbrev main_call7_v2 : Ref sig .tc := ⟨.hbm, 171, rfl⟩
abbrev main_v100 : Ref sig .tc := ⟨.hbm, 172, rfl⟩
abbrev main_c_44 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_cst_45 : Ref sig .tc := ⟨.hbm, 179, rfl⟩
abbrev main_call8_v0 : Ref sig .tc := ⟨.hbm, 180, rfl⟩
abbrev main_call8_v1 : Ref sig .tc := ⟨.hbm, 181, rfl⟩
abbrev main_call8_v2 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117_0 : Ref sig .tc := ⟨.hbm, 194, rfl⟩
abbrev main_v117_1 : Ref sig .tc := ⟨.hbm, 195, rfl⟩
abbrev main_v117_2 : Ref sig .tc := ⟨.hbm, 196, rfl⟩
abbrev main_v117_3 : Ref sig .tc := ⟨.hbm, 197, rfl⟩
abbrev main_v117_4 : Ref sig .tc := ⟨.hbm, 198, rfl⟩
abbrev main_v117_5 : Ref sig .tc := ⟨.hbm, 199, rfl⟩
abbrev main_v117_6 : Ref sig .tc := ⟨.hbm, 200, rfl⟩
abbrev main_v117_7 : Ref sig .tc := ⟨.hbm, 201, rfl⟩
abbrev main_v117_8 : Ref sig .tc := ⟨.hbm, 202, rfl⟩
abbrev main_v117_9 : Ref sig .tc := ⟨.hbm, 203, rfl⟩
abbrev main_v117_10 : Ref sig .tc := ⟨.hbm, 204, rfl⟩
abbrev main_v117_11 : Ref sig .tc := ⟨.hbm, 205, rfl⟩
abbrev main_v117_12 : Ref sig .tc := ⟨.hbm, 206, rfl⟩
abbrev main_v117_13 : Ref sig .tc := ⟨.hbm, 207, rfl⟩
abbrev main_v117_14 : Ref sig .tc := ⟨.hbm, 208, rfl⟩
abbrev main_v117_15 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5504 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x32 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S16384x1024 : Shape := ⟨2, ![16384, 1024]⟩
abbrev S1024x5416 : Shape := ⟨2, ![1024, 5416]⟩
abbrev S16384 : Shape := ⟨1, ![16384]⟩
abbrev S16384x5416 : Shape := ⟨2, ![16384, 5416]⟩
abbrev S16384x512 : Shape := ⟨2, ![16384, 512]⟩
abbrev S16384x256 : Shape := ⟨2, ![16384, 256]⟩
abbrev S16384x32 : Shape := ⟨2, ![16384, 32]⟩
abbrev S16384x8 : Shape := ⟨2, ![16384, 8]⟩
abbrev S16384x8x64 : Shape := ⟨3, ![16384, 8, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x1x8 : Shape := ⟨3, ![16384, 1, 8]⟩
abbrev S16384x8x8 : Shape := ⟨3, ![16384, 8, 8]⟩
abbrev S16384x8x48 : Shape := ⟨3, ![16384, 8, 48]⟩
abbrev S16384x1x32 : Shape := ⟨3, ![16384, 1, 32]⟩
abbrev S4 : Shape := ⟨1, ![4]⟩
abbrev S1x4 : Shape := ⟨2, ![1, 4]⟩
abbrev S16384x4 : Shape := ⟨2, ![16384, 4]⟩
abbrev S16384x1x4 : Shape := ⟨3, ![16384, 1, 4]⟩
abbrev S16384x1x24 : Shape := ⟨3, ![16384, 1, 24]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5416, .f32⟩
  | .hbm, ⟨2, _⟩ => ⟨S16384, .i32⟩
  | .hbm, ⟨3, _⟩ => ⟨S16384x5416, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x256, .f32⟩
  | .hbm, ⟨8, _⟩ => ⟨S16384x32, .f32⟩
  | .hbm, ⟨9, _⟩ => ⟨S16384x8, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x8x64, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S16384, .f32⟩
  | .hbm, ⟨28, _⟩ => ⟨S16384x1, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x1x8, .f32⟩
  | .hbm, ⟨35, _⟩ => ⟨S16384x8, .f32⟩
  | .hbm, ⟨36, _⟩ => ⟨S16384x1x8, .f32⟩
  | .hbm, ⟨37, _⟩ => ⟨S16384x8x8, .f32⟩
  | .hbm, ⟨38, _⟩ => ⟨S16384x8x8, .f32⟩
  | .hbm, ⟨39, _⟩ => ⟨S16384x8x8, .f32⟩
  | .hbm, ⟨40, _⟩ => ⟨S16384x8x8, .f32⟩
  | .hbm, ⟨41, _⟩ => ⟨S16384x8x8, .f32⟩
  | .hbm, ⟨42, _⟩ => ⟨S16384x8x8, .f32⟩
  | .hbm, ⟨43, _⟩ => ⟨S16384x8x8, .f32⟩
  | .hbm, ⟨44, _⟩ => ⟨S16384x8x8, .f32⟩
  | .hbm, ⟨45, _⟩ => ⟨S16384x8x8, .f32⟩
  | .hbm, ⟨46, _⟩ => ⟨S16384x8x8, .f32⟩
  | .hbm, ⟨47, _⟩ => ⟨S16384x8x8, .f32⟩
  | .hbm, ⟨48, _⟩ => ⟨S16384x8x8, .f32⟩
  | .hbm, ⟨49, _⟩ => ⟨S16384x8x48, .f32⟩
  | .hbm, ⟨50, _⟩ => ⟨S16384x8x64, .f32⟩
  | .hbm, ⟨51, _⟩ => ⟨S16384x512, .f32⟩
  | .hbm, ⟨52, _⟩ => ⟨S16384x1x32, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S16384, .f32⟩
  | .hbm, ⟨65, _⟩ => ⟨S16384x1, .f32⟩
  | .hbm, ⟨66, _⟩ => ⟨S1x4, .f32⟩
  | .hbm, ⟨67, _⟩ => ⟨S16384x4, .f32⟩
  | .hbm, ⟨68, _⟩ => ⟨S16384x4, .f32⟩
  | .hbm, ⟨69, _⟩ => ⟨S16384x4, .f32⟩
  | .hbm, ⟨70, _⟩ => ⟨S16384x4, .f32⟩
  | .hbm, ⟨71, _⟩ => ⟨S16384x1x4, .f32⟩
  | .hbm, ⟨72, _⟩ => ⟨S16384x4, .f32⟩
  | .hbm, ⟨73, _⟩ => ⟨S16384x1x4, .f32⟩
  | .hbm, ⟨74, _⟩ => ⟨S16384x1x4, .f32⟩
  | .hbm, ⟨75, _⟩ => ⟨S16384x1x4, .f32⟩
  | .hbm, ⟨76, _⟩ => ⟨S16384x1x4, .f32⟩
  | .hbm, ⟨77, _⟩ => ⟨S16384x1x4, .f32⟩
  | .hbm, ⟨78, _⟩ => ⟨S16384x1x4, .f32⟩
  | .hbm, ⟨79, _⟩ => ⟨S16384x1x4, .f32⟩
  | .hbm, ⟨80, _⟩ => ⟨S16384x1x4, .f32⟩
  | .hbm, ⟨81, _⟩ => ⟨S16384x1x4, .f32⟩
  | .hbm, ⟨82, _⟩ => ⟨S16384x1x24, .f32⟩
  | .hbm, ⟨83, _⟩ => ⟨S16384x1x32, .f32⟩
  | .hbm, ⟨84, _⟩ => ⟨S16384x32, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩

abbrev nD : Nat := 1
abbrev τ : Topo := Topo.v7x

variable {F : FTy → Type} [FloatOps F]
-- ==== Proof.Head.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.Kit
public import Idealize.ShloMosaic.Lib.ValueIdxCore
public import Idealize.ShloMosaic.Lib.VecWindow

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-! One head's arithmetic on one 256 × 256 tile, and the state the points of a row hand on. -/

/-- Which places of the tile are strictly before the row's own position. -/
def hMask (qi kj : BitVec 32) : IVec S256x256 1 :=
  cmpi .slt (addi (broadcast S256x256 (Scalar.muli kj 256#32)) (iota .tc S256x256 32 [1] iota_S256x256_d1_w32))
    (addi (broadcast S256x256 (Scalar.muli qi 256#32)) (iota .tc S256x256 32 [0] iota_S256x256_d0_w32))
/-- The scores of a tile. -/
def hZ (q k : FVec F S1x256x64 .bf16) : FVec F S256x256 .f32 :=
  matmul dot_S256x64_S256x64_S256x256_1_1_0_0_n_n none (shapeCast S256x64 q shapeCasts_S1x256x64_S256x64)
    (shapeCast S256x64 k shapeCasts_S1x256x64_S256x64) (constant S256x256 .f32 0x00000000#32)
/-- Zero over a tile. -/
def hO : FVec F S256x256 .f32 := broadcast S256x256 (Scalar.ofBits .f32 0x00000000#32)
/-- The logarithm of the sigmoid of minus the score. -/
def hLsm (z : FVec F S256x256 .f32) : FVec F S256x256 .f32 :=
  subf hO (addf (maximumf z hO) (log1p (exp (subf hO (absf z)))))
/-- The same with zero at the places that do not count. -/
def hLg (m : IVec S256x256 1) (z : FVec F S256x256 .f32) : FVec F S256x256 .f32 := select m (hLsm z) hO
/-- The sum of the later places of the tile, the entries split in a high and a low half. -/
def hLater (T : FVec F S256x256 .bf16) (lg : FVec F S256x256 .f32) : FVec F S256x256 .f32 :=
  addf (matmul dot_S256x256_S256x256_S256x256_1_0_0_1_n_n none (truncf .bf16 lg bitsLt_bf16_f32) T (constant S256x256 .f32 0x00000000#32))
    (matmul dot_S256x256_S256x256_S256x256_1_0_0_1_n_n none
      (truncf .bf16 (subf lg (extf .f32 (truncf .bf16 lg bitsLt_bf16_f32) bitsLt_bf16_f32)) bitsLt_bf16_f32) T (constant S256x256 .f32 0x00000000#32))
/-- The carry a head hands on, as a column. -/
def hN (m : IVec S256x256 1) (T : FVec F S256x256 .bf16) (q k : FVec F S1x256x64 .bf16) (c : FVec F S1x256x1 .f32) : FVec F S256x1 .f32 :=
  addf (addf (shapeCast S256x1 c shapeCasts_S1x256x1_S256x1)
      (extractStridedSlice S256x1 ![0, 0] (hLater T (hLg m (hZ q k))) slices_S256x256_o0_0_S256x1))
    (extractStridedSlice S256x1 ![0, 0] (hLg m (hZ q k)) slices_S256x256_o0_0_S256x1)
/-- The carry a head hands on. -/
def hC (m : IVec S256x256 1) (T : FVec F S256x256 .bf16) (q k : FVec F S1x256x64 .bf16) (c : FVec F S1x256x1 .f32) : FVec F S1x256x1 .f32 :=
  shapeCast S1x256x1 (hN m T q k c) shapeCasts_S256x1_S1x256x1
/-- The weights of a tile. -/
def hW (m : IVec S256x256 1) (T : FVec F S256x256 .bf16) (q k : FVec F S1x256x64 .bf16) (c : FVec F S1x256x1 .f32) : FVec F S256x256 .f32 :=
  select m (exp (addf (addf (addf (hLsm (hZ q k)) (hZ q k)) (hLater T (hLg m (hZ q k))))
    (broadcastTo S256x256 (shapeCast S256x1 c shapeCasts_S1x256x1_S256x1) broadcasts_S256x1_S256x256))) hO
/-- The accumulator a head hands on. -/
def hA (m : IVec S256x256 1) (T : FVec F S256x256 .bf16) (q k v : FVec F S1x256x64 .bf16) (c : FVec F S1x256x1 .f32) (a : FVec F S1x256x64 .f32) :
    FVec F S1x256x64 .f32 :=
  shapeCast S1x256x64 (addf (shapeCast S256x64 a shapeCasts_S1x256x64_S256x64)
    (matmul dot_S256x256_S256x64_S256x64_1_0_0_1_n_n none (truncf .bf16 (hW m T q k c) bitsLt_bf16_f32)
      (shapeCast S256x64 v shapeCasts_S1x256x64_S256x64) (constant S256x64 .f32 0x00000000#32))) shapeCasts_S256x64_S1x256x64
/-- The flag: whether the largest of eight columns lies below the threshold. -/
def hD (n : Fin 8 → FVec F S256x1 .f32) : BitVec 32 :=
  Scalar.extui (Scalar.cmpf .olt
    (extractAt ![0, 0, 0] (shapeCast S1x1x1 (multiReduction .maximumf [1, 2] S1 (shapeCast S1x256x1
      (maximumf (maximumf (maximumf (maximumf (maximumf (maximumf (maximumf (n 0) (n 1)) (n 2)) (n 3)) (n 4)) (n 5)) (n 6)) (n 7))
      shapeCasts_S256x1_S1x256x1) 0xFF800000#32 reduces_S1x256x1_S1 (.inl rfl) rfl) shapeCasts_S1_S1x1x1) inpos_S1x1x1_p0_0_0)
    (Named.named κ "dead" 0xC2D00000#32))

/-- A cast to the shape it has changes nothing. -/
theorem castSelf {s : Shape} {α : Type} (v : s.Idx → α) (h : s.ShapeCasts s) : shapeCast s v h = v :=
  funext fun i => congrArg v (Shape.reshapeEquiv_self _ i)

/-- What a row's points hand on: the carry, the accumulator, the flag. -/
@[ext] structure St (F : FTy → Type) where
  C : S8x256x1.Idx → F .f32
  A : S8x256x64.Idx → F .f32
  D : S1.Idx → BitVec 32

/-- Head `h` of an array of eight. -/
abbrev hd {n : ℕ} {α : Type} (h : Fin 8) (X : (⟨3, ![8, 256, n]⟩ : Shape).Idx → α) : (⟨3, ![1, 256, n]⟩ : Shape).Idx → α :=
  fun y => X (ix3 h (y 1) (y 2))
/-- Eight heads put together. -/
abbrev unhd {n : ℕ} {α : Type} (w : Fin 8 → (⟨3, ![1, 256, n]⟩ : Shape).Idx → α) : (⟨3, ![8, 256, n]⟩ : Shape).Idx → α :=
  fun y => w (y 0) (ix3 0 (y 1) (y 2))

/-- The state at the start of a row of the near region. -/
def nearInit : St F := ⟨k0_pay1, k0_pay2, fun _ => 0#32⟩
/-- Column `h` of a carry block, as the eight carries' state holds it. -/
def carryOf (X : S256x8.Idx → F .f32) : S8x256x1.Idx → F .f32 := fun y => X (ix2 (y 1) (y 0))
/-- Head `h` of an accumulator block, as the state holds it. -/
def accOf (X : S256x512.Idx → F .f32) : S8x256x64.Idx → F .f32 :=
  fun y => X (ix2 (y 1) ⟨64 * (y 0).val + (y 2).val, by have h0 : (y 0).val < 8 := (y 0).isLt; have h2 : (y 2).val < 64 := (y 2).isLt; show _ < 512; omega⟩)
/-- The carry block a state is written out as. -/
def carryBlk (C : S8x256x1.Idx → F .f32) : S256x8.Idx → F .f32 := fun y => C (ix3 (y 1) (y 0) 0)
/-- The accumulator block a state is written out as. -/
def accBlk (A : S8x256x64.Idx → F .f32) : S256x512.Idx → F .f32 :=
  fun y => A (ix3 (⟨(y 1).val / 64, by have h : (y 1).val < 512 := (y 1).isLt; omega⟩ : Fin 8) (y 0) (⟨(y 1).val % 64, by omega⟩ : Fin 64))
/-- The state at the start of a row of the far region, from the blocks the near region wrote. -/
def farInit (X9 : S256x512.Idx → F .f32) (X10 : S256x8.Idx → F .f32) : St F :=
  ⟨carryOf X10, accOf X9, fun _ => hD fun h => fun y => X10 (ix2 (y 0) h)⟩
/-- One tile's step on a state. -/
def comp (qi kj : BitVec 32) (X5 X6 X7 : S8x256x64.Idx → F .bf16) (X8 : S256x256.Idx → F .bf16) (s : St F) : St F :=
  if s.D (ValueIdx.ix1 0) = 0#32 then
    ⟨unhd fun h => hC (hMask qi kj) X8 (hd h X5) (hd h X6) (hd h s.C),
     unhd fun h => hA (hMask qi kj) X8 (hd h X5) (hd h X6) (hd h X7) (hd h s.C) (hd h s.A),
     fun _ => hD fun h => hN (hMask qi kj) X8 (hd h X5) (hd h X6) (hd h s.C)⟩
  else s
/-- One point: the row's start where its first word is one, then the tile. -/
def stepAt (init : St F) (qi kj fi : BitVec 32) (X5 X6 X7 : S8x256x64.Idx → F .bf16) (X8 : S256x256.Idx → F .bf16) (s : St F) : St F :=
  comp qi kj X5 X6 X7 X8 (if fi = 1#32 then init else s)

end Cert.KernelIdeal.Stick

end
-- ==== Proof.Eight.lean ====
module

public import proofs.«01_k».proof.Proof.Head
public import Idealize.ShloMosaic.Lib.Tactic
public import Idealize.ShloMosaic.Lib.Pipeline.Kit
public import Idealize.ShloMosaic.Lib.ValueIdxCore
public import Idealize.ShloMosaic.Lib.VecWindow

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-! Reading and writing an array of eight heads head by head. -/

/-- The box of head `k`. -/
theorem inb8 (n : ℕ) (k : Fin 8) : ∀ a, (![k.val, 0, 0] : Fin 3 → ℕ) a + (![1, 256, n] : Fin 3 → ℕ) a ≤ (⟨3, ![8, 256, n]⟩ : Shape).size a := by
  intro a
  match a with
  | ⟨0, _⟩ => show k.val + 1 ≤ 8; omega
  | ⟨1, _⟩ => show 0 + 256 ≤ 256; omega
  | ⟨2, _⟩ => show 0 + n ≤ n; omega

theorem emb8 {n : ℕ} (k : Fin 8) (x : (⟨3, ![1, 256, n]⟩ : Shape).Idx) :
    (Rect.unit (s := ⟨3, ![8, 256, n]⟩) ![k.val, 0, 0] ![1, 256, n] (inb8 n k)).emb x = ix3 k (x 1) (x 2) := by
  have h0 : (x 0).val < 1 := (x 0).isLt
  funext a
  match a with
  | ⟨0, _⟩ => exact Fin.ext (show k.val + 1 * (x 0).val = k.val by omega)
  | ⟨1, _⟩ => exact Fin.ext (show 0 + 1 * (x 1).val = (x 1).val by omega)
  | ⟨2, _⟩ => exact Fin.ext (show 0 + 1 * (x 2).val = (x 2).val by omega)

theorem ix8_eta {n : ℕ} (x : (⟨3, ![1, 256, n]⟩ : Shape).Idx) : ix3 (0 : Fin 1) (x 1) (x 2) = x := by
  have h0 : (x 0).val < 1 := (x 0).isLt
  funext a
  match a with
  | ⟨0, _⟩ => exact Fin.ext (show 0 = (x 0).val by omega)
  | ⟨1, _⟩ => rfl
  | ⟨2, _⟩ => rfl

/-- The eight heads, the last first: the order in which the stores stand. -/
abbrev heads : List (Fin 8) := [7, 6, 5, 4, 3, 2, 1, 0]

theorem mem_heads (k : Fin 8) : k ∈ heads := by revert k; decide

/-- Eight stores that agree with one array and cover it leave that array. -/
theorem writesFam {κ : Kind} {sp : Space} {s : Shape} {e : EltTy} {Val : EltTy → Type} (v : View sig κ sp s e) (f : v.ty.Contents Val)
    (R : Fin 8 → Rect s) (w : (k : Fin 8) → (R k).shape.Idx → Val e) (G : s.Idx → Val e)
    (hp : ∀ k x, w k x = G ((R k).emb x)) (hc : ∀ y, ∃ k x, (R k).emb x = y) :
    v.read Val (v.writes Val f (heads.map fun k => (⟨R k, w k⟩ : View.Piece Val s e))) = G := by
  funext y
  refine View.read_writes_apply_of_pieces v f G _ ?_ y ?_
  · intro p hp'
    obtain ⟨k, -, rfl⟩ := List.mem_map.mp hp'
    exact hp k
  · obtain ⟨k, x, hx⟩ := hc y
    refine ⟨_, List.mem_map.mpr ⟨k, mem_heads k, rfl⟩, ?_⟩
    show y ∈ (R k).set
    rw [← (R k).map_emb_univ, Finset.mem_map]
    exact ⟨x, Finset.mem_univ _, hx⟩

/-- Eight stores, one per head, leave the eight heads put together. -/
theorem writes8 {κ : Kind} {sp : Space} {e : EltTy} {Val : EltTy → Type} {n : ℕ} (v : View sig κ sp ⟨3, ![8, 256, n]⟩ e) (f : v.ty.Contents Val)
    (w : Fin 8 → (⟨3, ![1, 256, n]⟩ : Shape).Idx → Val e) :
    v.read Val (v.writes Val f (heads.map fun k => (⟨Rect.unit ![k.val, 0, 0] ![1, 256, n] (inb8 n k), w k⟩ : View.Piece Val ⟨3, ![8, 256, n]⟩ e)))
      = unhd w := by
  refine writesFam v f (fun k => Rect.unit ![k.val, 0, 0] ![1, 256, n] (inb8 n k)) w (unhd w) ?_ ?_
  · intro k x
    have h := emb8 k x
    exact (congrArg (w k) (ix8_eta x).symm).trans (congrArg (unhd w) h.symm)
  · intro y
    exact ⟨y 0, ix3 0 (y 1) (y 2), (emb8 (y 0) (ix3 0 (y 1) (y 2))).trans (eq_ix3 y).symm⟩

/-- Loading head `k` of a buffer reads head `k` of what it holds. -/
theorem readAt8 {κ : Kind} {sp : Space} {e : EltTy} {Val : EltTy → Type} {n : ℕ} (v : View sig κ sp ⟨3, ![8, 256, n]⟩ e) (f : v.ty.Contents Val) (k : Fin 8) :
    v.readAt Val (Rect.unit ![k.val, 0, 0] ![1, 256, n] (inb8 n k)).toLoadRect f = hd k (v.read Val f) :=
  funext fun x => congrArg (v.read Val f) (emb8 k x)

/-- The box of column `k` of a carry block. -/
theorem inbP (k : Fin 8) : ∀ a, (![0, k.val] : Fin 2 → ℕ) a + (![256, 1] : Fin 2 → ℕ) a ≤ (⟨2, ![256, 8]⟩ : Shape).size a := by
  intro a
  match a with
  | ⟨0, _⟩ => show 0 + 256 ≤ 256; omega
  | ⟨1, _⟩ => show k.val + 1 ≤ 8; omega

theorem embP (k : Fin 8) (x : (⟨2, ![256, 1]⟩ : Shape).Idx) :
    (Rect.unit (s := ⟨2, ![256, 8]⟩) ![0, k.val] ![256, 1] (inbP k)).emb x = ix2 (x 0) k := by
  have h0 : (x 1).val < 1 := (x 1).isLt
  funext a
  match a with
  | ⟨0, _⟩ => exact Fin.ext (show 0 + 1 * (x 0).val = (x 0).val by omega)
  | ⟨1, _⟩ => exact Fin.ext (show k.val + 1 * (x 1).val = k.val by omega)

theorem ixP_eta (x : (⟨2, ![256, 1]⟩ : Shape).Idx) : ix2 (x 0) (0 : Fin 1) = x := by
  have h0 : (x 1).val < 1 := (x 1).isLt
  funext a
  match a with
  | ⟨0, _⟩ => rfl
  | ⟨1, _⟩ => exact Fin.ext (show 0 = (x 1).val by omega)

theorem readAtP {κ : Kind} {sp : Space} {e : EltTy} {Val : EltTy → Type} (v : View sig κ sp ⟨2, ![256, 8]⟩ e) (f : v.ty.Contents Val) (k : Fin 8) :
    v.readAt Val (Rect.unit ![0, k.val] ![256, 1] (inbP k)).toLoadRect f = fun x => v.read Val f (ix2 (x 0) k) :=
  funext fun x => congrArg (v.read Val f) (embP k x)

/-- The box of head `k` of an accumulator block. -/
theorem inbO (k : Fin 8) : ∀ a, (![0, 64 * k.val] : Fin 2 → ℕ) a + (![256, 64] : Fin 2 → ℕ) a ≤ (⟨2, ![256, 512]⟩ : Shape).size a := by
  intro a
  match a with
  | ⟨0, _⟩ => show 0 + 256 ≤ 256; omega
  | ⟨1, _⟩ => show 64 * k.val + 64 ≤ 512; omega

/-- The place of entry `j` of head `k` in a row of an accumulator block. -/
def col (k : Fin 8) (j : Fin 64) : Fin 512 := ⟨64 * k.val + j.val, by omega⟩

/-- The head and the place in the head of an entry of a row of an accumulator block. -/
def colHd (j : Fin 512) : Fin 8 := ⟨j.val / 64, by omega⟩
def colIn (j : Fin 512) : Fin 64 := ⟨j.val % 64, by omega⟩
theorem colHd_col (k : Fin 8) (j : Fin 64) : colHd (col k j) = k := Fin.ext (show (64 * k.val + j.val) / 64 = k.val by omega)
theorem colIn_col (k : Fin 8) (j : Fin 64) : colIn (col k j) = j := Fin.ext (show (64 * k.val + j.val) % 64 = j.val by omega)
theorem col_colHd (j : Fin 512) : col (colHd j) (colIn j) = j := Fin.ext (show 64 * (j.val / 64) + j.val % 64 = j.val by omega)

theorem embO (k : Fin 8) (x : (⟨2, ![256, 64]⟩ : Shape).Idx) :
    (Rect.unit (s := ⟨2, ![256, 512]⟩) ![0, 64 * k.val] ![256, 64] (inbO k)).emb x = ix2 (x 0) (col k (x 1)) := by
  funext a
  match a with
  | ⟨0, _⟩ => exact Fin.ext (show 0 + 1 * (x 0).val = (x 0).val by omega)
  | ⟨1, _⟩ => exact Fin.ext (show 64 * k.val + 1 * (x 1).val = 64 * k.val + (x 1).val by omega)

theorem readAtO {κ : Kind} {sp : Space} {e : EltTy} {Val : EltTy → Type} (v : View sig κ sp ⟨2, ![256, 512]⟩ e) (f : v.ty.Contents Val) (k : Fin 8) :
    v.readAt Val (Rect.unit ![0, 64 * k.val] ![256, 64] (inbO k)).toLoadRect f = fun x => v.read Val f (ix2 (x 0) (col k (x 1))) :=
  funext fun x => congrArg (v.read Val f) (embO k x)

/-- Eight stores, one per column, leave the eight columns side by side. -/
theorem writesP {κ : Kind} {sp : Space} {e : EltTy} {Val : EltTy → Type} (v : View sig κ sp ⟨2, ![256, 8]⟩ e) (f : v.ty.Contents Val)
    (w : Fin 8 → (⟨2, ![256, 1]⟩ : Shape).Idx → Val e) :
    v.read Val (v.writes Val f (heads.map fun k => (⟨Rect.unit ![0, k.val] ![256, 1] (inbP k), w k⟩ : View.Piece Val ⟨2, ![256, 8]⟩ e)))
      = fun y => w (y 1) (ix2 (y 0) 0) := by
  refine writesFam v f (fun k => Rect.unit ![0, k.val] ![256, 1] (inbP k)) w (fun y => w (y 1) (ix2 (y 0) 0)) ?_ ?_
  · intro k x
    have h := embP k x
    exact (congrArg (w k) (ixP_eta x).symm).trans (congrArg (fun y : (⟨2, ![256, 8]⟩ : Shape).Idx => w (y 1) (ix2 (y 0) 0)) h.symm)
  · intro y
    exact ⟨y 1, ix2 (y 0) 0, (embP (y 1) (ix2 (y 0) 0)).trans (eq_ix2 y).symm⟩

/-- Eight stores, one per head, leave the eight heads side by side. -/
theorem writesO {κ : Kind} {sp : Space} {e : EltTy} {Val : EltTy → Type} (v : View sig κ sp ⟨2, ![256, 512]⟩ e) (f : v.ty.Contents Val)
    (w : Fin 8 → (⟨2, ![256, 64]⟩ : Shape).Idx → Val e) :
    v.read Val (v.writes Val f (heads.map fun k => (⟨Rect.unit ![0, 64 * k.val] ![256, 64] (inbO k), w k⟩ : View.Piece Val ⟨2, ![256, 512]⟩ e)))
      = fun y => w (colHd (y 1)) (ix2 (y 0) (colIn (y 1))) := by
  refine writesFam v f (fun k => Rect.unit ![0, 64 * k.val] ![256, 64] (inbO k)) w
    (fun y => w (colHd (y 1)) (ix2 (y 0) (colIn (y 1)))) ?_ ?_
  · intro k x
    have h := embO k x
    refine Eq.trans ?_ (congrArg (fun y : (⟨2, ![256, 512]⟩ : Shape).Idx => w (colHd (y 1)) (ix2 (y 0) (colIn (y 1)))) h.symm)
    exact congr (congrArg w (colHd_col k (x 1)).symm)
      ((eq_ix2 (n0 := 256) (n1 := 64) x).trans (congrArg (ix2 (n0 := 256) (x 0)) (colIn_col k (x 1)).symm))
  · intro y
    refine ⟨colHd (y 1), ix2 (y 0) (colIn (y 1)), (embO (colHd (y 1)) (ix2 (y 0) (colIn (y 1)))).trans ?_⟩
    exact (congrArg (ix2 (n0 := 256) (y 0)) (col_colHd (y 1))).trans (eq_ix2 y).symm

/-- The printed test of a word against a constant. -/
theorem word_test (r k : BitVec 32) : (Scalar.cmpi .ne (Scalar.extui (Scalar.cmpi .eq r k) : BitVec 32) 0#32 = 1#1) ↔ r = k := by
  unfold Scalar.cmpi Scalar.extui IntOp.cmpi
  by_cases h : r = k
  · simp [h]
  · have h' : (r == k) = false := by simp [h]
    rw [h']
    simp [h]

end Cert.KernelIdeal.Stick

end
-- ==== Proof.NearBody.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.Kit
public import Idealize.ShloMosaic.Lib.Pipeline.TableIdle

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- A memref's buffer held whole on core `c`, at contents `f`. -/
abbrev pt (c : Dev nD) {sp : Space} {S : Shape} {e : EltTy} (M : Memref sig .tc sp S e) (f : Bf (F := F) c M) : sProp 𝕄 :=
  M.view.loc (c : Thread nD τ) ↦{fullShare} f
/-- A memref's buffer held whole on core `c`, reading as the array `X`. -/
abbrev rp (c : Dev nD) {sp : Space} {S : Shape} {e : EltTy} (M : Memref sig .tc sp S e) (X : S.Idx → Elt F e) : sProp 𝕄 :=
  pt c M (M.view.rep X)

/-- What one point of the near region leaves: the two output blocks' buffers, then the carry, the accumulator and the flag. -/
structure NOut (F : FTy → Type) (c : Dev nD) (M9 : Memref sig .tc .vmem S256x512 .f32) (M10 : Memref sig .tc .vmem S256x8 .f32) where
  o : Bf (F := F) c M9
  p : Bf (F := F) c M10
  C : Bf (F := F) c (Memref.whole cc0_scratch0)
  A : Bf (F := F) c (Memref.whole cc0_scratch1)
  D : Bf (F := F) c (Memref.whole cc0_scratch2)

/-- One point of the near region, run: the tables and input blocks are kept, the rest is left as the run computes it. -/
def nearRun (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c)) (f2 : Bf (F := F) c (Memref.whole main_c_0))
    (f3 : Bf (F := F) c (Memref.whole main_c_1)) (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0)) (fA : Bf (F := F) c (Memref.whole cc0_scratch1))
    (fD : Bf (F := F) c (Memref.whole cc0_scratch2)) :
    { o : NOut F c M9 M10 // ∀ Q : PUnit → sProp 𝕄,
    iprop(pt c (Memref.whole main_c) f1 ∗ pt c (Memref.whole main_c_0) f2 ∗ pt c (Memref.whole main_c_1) f3 ∗ pt c (Memref.whole main_c_2) f4
      ∗ rp c M5 X5 ∗ rp c M6 X6 ∗ rp c M7 X7 ∗ rp c M8 X8 ∗ pt c M9 f9 ∗ pt c M10 f10
      ∗ pt c (Memref.whole cc0_scratch0) fC ∗ pt c (Memref.whole cc0_scratch1) fA ∗ pt c (Memref.whole cc0_scratch2) fD
      ∗ (iprop(pt c (Memref.whole main_c) f1 ∗ pt c (Memref.whole main_c_0) f2 ∗ pt c (Memref.whole main_c_1) f3 ∗ pt c (Memref.whole main_c_2) f4
      ∗ rp c M5 X5 ∗ rp c M6 X6 ∗ rp c M7 X7 ∗ rp c M8 X8 ∗ pt c M9 o.o ∗ pt c M10 o.p
      ∗ pt c (Memref.whole cc0_scratch0) o.C ∗ pt c (Memref.whole cc0_scratch1) o.A ∗ pt c (Memref.whole cc0_scratch2) o.D) -∗ Q ⟨⟩))
    ⊢ wp frame (wpE (defs₀ (F := F)) Variants.none c none) Set.univ
        (cc0_sb_prompt_near i (Memref.whole main_c) (Memref.isWhole_whole _) (Memref.whole main_c_0) (Memref.isWhole_whole _) (Memref.whole main_c_1) (Memref.isWhole_whole _) (Memref.whole main_c_2) (Memref.isWhole_whole _)
          M5 h5 M6 h6 M7 h7 M8 h8 M9 h9 M10 h10 (Memref.whole cc0_scratch0) (Memref.isWhole_whole _) (Memref.whole cc0_scratch1) (Memref.isWhole_whole _) (Memref.whole cc0_scratch2) (Memref.isWhole_whole _)) Q } := by
  refine ⟨⟨?_, ?_, ?_, ?_, ?_⟩, fun Q => ?_⟩
  rotate_left 5
  · iintro ⟨H1, H2, H3, H4, H5, H6, H7, H8, H9, H10, HC, HA, HD, Hk⟩
    rw [cc0_sb_prompt_near_eq_skeleton]
    unfold cc0_sb_prompt_near_skel
    sl_open_parts
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HC]; · iexact HC
    isplitl [HA]; · iexact HA
    iexact HD

end Cert.KernelIdeal.Stick

end
-- ==== Proof.Loads.lean ====
module

public import proofs.«01_k».proof.Proof.Eight
public import proofs.«01_k».proof.Proof.NearBody
public import Idealize.ShloMosaic.Lib.ValueLayout

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-- Eight stores given one by one. -/
theorem writes8L {κ : Kind} {sp : Space} {e : EltTy} {Val : EltTy → Type} {n : ℕ} (v : View sig κ sp ⟨3, ![8, 256, n]⟩ e) (f : v.ty.Contents Val)
    (w : Fin 8 → (⟨3, ![1, 256, n]⟩ : Shape).Idx → Val e) {w0 w1 w2 w3 w4 w5 w6 w7 : (⟨3, ![1, 256, n]⟩ : Shape).Idx → Val e}
    {i0 : ∀ a, (![0, 0, 0] : Fin 3 → ℕ) a + (![1, 256, n] : Fin 3 → ℕ) a ≤ (⟨3, ![8, 256, n]⟩ : Shape).size a} {i1 : ∀ a, (![1, 0, 0] : Fin 3 → ℕ) a + (![1, 256, n] : Fin 3 → ℕ) a ≤ (⟨3, ![8, 256, n]⟩ : Shape).size a} {i2 : ∀ a, (![2, 0, 0] : Fin 3 → ℕ) a + (![1, 256, n] : Fin 3 → ℕ) a ≤ (⟨3, ![8, 256, n]⟩ : Shape).size a} {i3 : ∀ a, (![3, 0, 0] : Fin 3 → ℕ) a + (![1, 256, n] : Fin 3 → ℕ) a ≤ (⟨3, ![8, 256, n]⟩ : Shape).size a} {i4 : ∀ a, (![4, 0, 0] : Fin 3 → ℕ) a + (![1, 256, n] : Fin 3 → ℕ) a ≤ (⟨3, ![8, 256, n]⟩ : Shape).size a} {i5 : ∀ a, (![5, 0, 0] : Fin 3 → ℕ) a + (![1, 256, n] : Fin 3 → ℕ) a ≤ (⟨3, ![8, 256, n]⟩ : Shape).size a} {i6 : ∀ a, (![6, 0, 0] : Fin 3 → ℕ) a + (![1, 256, n] : Fin 3 → ℕ) a ≤ (⟨3, ![8, 256, n]⟩ : Shape).size a} {i7 : ∀ a, (![7, 0, 0] : Fin 3 → ℕ) a + (![1, 256, n] : Fin 3 → ℕ) a ≤ (⟨3, ![8, 256, n]⟩ : Shape).size a}
    (h0 : w0 = w 0) (h1 : w1 = w 1) (h2 : w2 = w 2) (h3 : w3 = w 3) (h4 : w4 = w 4) (h5 : w5 = w 5) (h6 : w6 = w 6) (h7 : w7 = w 7) :
    v.read Val (v.writes Val f [(⟨Rect.unit ![7, 0, 0] ![1, 256, n] i7, w7⟩ : View.Piece Val ⟨3, ![8, 256, n]⟩ e), (⟨Rect.unit ![6, 0, 0] ![1, 256, n] i6, w6⟩ : View.Piece Val ⟨3, ![8, 256, n]⟩ e), (⟨Rect.unit ![5, 0, 0] ![1, 256, n] i5, w5⟩ : View.Piece Val ⟨3, ![8, 256, n]⟩ e), (⟨Rect.unit ![4, 0, 0] ![1, 256, n] i4, w4⟩ : View.Piece Val ⟨3, ![8, 256, n]⟩ e), (⟨Rect.unit ![3, 0, 0] ![1, 256, n] i3, w3⟩ : View.Piece Val ⟨3, ![8, 256, n]⟩ e), (⟨Rect.unit ![2, 0, 0] ![1, 256, n] i2, w2⟩ : View.Piece Val ⟨3, ![8, 256, n]⟩ e), (⟨Rect.unit ![1, 0, 0] ![1, 256, n] i1, w1⟩ : View.Piece Val ⟨3, ![8, 256, n]⟩ e), (⟨Rect.unit ![0, 0, 0] ![1, 256, n] i0, w0⟩ : View.Piece Val ⟨3, ![8, 256, n]⟩ e)])
      = unhd w := by
  subst h0 h1 h2 h3 h4 h5 h6 h7
  exact writes8 v f w

/-- Eight stores given one by one. -/
theorem writesPL {κ : Kind} {sp : Space} {e : EltTy} {Val : EltTy → Type} (v : View sig κ sp ⟨2, ![256, 8]⟩ e) (f : v.ty.Contents Val)
    (w : Fin 8 → (⟨2, ![256, 1]⟩ : Shape).Idx → Val e) {w0 w1 w2 w3 w4 w5 w6 w7 : (⟨2, ![256, 1]⟩ : Shape).Idx → Val e}
    {i0 : ∀ a, (![0, 0] : Fin 2 → ℕ) a + (![256, 1] : Fin 2 → ℕ) a ≤ (⟨2, ![256, 8]⟩ : Shape).size a} {i1 : ∀ a, (![0, 1] : Fin 2 → ℕ) a + (![256, 1] : Fin 2 → ℕ) a ≤ (⟨2, ![256, 8]⟩ : Shape).size a} {i2 : ∀ a, (![0, 2] : Fin 2 → ℕ) a + (![256, 1] : Fin 2 → ℕ) a ≤ (⟨2, ![256, 8]⟩ : Shape).size a} {i3 : ∀ a, (![0, 3] : Fin 2 → ℕ) a + (![256, 1] : Fin 2 → ℕ) a ≤ (⟨2, ![256, 8]⟩ : Shape).size a} {i4 : ∀ a, (![0, 4] : Fin 2 → ℕ) a + (![256, 1] : Fin 2 → ℕ) a ≤ (⟨2, ![256, 8]⟩ : Shape).size a} {i5 : ∀ a, (![0, 5] : Fin 2 → ℕ) a + (![256, 1] : Fin 2 → ℕ) a ≤ (⟨2, ![256, 8]⟩ : Shape).size a} {i6 : ∀ a, (![0, 6] : Fin 2 → ℕ) a + (![256, 1] : Fin 2 → ℕ) a ≤ (⟨2, ![256, 8]⟩ : Shape).size a} {i7 : ∀ a, (![0, 7] : Fin 2 → ℕ) a + (![256, 1] : Fin 2 → ℕ) a ≤ (⟨2, ![256, 8]⟩ : Shape).size a}
    (h0 : w0 = w 0) (h1 : w1 = w 1) (h2 : w2 = w 2) (h3 : w3 = w 3) (h4 : w4 = w 4) (h5 : w5 = w 5) (h6 : w6 = w 6) (h7 : w7 = w 7) :
    v.read Val (v.writes Val f [(⟨Rect.unit ![0, 7] ![256, 1] i7, w7⟩ : View.Piece Val ⟨2, ![256, 8]⟩ e), (⟨Rect.unit ![0, 6] ![256, 1] i6, w6⟩ : View.Piece Val ⟨2, ![256, 8]⟩ e), (⟨Rect.unit ![0, 5] ![256, 1] i5, w5⟩ : View.Piece Val ⟨2, ![256, 8]⟩ e), (⟨Rect.unit ![0, 4] ![256, 1] i4, w4⟩ : View.Piece Val ⟨2, ![256, 8]⟩ e), (⟨Rect.unit ![0, 3] ![256, 1] i3, w3⟩ : View.Piece Val ⟨2, ![256, 8]⟩ e), (⟨Rect.unit ![0, 2] ![256, 1] i2, w2⟩ : View.Piece Val ⟨2, ![256, 8]⟩ e), (⟨Rect.unit ![0, 1] ![256, 1] i1, w1⟩ : View.Piece Val ⟨2, ![256, 8]⟩ e), (⟨Rect.unit ![0, 0] ![256, 1] i0, w0⟩ : View.Piece Val ⟨2, ![256, 8]⟩ e)])
      = fun y => w (y 1) (ix2 (y 0) 0) := by
  subst h0 h1 h2 h3 h4 h5 h6 h7
  exact writesP v f w

/-- Eight stores given one by one. -/
theorem writesOL {κ : Kind} {sp : Space} {e : EltTy} {Val : EltTy → Type} (v : View sig κ sp ⟨2, ![256, 512]⟩ e) (f : v.ty.Contents Val)
    (w : Fin 8 → (⟨2, ![256, 64]⟩ : Shape).Idx → Val e) {w0 w1 w2 w3 w4 w5 w6 w7 : (⟨2, ![256, 64]⟩ : Shape).Idx → Val e}
    {i0 : ∀ a, (![0, 0] : Fin 2 → ℕ) a + (![256, 64] : Fin 2 → ℕ) a ≤ (⟨2, ![256, 512]⟩ : Shape).size a} {i1 : ∀ a, (![0, 64] : Fin 2 → ℕ) a + (![256, 64] : Fin 2 → ℕ) a ≤ (⟨2, ![256, 512]⟩ : Shape).size a} {i2 : ∀ a, (![0, 128] : Fin 2 → ℕ) a + (![256, 64] : Fin 2 → ℕ) a ≤ (⟨2, ![256, 512]⟩ : Shape).size a} {i3 : ∀ a, (![0, 192] : Fin 2 → ℕ) a + (![256, 64] : Fin 2 → ℕ) a ≤ (⟨2, ![256, 512]⟩ : Shape).size a} {i4 : ∀ a, (![0, 256] : Fin 2 → ℕ) a + (![256, 64] : Fin 2 → ℕ) a ≤ (⟨2, ![256, 512]⟩ : Shape).size a} {i5 : ∀ a, (![0, 320] : Fin 2 → ℕ) a + (![256, 64] : Fin 2 → ℕ) a ≤ (⟨2, ![256, 512]⟩ : Shape).size a} {i6 : ∀ a, (![0, 384] : Fin 2 → ℕ) a + (![256, 64] : Fin 2 → ℕ) a ≤ (⟨2, ![256, 512]⟩ : Shape).size a} {i7 : ∀ a, (![0, 448] : Fin 2 → ℕ) a + (![256, 64] : Fin 2 → ℕ) a ≤ (⟨2, ![256, 512]⟩ : Shape).size a}
    (h0 : w0 = w 0) (h1 : w1 = w 1) (h2 : w2 = w 2) (h3 : w3 = w 3) (h4 : w4 = w 4) (h5 : w5 = w 5) (h6 : w6 = w 6) (h7 : w7 = w 7) :
    v.read Val (v.writes Val f [(⟨Rect.unit ![0, 448] ![256, 64] i7, w7⟩ : View.Piece Val ⟨2, ![256, 512]⟩ e), (⟨Rect.unit ![0, 384] ![256, 64] i6, w6⟩ : View.Piece Val ⟨2, ![256, 512]⟩ e), (⟨Rect.unit ![0, 320] ![256, 64] i5, w5⟩ : View.Piece Val ⟨2, ![256, 512]⟩ e), (⟨Rect.unit ![0, 256] ![256, 64] i4, w4⟩ : View.Piece Val ⟨2, ![256, 512]⟩ e), (⟨Rect.unit ![0, 192] ![256, 64] i3, w3⟩ : View.Piece Val ⟨2, ![256, 512]⟩ e), (⟨Rect.unit ![0, 128] ![256, 64] i2, w2⟩ : View.Piece Val ⟨2, ![256, 512]⟩ e), (⟨Rect.unit ![0, 64] ![256, 64] i1, w1⟩ : View.Piece Val ⟨2, ![256, 512]⟩ e), (⟨Rect.unit ![0, 0] ![256, 64] i0, w0⟩ : View.Piece Val ⟨2, ![256, 512]⟩ e)])
      = fun y => w (colHd (y 1)) (ix2 (y 0) (colIn (y 1))) := by
  subst h0 h1 h2 h3 h4 h5 h6 h7
  exact writesO v f w

/-- Head `k` of a buffer, loaded. -/
abbrev ld8 {κ : Kind} {sp : Space} {e : EltTy} {Val : EltTy → Type} {n : ℕ} (v : View sig κ sp ⟨3, ![8, 256, n]⟩ e) (f : v.ty.Contents Val) (k : Fin 8) :
    (⟨3, ![1, 256, n]⟩ : Shape).Idx → Val e :=
  v.readAt Val (Rect.unit (s := ⟨3, ![8, 256, n]⟩) ![k.val, 0, 0] ![1, 256, n] (inb8 n k)).toLoadRect f
/-- The tile of ones, loaded. -/
abbrev ldT (M : Memref sig .tc .vmem S256x256 .bf16) (X : S256x256.Idx → F .bf16) : FVec F S256x256 .bf16 :=
  View.readAt (Elt F) M.view (Rect.unit ![0, 0] S256x256.size inb_S256x256_S256x256_0_0).toLoadRect (M.view.rep X)
theorem ldT_eq (M : Memref sig .tc .vmem S256x256 .bf16) (X : S256x256.Idx → F .bf16) : ldT M X = X :=
  View.readAt_rep_full (Val := Elt F) M.view X inb_S256x256_S256x256_0_0
/-- Head `k` of an input block, loaded. -/
abbrev ldQ (M : Memref sig .tc .vmem S8x256x64 .bf16) (X : S8x256x64.Idx → F .bf16) (k : Fin 8) : FVec F S1x256x64 .bf16 :=
  ld8 (Val := Elt F) (n := 64) M.view (M.view.rep X) k
theorem ldQ_eq (M : Memref sig .tc .vmem S8x256x64 .bf16) (X : S8x256x64.Idx → F .bf16) (k : Fin 8) : ldQ M X k = hd k X :=
  (readAt8 (Val := Elt F) (n := 64) M.view _ k).trans (congrArg (hd k) (View.read_rep (Val := Elt F) M.view X))
/-- Column `k` of a carry block and head `k` of an accumulator block, loaded. -/
abbrev ldP (M : Memref sig .tc .vmem S256x8 .f32) (X : S256x8.Idx → F .f32) (k : Fin 8) : FVec F S256x1 .f32 :=
  M.view.readAt (Elt F) (Rect.unit (s := ⟨2, ![256, 8]⟩) ![0, k.val] ![256, 1] (inbP k)).toLoadRect (M.view.rep X)
theorem ldP_eq (M : Memref sig .tc .vmem S256x8 .f32) (X : S256x8.Idx → F .f32) (k : Fin 8) : ldP M X k = fun y => X (ix2 (y 0) k) :=
  (readAtP (Val := Elt F) M.view _ k).trans (congrArg (fun X : S256x8.Idx → F .f32 => fun y : S256x1.Idx => X (ix2 (y 0) k)) (View.read_rep (Val := Elt F) M.view X))
abbrev ldO (M : Memref sig .tc .vmem S256x512 .f32) (X : S256x512.Idx → F .f32) (k : Fin 8) : FVec F S256x64 .f32 :=
  M.view.readAt (Elt F) (Rect.unit (s := ⟨2, ![256, 512]⟩) ![0, 64 * k.val] ![256, 64] (inbO k)).toLoadRect (M.view.rep X)
theorem ldO_eq (M : Memref sig .tc .vmem S256x512 .f32) (X : S256x512.Idx → F .f32) (k : Fin 8) : ldO M X k = fun y => X (ix2 (y 0) (col k (y 1))) :=
  (readAtO (Val := Elt F) M.view _ k).trans (congrArg (fun X : S256x512.Idx → F .f32 => fun y : S256x64.Idx => X (ix2 (y 0) (col k (y 1)))) (View.read_rep (Val := Elt F) M.view X))

/-- A tile's eight stores of the carry. -/
theorem stepC (v : View sig .tc .vmem ⟨3, ![8, 256, 1]⟩ .f32) (f : v.ty.Contents (Elt F)) (m : IVec S256x256 1) (T : FVec F S256x256 .bf16)
    (Q K : Fin 8 → FVec F S1x256x64 .bf16) {w0 w1 w2 w3 w4 w5 w6 w7 : (⟨3, ![1, 256, 1]⟩ : Shape).Idx → Elt F .f32}
    {i0 : ∀ a, (![0, 0, 0] : Fin 3 → ℕ) a + (![1, 256, 1] : Fin 3 → ℕ) a ≤ (⟨3, ![8, 256, 1]⟩ : Shape).size a} {i1 : ∀ a, (![1, 0, 0] : Fin 3 → ℕ) a + (![1, 256, 1] : Fin 3 → ℕ) a ≤ (⟨3, ![8, 256, 1]⟩ : Shape).size a} {i2 : ∀ a, (![2, 0, 0] : Fin 3 → ℕ) a + (![1, 256, 1] : Fin 3 → ℕ) a ≤ (⟨3, ![8, 256, 1]⟩ : Shape).size a} {i3 : ∀ a, (![3, 0, 0] : Fin 3 → ℕ) a + (![1, 256, 1] : Fin 3 → ℕ) a ≤ (⟨3, ![8, 256, 1]⟩ : Shape).size a} {i4 : ∀ a, (![4, 0, 0] : Fin 3 → ℕ) a + (![1, 256, 1] : Fin 3 → ℕ) a ≤ (⟨3, ![8, 256, 1]⟩ : Shape).size a} {i5 : ∀ a, (![5, 0, 0] : Fin 3 → ℕ) a + (![1, 256, 1] : Fin 3 → ℕ) a ≤ (⟨3, ![8, 256, 1]⟩ : Shape).size a} {i6 : ∀ a, (![6, 0, 0] : Fin 3 → ℕ) a + (![1, 256, 1] : Fin 3 → ℕ) a ≤ (⟨3, ![8, 256, 1]⟩ : Shape).size a} {i7 : ∀ a, (![7, 0, 0] : Fin 3 → ℕ) a + (![1, 256, 1] : Fin 3 → ℕ) a ≤ (⟨3, ![8, 256, 1]⟩ : Shape).size a}
    (h0 : w0 = hC m T (Q 0) (K 0) (ld8 (Val := Elt F) (n := 1) v f 0)) (h1 : w1 = hC m T (Q 1) (K 1) (ld8 (Val := Elt F) (n := 1) v f 1)) (h2 : w2 = hC m T (Q 2) (K 2) (ld8 (Val := Elt F) (n := 1) v f 2)) (h3 : w3 = hC m T (Q 3) (K 3) (ld8 (Val := Elt F) (n := 1) v f 3)) (h4 : w4 = hC m T (Q 4) (K 4) (ld8 (Val := Elt F) (n := 1) v f 4)) (h5 : w5 = hC m T (Q 5) (K 5) (ld8 (Val := Elt F) (n := 1) v f 5)) (h6 : w6 = hC m T (Q 6) (K 6) (ld8 (Val := Elt F) (n := 1) v f 6)) (h7 : w7 = hC m T (Q 7) (K 7) (ld8 (Val := Elt F) (n := 1) v f 7)) :
    v.read (Elt F) (v.writes (Elt F) f [(⟨Rect.unit ![7, 0, 0] ![1, 256, 1] i7, w7⟩ : View.Piece (Elt F) ⟨3, ![8, 256, 1]⟩ .f32), (⟨Rect.unit ![6, 0, 0] ![1, 256, 1] i6, w6⟩ : View.Piece (Elt F) ⟨3, ![8, 256, 1]⟩ .f32), (⟨Rect.unit ![5, 0, 0] ![1, 256, 1] i5, w5⟩ : View.Piece (Elt F) ⟨3, ![8, 256, 1]⟩ .f32), (⟨Rect.unit ![4, 0, 0] ![1, 256, 1] i4, w4⟩ : View.Piece (Elt F) ⟨3, ![8, 256, 1]⟩ .f32), (⟨Rect.unit ![3, 0, 0] ![1, 256, 1] i3, w3⟩ : View.Piece (Elt F) ⟨3, ![8, 256, 1]⟩ .f32), (⟨Rect.unit ![2, 0, 0] ![1, 256, 1] i2, w2⟩ : View.Piece (Elt F) ⟨3, ![8, 256, 1]⟩ .f32), (⟨Rect.unit ![1, 0, 0] ![1, 256, 1] i1, w1⟩ : View.Piece (Elt F) ⟨3, ![8, 256, 1]⟩ .f32), (⟨Rect.unit ![0, 0, 0] ![1, 256, 1] i0, w0⟩ : View.Piece (Elt F) ⟨3, ![8, 256, 1]⟩ .f32)])
      = unhd fun k => hC m T (Q k) (K k) (hd k (v.read (Elt F) f)) := by
  refine (writes8L v f (fun k => hC m T (Q k) (K k) (ld8 (Val := Elt F) (n := 1) v f k)) h0 h1 h2 h3 h4 h5 h6 h7).trans ?_
  refine congrArg unhd (funext fun k => ?_)
  rw [show ld8 (Val := Elt F) (n := 1) v f k = hd k (v.read (Elt F) f) from readAt8 v f k]

/-- A tile's eight stores of the accumulator. -/
theorem stepA (v : View sig .tc .vmem ⟨3, ![8, 256, 64]⟩ .f32) (f : v.ty.Contents (Elt F)) (m : IVec S256x256 1) (T : FVec F S256x256 .bf16)
    (Q K V : Fin 8 → FVec F S1x256x64 .bf16) (c : Fin 8 → FVec F S1x256x1 .f32) {w0 w1 w2 w3 w4 w5 w6 w7 : (⟨3, ![1, 256, 64]⟩ : Shape).Idx → Elt F .f32}
    {i0 : ∀ a, (![0, 0, 0] : Fin 3 → ℕ) a + (![1, 256, 64] : Fin 3 → ℕ) a ≤ (⟨3, ![8, 256, 64]⟩ : Shape).size a} {i1 : ∀ a, (![1, 0, 0] : Fin 3 → ℕ) a + (![1, 256, 64] : Fin 3 → ℕ) a ≤ (⟨3, ![8, 256, 64]⟩ : Shape).size a} {i2 : ∀ a, (![2, 0, 0] : Fin 3 → ℕ) a + (![1, 256, 64] : Fin 3 → ℕ) a ≤ (⟨3, ![8, 256, 64]⟩ : Shape).size a} {i3 : ∀ a, (![3, 0, 0] : Fin 3 → ℕ) a + (![1, 256, 64] : Fin 3 → ℕ) a ≤ (⟨3, ![8, 256, 64]⟩ : Shape).size a} {i4 : ∀ a, (![4, 0, 0] : Fin 3 → ℕ) a + (![1, 256, 64] : Fin 3 → ℕ) a ≤ (⟨3, ![8, 256, 64]⟩ : Shape).size a} {i5 : ∀ a, (![5, 0, 0] : Fin 3 → ℕ) a + (![1, 256, 64] : Fin 3 → ℕ) a ≤ (⟨3, ![8, 256, 64]⟩ : Shape).size a} {i6 : ∀ a, (![6, 0, 0] : Fin 3 → ℕ) a + (![1, 256, 64] : Fin 3 → ℕ) a ≤ (⟨3, ![8, 256, 64]⟩ : Shape).size a} {i7 : ∀ a, (![7, 0, 0] : Fin 3 → ℕ) a + (![1, 256, 64] : Fin 3 → ℕ) a ≤ (⟨3, ![8, 256, 64]⟩ : Shape).size a}
    (h0 : w0 = hA m T (Q 0) (K 0) (V 0) (c 0) (ld8 (Val := Elt F) (n := 64) v f 0)) (h1 : w1 = hA m T (Q 1) (K 1) (V 1) (c 1) (ld8 (Val := Elt F) (n := 64) v f 1)) (h2 : w2 = hA m T (Q 2) (K 2) (V 2) (c 2) (ld8 (Val := Elt F) (n := 64) v f 2)) (h3 : w3 = hA m T (Q 3) (K 3) (V 3) (c 3) (ld8 (Val := Elt F) (n := 64) v f 3)) (h4 : w4 = hA m T (Q 4) (K 4) (V 4) (c 4) (ld8 (Val := Elt F) (n := 64) v f 4)) (h5 : w5 = hA m T (Q 5) (K 5) (V 5) (c 5) (ld8 (Val := Elt F) (n := 64) v f 5)) (h6 : w6 = hA m T (Q 6) (K 6) (V 6) (c 6) (ld8 (Val := Elt F) (n := 64) v f 6)) (h7 : w7 = hA m T (Q 7) (K 7) (V 7) (c 7) (ld8 (Val := Elt F) (n := 64) v f 7)) :
    v.read (Elt F) (v.writes (Elt F) f [(⟨Rect.unit ![7, 0, 0] ![1, 256, 64] i7, w7⟩ : View.Piece (Elt F) ⟨3, ![8, 256, 64]⟩ .f32), (⟨Rect.unit ![6, 0, 0] ![1, 256, 64] i6, w6⟩ : View.Piece (Elt F) ⟨3, ![8, 256, 64]⟩ .f32), (⟨Rect.unit ![5, 0, 0] ![1, 256, 64] i5, w5⟩ : View.Piece (Elt F) ⟨3, ![8, 256, 64]⟩ .f32), (⟨Rect.unit ![4, 0, 0] ![1, 256, 64] i4, w4⟩ : View.Piece (Elt F) ⟨3, ![8, 256, 64]⟩ .f32), (⟨Rect.unit ![3, 0, 0] ![1, 256, 64] i3, w3⟩ : View.Piece (Elt F) ⟨3, ![8, 256, 64]⟩ .f32), (⟨Rect.unit ![2, 0, 0] ![1, 256, 64] i2, w2⟩ : View.Piece (Elt F) ⟨3, ![8, 256, 64]⟩ .f32), (⟨Rect.unit ![1, 0, 0] ![1, 256, 64] i1, w1⟩ : View.Piece (Elt F) ⟨3, ![8, 256, 64]⟩ .f32), (⟨Rect.unit ![0, 0, 0] ![1, 256, 64] i0, w0⟩ : View.Piece (Elt F) ⟨3, ![8, 256, 64]⟩ .f32)])
      = unhd fun k => hA m T (Q k) (K k) (V k) (c k) (hd k (v.read (Elt F) f)) := by
  refine (writes8L v f (fun k => hA m T (Q k) (K k) (V k) (c k) (ld8 (Val := Elt F) (n := 64) v f k)) h0 h1 h2 h3 h4 h5 h6 h7).trans ?_
  refine congrArg unhd (funext fun k => ?_)
  rw [show ld8 (Val := Elt F) (n := 64) v f k = hd k (v.read (Elt F) f) from readAt8 v f k]

/-- The index a cast to or from a leading axis of one reads. -/
theorem cast_drop {n : ℕ} {α : Type} (a : (⟨3, ![1, 256, n]⟩ : Shape).Idx → α) (h : (⟨3, ![1, 256, n]⟩ : Shape).ShapeCasts ⟨2, ![256, n]⟩) :
    shapeCast ⟨2, ![256, n]⟩ a h = fun y => a (ix3 0 (y 0) (y 1)) := by
  funext y
  rw [eq_ix2 y]
  exact shapeCast_1ab_ab_apply a h _ _
theorem cast_add {n : ℕ} {α : Type} (a : (⟨2, ![256, n]⟩ : Shape).Idx → α) (h : (⟨2, ![256, n]⟩ : Shape).ShapeCasts ⟨3, ![1, 256, n]⟩) :
    shapeCast ⟨3, ![1, 256, n]⟩ a h = fun y => a (ix2 (y 1) (y 2)) := by
  funext y
  have h0 : (y 0).val < 1 := (y 0).isLt
  rw [eq_ix3 y]
  exact shapeCast_ab_1ab_apply a h _ _ _

/-- The eight stores of a row's carry block and of its accumulator block. -/
theorem emitP (v : View sig .tc .vmem ⟨2, ![256, 8]⟩ .f32) (f : v.ty.Contents (Elt F)) (u : View sig .tc .vmem ⟨3, ![8, 256, 1]⟩ .f32) (A : u.ty.Contents (Elt F))
    {w0 w1 w2 w3 w4 w5 w6 w7 : (⟨2, ![256, 1]⟩ : Shape).Idx → Elt F .f32}
    {i0 : ∀ a, (![0, 0] : Fin 2 → ℕ) a + (![256, 1] : Fin 2 → ℕ) a ≤ (⟨2, ![256, 8]⟩ : Shape).size a} {i1 : ∀ a, (![0, 1] : Fin 2 → ℕ) a + (![256, 1] : Fin 2 → ℕ) a ≤ (⟨2, ![256, 8]⟩ : Shape).size a} {i2 : ∀ a, (![0, 2] : Fin 2 → ℕ) a + (![256, 1] : Fin 2 → ℕ) a ≤ (⟨2, ![256, 8]⟩ : Shape).size a} {i3 : ∀ a, (![0, 3] : Fin 2 → ℕ) a + (![256, 1] : Fin 2 → ℕ) a ≤ (⟨2, ![256, 8]⟩ : Shape).size a} {i4 : ∀ a, (![0, 4] : Fin 2 → ℕ) a + (![256, 1] : Fin 2 → ℕ) a ≤ (⟨2, ![256, 8]⟩ : Shape).size a} {i5 : ∀ a, (![0, 5] : Fin 2 → ℕ) a + (![256, 1] : Fin 2 → ℕ) a ≤ (⟨2, ![256, 8]⟩ : Shape).size a} {i6 : ∀ a, (![0, 6] : Fin 2 → ℕ) a + (![256, 1] : Fin 2 → ℕ) a ≤ (⟨2, ![256, 8]⟩ : Shape).size a} {i7 : ∀ a, (![0, 7] : Fin 2 → ℕ) a + (![256, 1] : Fin 2 → ℕ) a ≤ (⟨2, ![256, 8]⟩ : Shape).size a}
    (h0 : w0 = shapeCast ⟨2, ![256, 1]⟩ (ld8 (Val := Elt F) (n := 1) u A 0) shapeCasts_S1x256x1_S256x1) (h1 : w1 = shapeCast ⟨2, ![256, 1]⟩ (ld8 (Val := Elt F) (n := 1) u A 1) shapeCasts_S1x256x1_S256x1) (h2 : w2 = shapeCast ⟨2, ![256, 1]⟩ (ld8 (Val := Elt F) (n := 1) u A 2) shapeCasts_S1x256x1_S256x1) (h3 : w3 = shapeCast ⟨2, ![256, 1]⟩ (ld8 (Val := Elt F) (n := 1) u A 3) shapeCasts_S1x256x1_S256x1) (h4 : w4 = shapeCast ⟨2, ![256, 1]⟩ (ld8 (Val := Elt F) (n := 1) u A 4) shapeCasts_S1x256x1_S256x1) (h5 : w5 = shapeCast ⟨2, ![256, 1]⟩ (ld8 (Val := Elt F) (n := 1) u A 5) shapeCasts_S1x256x1_S256x1) (h6 : w6 = shapeCast ⟨2, ![256, 1]⟩ (ld8 (Val := Elt F) (n := 1) u A 6) shapeCasts_S1x256x1_S256x1) (h7 : w7 = shapeCast ⟨2, ![256, 1]⟩ (ld8 (Val := Elt F) (n := 1) u A 7) shapeCasts_S1x256x1_S256x1) :
    v.read (Elt F) (v.writes (Elt F) f [(⟨Rect.unit ![0, 7] ![256, 1] i7, w7⟩ : View.Piece (Elt F) ⟨2, ![256, 8]⟩ .f32), (⟨Rect.unit ![0, 6] ![256, 1] i6, w6⟩ : View.Piece (Elt F) ⟨2, ![256, 8]⟩ .f32), (⟨Rect.unit ![0, 5] ![256, 1] i5, w5⟩ : View.Piece (Elt F) ⟨2, ![256, 8]⟩ .f32), (⟨Rect.unit ![0, 4] ![256, 1] i4, w4⟩ : View.Piece (Elt F) ⟨2, ![256, 8]⟩ .f32), (⟨Rect.unit ![0, 3] ![256, 1] i3, w3⟩ : View.Piece (Elt F) ⟨2, ![256, 8]⟩ .f32), (⟨Rect.unit ![0, 2] ![256, 1] i2, w2⟩ : View.Piece (Elt F) ⟨2, ![256, 8]⟩ .f32), (⟨Rect.unit ![0, 1] ![256, 1] i1, w1⟩ : View.Piece (Elt F) ⟨2, ![256, 8]⟩ .f32), (⟨Rect.unit ![0, 0] ![256, 1] i0, w0⟩ : View.Piece (Elt F) ⟨2, ![256, 8]⟩ .f32)])
      = carryBlk (u.read (Elt F) A) := by
  have hf : (fun k : Fin 8 => shapeCast ⟨2, ![256, 1]⟩ (ld8 (Val := Elt F) (n := 1) u A k) shapeCasts_S1x256x1_S256x1) = fun k y => u.read (Elt F) A (ix3 k (y 0) (y 1)) := by
    funext k
    rw [show ld8 (Val := Elt F) (n := 1) u A k = hd k (u.read (Elt F) A) from readAt8 u A k, cast_drop]
  exact writesPL v f (fun k y => u.read (Elt F) A (ix3 k (y 0) (y 1))) (h0.trans (congrFun hf 0)) (h1.trans (congrFun hf 1)) (h2.trans (congrFun hf 2)) (h3.trans (congrFun hf 3)) (h4.trans (congrFun hf 4)) (h5.trans (congrFun hf 5)) (h6.trans (congrFun hf 6)) (h7.trans (congrFun hf 7))

theorem emitO (v : View sig .tc .vmem ⟨2, ![256, 512]⟩ .f32) (f : v.ty.Contents (Elt F)) (u : View sig .tc .vmem ⟨3, ![8, 256, 64]⟩ .f32) (A : u.ty.Contents (Elt F))
    {w0 w1 w2 w3 w4 w5 w6 w7 : (⟨2, ![256, 64]⟩ : Shape).Idx → Elt F .f32}
    {i0 : ∀ a, (![0, 0] : Fin 2 → ℕ) a + (![256, 64] : Fin 2 → ℕ) a ≤ (⟨2, ![256, 512]⟩ : Shape).size a} {i1 : ∀ a, (![0, 64] : Fin 2 → ℕ) a + (![256, 64] : Fin 2 → ℕ) a ≤ (⟨2, ![256, 512]⟩ : Shape).size a} {i2 : ∀ a, (![0, 128] : Fin 2 → ℕ) a + (![256, 64] : Fin 2 → ℕ) a ≤ (⟨2, ![256, 512]⟩ : Shape).size a} {i3 : ∀ a, (![0, 192] : Fin 2 → ℕ) a + (![256, 64] : Fin 2 → ℕ) a ≤ (⟨2, ![256, 512]⟩ : Shape).size a} {i4 : ∀ a, (![0, 256] : Fin 2 → ℕ) a + (![256, 64] : Fin 2 → ℕ) a ≤ (⟨2, ![256, 512]⟩ : Shape).size a} {i5 : ∀ a, (![0, 320] : Fin 2 → ℕ) a + (![256, 64] : Fin 2 → ℕ) a ≤ (⟨2, ![256, 512]⟩ : Shape).size a} {i6 : ∀ a, (![0, 384] : Fin 2 → ℕ) a + (![256, 64] : Fin 2 → ℕ) a ≤ (⟨2, ![256, 512]⟩ : Shape).size a} {i7 : ∀ a, (![0, 448] : Fin 2 → ℕ) a + (![256, 64] : Fin 2 → ℕ) a ≤ (⟨2, ![256, 512]⟩ : Shape).size a}
    (h0 : w0 = shapeCast ⟨2, ![256, 64]⟩ (ld8 (Val := Elt F) (n := 64) u A 0) shapeCasts_S1x256x64_S256x64) (h1 : w1 = shapeCast ⟨2, ![256, 64]⟩ (ld8 (Val := Elt F) (n := 64) u A 1) shapeCasts_S1x256x64_S256x64) (h2 : w2 = shapeCast ⟨2, ![256, 64]⟩ (ld8 (Val := Elt F) (n := 64) u A 2) shapeCasts_S1x256x64_S256x64) (h3 : w3 = shapeCast ⟨2, ![256, 64]⟩ (ld8 (Val := Elt F) (n := 64) u A 3) shapeCasts_S1x256x64_S256x64) (h4 : w4 = shapeCast ⟨2, ![256, 64]⟩ (ld8 (Val := Elt F) (n := 64) u A 4) shapeCasts_S1x256x64_S256x64) (h5 : w5 = shapeCast ⟨2, ![256, 64]⟩ (ld8 (Val := Elt F) (n := 64) u A 5) shapeCasts_S1x256x64_S256x64) (h6 : w6 = shapeCast ⟨2, ![256, 64]⟩ (ld8 (Val := Elt F) (n := 64) u A 6) shapeCasts_S1x256x64_S256x64) (h7 : w7 = shapeCast ⟨2, ![256, 64]⟩ (ld8 (Val := Elt F) (n := 64) u A 7) shapeCasts_S1x256x64_S256x64) :
    v.read (Elt F) (v.writes (Elt F) f [(⟨Rect.unit ![0, 448] ![256, 64] i7, w7⟩ : View.Piece (Elt F) ⟨2, ![256, 512]⟩ .f32), (⟨Rect.unit ![0, 384] ![256, 64] i6, w6⟩ : View.Piece (Elt F) ⟨2, ![256, 512]⟩ .f32), (⟨Rect.unit ![0, 320] ![256, 64] i5, w5⟩ : View.Piece (Elt F) ⟨2, ![256, 512]⟩ .f32), (⟨Rect.unit ![0, 256] ![256, 64] i4, w4⟩ : View.Piece (Elt F) ⟨2, ![256, 512]⟩ .f32), (⟨Rect.unit ![0, 192] ![256, 64] i3, w3⟩ : View.Piece (Elt F) ⟨2, ![256, 512]⟩ .f32), (⟨Rect.unit ![0, 128] ![256, 64] i2, w2⟩ : View.Piece (Elt F) ⟨2, ![256, 512]⟩ .f32), (⟨Rect.unit ![0, 64] ![256, 64] i1, w1⟩ : View.Piece (Elt F) ⟨2, ![256, 512]⟩ .f32), (⟨Rect.unit ![0, 0] ![256, 64] i0, w0⟩ : View.Piece (Elt F) ⟨2, ![256, 512]⟩ .f32)])
      = accBlk (u.read (Elt F) A) := by
  have hf : (fun k : Fin 8 => shapeCast ⟨2, ![256, 64]⟩ (ld8 (Val := Elt F) (n := 64) u A k) shapeCasts_S1x256x64_S256x64) = fun k y => u.read (Elt F) A (ix3 k (y 0) (y 1)) := by
    funext k
    rw [show ld8 (Val := Elt F) (n := 64) u A k = hd k (u.read (Elt F) A) from readAt8 u A k, cast_drop]
  exact writesOL v f (fun k y => u.read (Elt F) A (ix3 k (y 0) (y 1))) (h0.trans (congrFun hf 0)) (h1.trans (congrFun hf 1)) (h2.trans (congrFun hf 2)) (h3.trans (congrFun hf 3)) (h4.trans (congrFun hf 4)) (h5.trans (congrFun hf 5)) (h6.trans (congrFun hf 6)) (h7.trans (congrFun hf 7))

/-- A whole buffer replaced or kept, by a printed test. -/
theorem base_full {κ' : Kind} {Val : EltTy → Type} (b : Ref sig κ') (f g : b.ty.Contents Val) {off : Fin b.ty.shape.rank → ℕ}
    (inb : ∀ a, off a + b.ty.shape.size a ≤ b.ty.shape.size a) {q : Prop} [Decidable q] :
    (if _h : q then (View.whole b).writes Val f [⟨Rect.unit off b.ty.shape.size inb, g⟩] else f) = if q then g else f := by
  by_cases h : q
  · rw [dif_pos h, if_pos h]
    exact View.read_writes_full (View.whole b) f inb g []
  · rw [dif_neg h, if_neg h]

theorem iteC {p q : Prop} [Decidable p] [Decidable q] (h : p ↔ q) (s t : St F) : (if p then s.C else t.C) = (if q then s else t).C := by
  by_cases hq : q
  · rw [if_pos (h.mpr hq), if_pos hq]
  · rw [if_neg fun hp => hq (h.mp hp), if_neg hq]
theorem iteA {p q : Prop} [Decidable p] [Decidable q] (h : p ↔ q) (s t : St F) : (if p then s.A else t.A) = (if q then s else t).A := by
  by_cases hq : q
  · rw [if_pos (h.mpr hq), if_pos hq]
  · rw [if_neg fun hp => hq (h.mp hp), if_neg hq]
theorem iteD {p q : Prop} [Decidable p] [Decidable q] (h : p ↔ q) (s t : St F) : (if p then s.D else t.D) = (if q then s else t).D := by
  by_cases hq : q
  · rw [if_pos (h.mpr hq), if_pos hq]
  · rw [if_neg fun hp => hq (h.mp hp), if_neg hq]

end Cert.KernelIdeal.Stick

end
-- ==== Proof.NearPay.lean ====
module

public import proofs.«01_k».proof.Proof.Head

@[expose] public section

noncomputable section

namespace Cert.KernelIdeal.Stick

open Cert.KernelIdeal Cert.KernelIdeal.Gen

open Idealize.ShloMosaic
open Idealize.ShloMosaic.TcCoe Idealize.ShloMosaic.Tactic

variable {F : FTy → Type} [FloatOps F] [Named F]

/-! The printed payloads of one point, each as the head's own function. -/

theorem nearPayT (T : FVec F S256x256 .bf16) : k0_pay11 T = T := castSelf T shapeCasts_S256x256_S256x256
theorem nearPayC0 (qi kj : BitVec 32) (T : FVec F S256x256 .bf16) (Q K : FVec F S1x256x64 .bf16) (c : FVec F S1x256x1 .f32) :
    k0_pay56 (k0_pay33 (k0_pay10 (F := F) qi kj) (k0_pay23 (k0_pay21 (k0_pay12 Q K)) (k0_pay22 (k0_pay12 Q K)))) (k0_pay42 (k0_pay11 T) (k0_pay33 (k0_pay10 (F := F) qi kj) (k0_pay23 (k0_pay21 (k0_pay12 Q K)) (k0_pay22 (k0_pay12 Q K)))) (k0_pay41 (k0_pay10 (F := F) qi kj) (k0_pay23 (k0_pay21 (k0_pay12 Q K)) (k0_pay22 (k0_pay12 Q K))))) c
      = hC (hMask qi kj) (k0_pay11 T) Q K c := rfl
theorem nearPayA0 (qi kj : BitVec 32) (T : FVec F S256x256 .bf16) (Q K V : FVec F S1x256x64 .bf16) (c : FVec F S1x256x1 .f32) (a : FVec F S1x256x64 .f32) :
    k0_pay54 (k0_pay10 (F := F) qi kj) (k0_pay12 Q K) (k0_pay23 (k0_pay21 (k0_pay12 Q K)) (k0_pay22 (k0_pay12 Q K))) (k0_pay42 (k0_pay11 T) (k0_pay33 (k0_pay10 (F := F) qi kj) (k0_pay23 (k0_pay21 (k0_pay12 Q K)) (k0_pay22 (k0_pay12 Q K)))) (k0_pay41 (k0_pay10 (F := F) qi kj) (k0_pay23 (k0_pay21 (k0_pay12 Q K)) (k0_pay22 (k0_pay12 Q K))))) c a V
      = hA (hMask qi kj) (k0_pay11 T) Q K V c a := rfl
theorem nearPayC1 (qi kj : BitVec 32) (T : FVec F S256x256 .bf16) (Q K : FVec F S1x256x64 .bf16) (c : FVec F S1x256x1 .f32) :
    k0_pay60 (k0_pay34 (k0_pay10 (F := F) qi kj) (k0_pay24 (k0_pay13 Q K))) (k0_pay43 (k0_pay11 T) (k0_pay34 (k0_pay10 (F := F) qi kj) (k0_pay24 (k0_pay13 Q K)))) c
      = hC (hMask qi kj) (k0_pay11 T) Q K c := rfl
theorem nearPayA1 (qi kj : BitVec 32) (T : FVec F S256x256 .bf16) (Q K V : FVec F S1x256x64 .bf16) (c : FVec F S1x256x1 .f32) (a : FVec F S1x256x64 .f32) :
    k0_pay58 (k0_pay10 (F := F) qi kj) (k0_pay13 Q K) (k0_pay24 (k0_pay13 Q K)) (k0_pay43 (k0_pay11 T) (k0_pay34 (k0_pay10 (F := F) qi kj) (k0_pay24 (k0_pay13 Q K)))) c a V
      = hA (hMask qi kj) (k0_pay11 T) Q K V c a := rfl
theorem nearPayC2 (qi kj : BitVec 32) (T : FVec F S256x256 .bf16) (Q K : FVec F S1x256x64 .bf16) (c : FVec F S1x256x1 .f32) :
    k0_pay67 (k0_pay35 (k0_pay10 (F := F) qi kj) (k0_pay25 (k0_pay14 Q K))) (k0_pay44 (k0_pay11 T) (k0_pay35 (k0_pay10 (F := F) qi kj) (k0_pay25 (k0_pay14 Q K)))) (k0_pay62 c)
      = hC (hMask qi kj) (k0_pay11 T) Q K c := rfl
theorem nearPayA2 (qi kj : BitVec 32) (T : FVec F S256x256 .bf16) (Q K V : FVec F S1x256x64 .bf16) (c : FVec F S1x256x1 .f32) (a : FVec F S1x256x64 .f32) :
    k0_pay65 (k0_pay63 (k0_pay10 (F := F) qi kj) (k0_pay14 Q K) (k0_pay25 (k0_pay14 Q K)) (k0_pay44 (k0_pay11 T) (k0_pay35 (k0_pay10 (F := F) qi kj) (k0_pay25 (k0_pay14 Q K)))) c) (k0_pay64 a) V
      = hA (hMask qi kj) (k0_pay11 T) Q K V c a := rfl
theorem nearPayC3 (qi kj : BitVec 32) (T : FVec F S256x256 .bf16) (Q K : FVec F S1x256x64 .bf16) (c : FVec F S1x256x1 .f32) :
    k0_pay73 (k0_pay36 (k0_pay10 (F := F) qi kj) (k0_pay26 (k0_pay16 (k0_pay15 Q) K))) (k0_pay45 (k0_pay11 T) (k0_pay36 (k0_pay10 (F := F) qi kj) (k0_pay26 (k0_pay16 (k0_pay15 Q) K)))) (k0_pay69 c)
      = hC (hMask qi kj) (k0_pay11 T) Q K c := rfl
theorem nearPayA3 (qi kj : BitVec 32) (T : FVec F S256x256 .bf16) (Q K V : FVec F S1x256x64 .bf16) (c : FVec F S1x256x1 .f32) (a : FVec F S1x256x64 .f32) :
    k0_pay71 (k0_pay70 (k0_pay10 (F := F) qi kj) (k0_pay16 (k0_pay15 Q) K) (k0_pay26 (k0_pay16 (k0_pay15 Q) K)) (k0_pay45 (k0_pay11 T) (k0_pay36 (k0_pay10 (F := F) qi kj) (k0_pay26 (k0_pay16 (k0_pay15 Q) K)))) c a V)
      = hA (hMask qi kj) (k0_pay11 T) Q K V c a := rfl
theorem nearPayC4 (qi kj : BitVec 32) (T : FVec F S256x256 .bf16) (Q K : FVec F S1x256x64 .bf16) (c : FVec F S1x256x1 .f32) :
    k0_pay77 (k0_pay37 (k0_pay10 (F := F) qi kj) (k0_pay27 (k0_pay17 Q K))) (k0_pay46 (k0_pay11 T) (k0_pay37 (k0_pay10 (F := F) qi kj) (k0_pay27 (k0_pay17 Q K)))) c
      = hC (hMask qi kj) (k0_pay11 T) Q K c := rfl
theorem nearPayA4 (qi kj : BitVec 32) (T : FVec F S256x256 .bf16) (Q K V : FVec F S1x256x64 .bf16) (c : FVec F S1x256x1 .f32) (a : FVec F S1x256x64 .f32) :
    k0_pay75 (k0_pay10 (F := F) qi kj) (k0_pay17 Q K) (k0_pay27 (k0_pay17 Q K)) (k0_pay46 (k0_pay11 T) (k0_pay37 (k0_pay10 (F := F) qi kj) (k0_pay27 (k0_pay17 Q K)))) c a V
      = hA (hMask qi kj) (k0_pay11 T) Q K V c a := rfl
theorem nearPayC5 (qi kj : BitVec 32) (T : FVec F S256x256 .bf16) (Q K : FVec F S1x256x64 .bf16) (c : FVec F S1x256x1 .f32) :
    k0_pay82 (k0_pay38 (k0_pay10 (F := F) qi kj) (k0_pay28 (k0_pay18 Q K)) (k0_pay29 (k0_pay18 Q K))) (k0_pay47 (k0_pay11 T) (k0_pay38 (k0_pay10 (F := F) qi kj) (k0_pay28 (k0_pay18 Q K)) (k0_pay29 (k0_pay18 Q K)))) c
      = hC (hMask qi kj) (k0_pay11 T) Q K c := rfl
theorem nearPayA5 (qi kj : BitVec 32) (T : FVec F S256x256 .bf16) (Q K V : FVec F S1x256x64 .bf16) (c : FVec F S1x256x1 .f32) (a : FVec F S1x256x64 .f32) :
    k0_pay80 (k0_pay10 (F := F) qi kj) (k0_pay18 Q K) (k0_pay30 (k0_pay28 (k0_pay18 Q K)) (k0_pay29 (k0_pay18 Q K))) (k0_pay47 (k0_pay11 T) (k0_pay38 (k0_pay10 (F := F) qi kj) (k0_pay28 (k0_pay18 Q K)) (k0_pay29 (k0_pay18 Q K)))) c a V
      = hA (hMask qi kj) (k0_pay11 T) Q K V c a := rfl
theorem nearPayC6 (qi kj : BitVec 32) (T : FVec F S256x256 .bf16) (Q K : FVec F S1x256x64 .bf16) (c : FVec F S1x256x1 .f32) :
    k0_pay88 (k0_pay39 (k0_pay10 (F := F) qi kj) (k0_pay19 Q K)) (k0_pay51 (k0_pay11 T) (k0_pay49 (k0_pay39 (k0_pay10 (F := F) qi kj) (k0_pay19 Q K))) (k0_pay50 (k0_pay11 T) (k0_pay39 (k0_pay10 (F := F) qi kj) (k0_pay19 Q K))) (constant S256x256 .f32 0#32)) (k0_pay84 c)
      = hC (hMask qi kj) (k0_pay11 T) Q K c := rfl
theorem nearPayA6 (qi kj : BitVec 32) (T : FVec F S256x256 .bf16) (Q K V : FVec F S1x256x64 .bf16) (c : FVec F S1x256x1 .f32) (a : FVec F S1x256x64 .f32) :
    k0_pay86 (k0_pay85 (k0_pay10 (F := F) qi kj) (k0_pay19 Q K) (k0_pay31 (k0_pay19 Q K)) (k0_pay51 (k0_pay11 T) (k0_pay49 (k0_pay39 (k0_pay10 (F := F) qi kj) (k0_pay19 Q K))) (k0_pay50 (k0_pay11 T) (k0_pay39 (k0_pay10 (F := F) qi kj) (k0_pay19 Q K))) (constant S256x256 .f32 0#32)) c) a V
      = hA (hMask qi kj) (k0_pay11 T) Q K V c a := rfl
theorem nearPayC7 (qi kj : BitVec 32) (T : FVec F S256x256 .bf16) (Q K : FVec F S1x256x64 .bf16) (c : FVec F S1x256x1 .f32) :
    k0_pay5 (k0_pay40 (k0_pay10 (F := F) qi kj) (k0_pay20 Q K)) (k0_pay52 (k0_pay11 T) (k0_pay40 (k0_pay10 (F := F) qi kj) (k0_pay20 Q K))) (k0_pay90 c)
      = hC (hMask qi kj) (k0_pay11 T) Q K c := rfl
theorem nearPayA7 (qi kj : BitVec 32) (T : FVec F S256x256 .bf16) (Q K V : FVec F S1x256x64 .bf16) (c : FVec F S1x256x1 .f32) (a : FVec F S1x256x64 .f32) :
    k0_pay3 (k0_pay91 (k0_pay10 (F := F) qi kj) (k0_pay20 Q K) (k0_pay32 (k0_pay20 Q K)) (k0_pay52 (k0_pay11 T) (k0_pay40 (k0_pay10 (F := F) qi kj) (k0_pay20 Q K))) c a V)
      = hA (hMask qi kj) (k0_pay11 T) Q K V c a := rfl
theorem nearPayD (qi kj : BitVec 32) (T : FVec F S256x256 .bf16) (Q K : Fin 8 → FVec F S1x256x64 .bf16) (c : Fin 8 → FVec F S1x256x1 .f32) :
    Scalar.extui (Scalar.cmpf .olt (k0_pay6 (k0_pay40 (k0_pay10 (F := F) qi kj) (k0_pay20 (Q 7) (K 7))) (k0_pay52 (k0_pay11 T) (k0_pay40 (k0_pay10 (F := F) qi kj) (k0_pay20 (Q 7) (K 7)))) (k0_pay89 (k0_pay39 (k0_pay10 (F := F) qi kj) (k0_pay19 (Q 6) (K 6))) (k0_pay51 (k0_pay11 T) (k0_pay49 (k0_pay39 (k0_pay10 (F := F) qi kj) (k0_pay19 (Q 6) (K 6)))) (k0_pay50 (k0_pay11 T) (k0_pay39 (k0_pay10 (F := F) qi kj) (k0_pay19 (Q 6) (K 6)))) (constant S256x256 .f32 0#32)) (k0_pay83 (k0_pay38 (k0_pay10 (F := F) qi kj) (k0_pay28 (k0_pay18 (Q 5) (K 5))) (k0_pay29 (k0_pay18 (Q 5) (K 5)))) (k0_pay47 (k0_pay11 T) (k0_pay38 (k0_pay10 (F := F) qi kj) (k0_pay28 (k0_pay18 (Q 5) (K 5))) (k0_pay29 (k0_pay18 (Q 5) (K 5))))) (k0_pay78 (k0_pay36 (k0_pay10 (F := F) qi kj) (k0_pay26 (k0_pay16 (k0_pay15 (Q 3)) (K 3)))) (k0_pay37 (k0_pay10 (F := F) qi kj) (k0_pay27 (k0_pay17 (Q 4) (K 4)))) (k0_pay45 (k0_pay11 T) (k0_pay36 (k0_pay10 (F := F) qi kj) (k0_pay26 (k0_pay16 (k0_pay15 (Q 3)) (K 3))))) (k0_pay46 (k0_pay11 T) (k0_pay37 (k0_pay10 (F := F) qi kj) (k0_pay27 (k0_pay17 (Q 4) (K 4))))) (k0_pay68 (k0_pay35 (k0_pay10 (F := F) qi kj) (k0_pay25 (k0_pay14 (Q 2) (K 2)))) (k0_pay44 (k0_pay11 T) (k0_pay35 (k0_pay10 (F := F) qi kj) (k0_pay25 (k0_pay14 (Q 2) (K 2))))) (k0_pay61 (k0_pay34 (k0_pay10 (F := F) qi kj) (k0_pay24 (k0_pay13 (Q 1) (K 1)))) (k0_pay43 (k0_pay11 T) (k0_pay34 (k0_pay10 (F := F) qi kj) (k0_pay24 (k0_pay13 (Q 1) (K 1))))) (k0_pay55 (k0_pay33 (k0_pay10 (F := F) qi kj) (k0_pay23 (k0_pay21 (k0_pay12 (Q 0) (K 0))) (k0_pay22 (k0_pay12 (Q 0) (K 0))))) (k0_pay42 (k0_pay11 T) (k0_pay33 (k0_pay10 (F := F) qi kj) (k0_pay23 (k0_pay21 (k0_pay12 (Q 0) (K 0))) (k0_pay22 (k0_pay12 (Q 0) (K 0))))) (k0_pay41 (k0_pay10 (F := F) qi kj) (k0_pay23 (k0_pay21 (k0_pay12 (Q 0) (K 0))) (k0_pay22 (k0_pay12 (Q 0) (K 0)))))) (c 0)) (c 1)) (k0_pay62 (c 2))) (k0_pay69 (c 3)) (c 4)) (c 5)) (k0_pay84 (c 6))) (k0_pay90 (c 7))) (Named.named κ "dead" 0xC2D00000#32))
      = hD fun h => hN (hMask qi kj) (k0_pay11 T) (Q h) (K h) (c h) := rfl
theorem nearPayO0 (a : FVec F S1x256x64 .f32) : k0_pay92 a = shapeCast S256x64 a shapeCasts_S1x256x64_S256x64 := by simp only [k0_pay92, castSelf]
theorem nearPayP0 (c : FVec F S1x256x1 .f32) : k0_pay93 c = shapeCast S256x1 c shapeCasts_S1x256x1_S256x1 := by simp only [k0_pay93, castSelf]
theorem nearPayO1 (a : FVec F S1x256x64 .f32) : k0_pay94 a = shapeCast S256x64 a shapeCasts_S1x256x64_S256x64 := by simp only [k0_pay94, castSelf]
theorem nearPayP1 (c : FVec F S1x256x1 .f32) : k0_pay95 c = shapeCast S256x1 c shapeCasts_S1x256x1_S256x1 := by simp only [k0_pay95, castSelf]
theorem nearPayO2 (a : FVec F S1x256x64 .f32) : k0_pay96 a = shapeCast S256x64 a shapeCasts_S1x256x64_S256x64 := by simp only [k0_pay96, castSelf]
theorem nearPayP2 (c : FVec F S1x256x1 .f32) : k0_pay97 c = shapeCast S256x1 c shapeCasts_S1x256x1_S256x1 := by simp only [k0_pay97, castSelf]
theorem nearPayO3 (a : FVec F S1x256x64 .f32) : k0_pay98 a = shapeCast S256x64 a shapeCasts_S1x256x64_S256x64 := by simp only [k0_pay98, castSelf]
theorem nearPayP3 (c : FVec F S1x256x1 .f32) : k0_pay99 c = shapeCast S256x1 c shapeCasts_S1x256x1_S256x1 := by simp only [k0_pay99, castSelf]
theorem nearPayO4 (a : FVec F S1x256x64 .f32) : k0_pay100 a = shapeCast S256x64 a shapeCasts_S1x256x64_S256x64 := by simp only [k0_pay100, castSelf]
theorem nearPayP4 (c : FVec F S1x256x1 .f32) : k0_pay101 c = shapeCast S256x1 c shapeCasts_S1x256x1_S256x1 := by simp only [k0_pay101, castSelf]
theorem nearPayO5 (a : FVec F S1x256x64 .f32) : k0_pay102 a = shapeCast S256x64 a shapeCasts_S1x256x64_S256x64 := by simp only [k0_pay102, castSelf]
theorem nearPayP5 (c : FVec F S1x256x1 .f32) : k0_pay103 c = shapeCast S256x1 c shapeCasts_S1x256x1_S256x1 := by simp only [k0_pay103, castSelf]
theorem nearPayO6 (a : FVec F S1x256x64 .f32) : k0_pay104 a = shapeCast S256x64 a shapeCasts_S1x256x64_S256x64 := by simp only [k0_pay104, castSelf]
theorem nearPayP6 (c : FVec F S1x256x1 .f32) : k0_pay7 c = shapeCast S256x1 c shapeCasts_S1x256x1_S256x1 := by simp only [k0_pay7, castSelf]
theorem nearPayO7 (a : FVec F S1x256x64 .f32) : k0_pay8 a = shapeCast S256x64 a shapeCasts_S1x256x64_S256x64 := by simp only [k0_pay8, castSelf]
theorem nearPayP7 (c : FVec F S1x256x1 .f32) : k0_pay9 c = shapeCast S256x1 c shapeCasts_S1x256x1_S256x1 := by simp only [k0_pay9, castSelf]

end Cert.KernelIdeal.Stick

end
-- ==== Proof.NearFlag.lean ====
module

public import proofs.«01_k».proof.Proof.Loads
public import proofs.«01_k».proof.Proof.NearBody
public import proofs.«01_k».proof.Proof.NearPay

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-- The word of a point that says the row. -/
abbrev nearQ (c : Dev nD) (i : grid0.Coords) (f : Bf (F := F) c (Memref.whole main_c)) : BitVec 32 := nearRun.sl.r c i f
/-- The word of a point that says the column. -/
abbrev nearK (c : Dev nD) (i : grid0.Coords) (f : Bf (F := F) c (Memref.whole main_c_0)) : BitVec 32 := nearRun.sl.r_1 c i f
/-- The word of a point that says whether the row starts here. -/
abbrev nearFi (c : Dev nD) (i : grid0.Coords) (f : Bf (F := F) c (Memref.whole main_c_1)) : BitVec 32 := nearRun.sl.r_2 c i f
/-- The word of a point that says whether the row ends here. -/
abbrev nearLa (c : Dev nD) (i : grid0.Coords) (f : Bf (F := F) c (Memref.whole main_c_2)) : BitVec 32 := nearRun.sl.r_5 c i f
/-- The flag after a point, from the eight heads taken one by one. -/
theorem nearPayDL (qi kj : BitVec 32) (T : FVec F S256x256 .bf16) (Q K : Fin 8 → FVec F S1x256x64 .bf16) (c : Fin 8 → FVec F S1x256x1 .f32)
    {Q0 Q1 Q2 Q3 Q4 Q5 Q6 Q7 : FVec F S1x256x64 .bf16} (hQ0 : Q0 = Q 0) (hQ1 : Q1 = Q 1) (hQ2 : Q2 = Q 2) (hQ3 : Q3 = Q 3) (hQ4 : Q4 = Q 4) (hQ5 : Q5 = Q 5) (hQ6 : Q6 = Q 6) (hQ7 : Q7 = Q 7)
    {K0 K1 K2 K3 K4 K5 K6 K7 : FVec F S1x256x64 .bf16} (hK0 : K0 = K 0) (hK1 : K1 = K 1) (hK2 : K2 = K 2) (hK3 : K3 = K 3) (hK4 : K4 = K 4) (hK5 : K5 = K 5) (hK6 : K6 = K 6) (hK7 : K7 = K 7)
    {c0 c1 c2 c3 c4 c5 c6 c7 : FVec F S1x256x1 .f32} (hc0 : c0 = c 0) (hc1 : c1 = c 1) (hc2 : c2 = c 2) (hc3 : c3 = c 3) (hc4 : c4 = c 4) (hc5 : c5 = c 5) (hc6 : c6 = c 6) (hc7 : c7 = c 7)
    : Scalar.extui (Scalar.cmpf .olt (k0_pay6 (k0_pay40 (k0_pay10 (F := F) qi kj) (k0_pay20 Q7 K7)) (k0_pay52 (k0_pay11 T) (k0_pay40 (k0_pay10 (F := F) qi kj) (k0_pay20 Q7 K7))) (k0_pay89 (k0_pay39 (k0_pay10 (F := F) qi kj) (k0_pay19 Q6 K6)) (k0_pay51 (k0_pay11 T) (k0_pay49 (k0_pay39 (k0_pay10 (F := F) qi kj) (k0_pay19 Q6 K6))) (k0_pay50 (k0_pay11 T) (k0_pay39 (k0_pay10 (F := F) qi kj) (k0_pay19 Q6 K6))) (constant S256x256 .f32 0#32)) (k0_pay83 (k0_pay38 (k0_pay10 (F := F) qi kj) (k0_pay28 (k0_pay18 Q5 K5)) (k0_pay29 (k0_pay18 Q5 K5))) (k0_pay47 (k0_pay11 T) (k0_pay38 (k0_pay10 (F := F) qi kj) (k0_pay28 (k0_pay18 Q5 K5)) (k0_pay29 (k0_pay18 Q5 K5)))) (k0_pay78 (k0_pay36 (k0_pay10 (F := F) qi kj) (k0_pay26 (k0_pay16 (k0_pay15 Q3) K3))) (k0_pay37 (k0_pay10 (F := F) qi kj) (k0_pay27 (k0_pay17 Q4 K4))) (k0_pay45 (k0_pay11 T) (k0_pay36 (k0_pay10 (F := F) qi kj) (k0_pay26 (k0_pay16 (k0_pay15 Q3) K3)))) (k0_pay46 (k0_pay11 T) (k0_pay37 (k0_pay10 (F := F) qi kj) (k0_pay27 (k0_pay17 Q4 K4)))) (k0_pay68 (k0_pay35 (k0_pay10 (F := F) qi kj) (k0_pay25 (k0_pay14 Q2 K2))) (k0_pay44 (k0_pay11 T) (k0_pay35 (k0_pay10 (F := F) qi kj) (k0_pay25 (k0_pay14 Q2 K2)))) (k0_pay61 (k0_pay34 (k0_pay10 (F := F) qi kj) (k0_pay24 (k0_pay13 Q1 K1))) (k0_pay43 (k0_pay11 T) (k0_pay34 (k0_pay10 (F := F) qi kj) (k0_pay24 (k0_pay13 Q1 K1)))) (k0_pay55 (k0_pay33 (k0_pay10 (F := F) qi kj) (k0_pay23 (k0_pay21 (k0_pay12 Q0 K0)) (k0_pay22 (k0_pay12 Q0 K0)))) (k0_pay42 (k0_pay11 T) (k0_pay33 (k0_pay10 (F := F) qi kj) (k0_pay23 (k0_pay21 (k0_pay12 Q0 K0)) (k0_pay22 (k0_pay12 Q0 K0)))) (k0_pay41 (k0_pay10 (F := F) qi kj) (k0_pay23 (k0_pay21 (k0_pay12 Q0 K0)) (k0_pay22 (k0_pay12 Q0 K0))))) c0) c1) (k0_pay62 c2)) (k0_pay69 c3) c4) c5) (k0_pay84 c6)) (k0_pay90 c7)) (Named.named κ "dead" 0xC2D00000#32))
      = hD fun h => hN (hMask qi kj) (k0_pay11 T) (Q h) (K h) (c h) := by
  subst hQ0
  subst hQ1
  subst hQ2
  subst hQ3
  subst hQ4
  subst hQ5
  subst hQ6
  subst hQ7
  subst hK0
  subst hK1
  subst hK2
  subst hK3
  subst hK4
  subst hK5
  subst hK6
  subst hK7
  subst hc0
  subst hc1
  subst hc2
  subst hc3
  subst hc4
  subst hc5
  subst hc6
  subst hc7
  exact nearPayD qi kj T Q K c

theorem nearFlag (c : Dev nD) (i : grid0.Coords) (f3 : Bf (F := F) c (Memref.whole main_c_1))
    (fC : Bf (F := F) c (Memref.whole cc0_scratch0)) (fA : Bf (F := F) c (Memref.whole cc0_scratch1)) (fD : Bf (F := F) c (Memref.whole cc0_scratch2)) :
    nearRun.sl.r_4 c i f3 fD = (if nearFi c i f3 = 1#32 then nearInit else ⟨fC, fA, fD⟩ : St F).D (ValueIdx.ix1 0) := by
  refine Eq.trans ?_ (congrFun ((base_full cc0_scratch2 fD (fun _ => 0#32) inb_S1_S1_0).trans (iteD (word_test _ _) nearInit ⟨fC, fA, fD⟩)) (ValueIdx.ix1 0))
  exact (congrFun (View.readAt_full (Val := Elt F) (View.whole cc0_scratch2) _ inb_S1_S1_0) _).trans
    (congrArg _ (funext fun a => match a with | ⟨0, _⟩ => rfl))

end Cert.KernelIdeal.Stick

end
-- ==== Proof.NearC.lean ====
module

public import proofs.«01_k».proof.Proof.NearFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem nearRun_C (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c))
    (f2 : Bf (F := F) c (Memref.whole main_c_0))
    (f3 : Bf (F := F) c (Memref.whole main_c_1))
    (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0))
    (fA : Bf (F := F) c (Memref.whole cc0_scratch1))
    (fD : Bf (F := F) c (Memref.whole cc0_scratch2))
    : (nearRun c i M5 h5 M6 h6 M7 h7 M8 h8 M9 h9 M10 h10 f1 f2 f3 f4 X5 X6 X7 X8 f9 f10 fC fA fD).1.C = (stepAt nearInit (nearQ c i f1) (nearK c i f2) (nearFi c i f3) X5 X6 X7 X8 ⟨fC, fA, fD⟩).C := by
  have hD0 := nearFlag c i f3 fC fA fD
  unfold nearRun
  dsimp only
  show _ = (if (if nearFi c i f3 = 1#32 then nearInit else ⟨fC, fA, fD⟩ : St F).D (ValueIdx.ix1 0) = 0#32 then _ else (if nearFi c i f3 = 1#32 then nearInit else ⟨fC, fA, fD⟩ : St F) : St F).C
  by_cases h4 : nearRun.sl.r_4 c i f3 fD = 0#32
  · rw [if_pos (hD0.symm.trans h4)]
    refine (dif_pos ((word_test _ _).mpr h4)).trans ?_
    refine (View.read_whole (Val := Elt F) cc0_scratch0 _).symm.trans ?_
    refine (stepC (View.whole cc0_scratch0) _ (hMask (nearQ c i f1) (nearK c i f2)) (k0_pay11 (ldT M8 X8)) (ldQ M5 X5) (ldQ M6 X6) (nearPayC0 _ _ _ _ _ _) (nearPayC1 _ _ _ _ _ _) (nearPayC2 _ _ _ _ _ _) (nearPayC3 _ _ _ _ _ _) (nearPayC4 _ _ _ _ _ _) (nearPayC5 _ _ _ _ _ _) (nearPayC6 _ _ _ _ _ _) (nearPayC7 _ _ _ _ _ _)).trans ?_
    have hT : k0_pay11 (ldT M8 X8) = X8 := (nearPayT _).trans (ldT_eq M8 X8)
    have hq : ldQ M5 X5 = fun k => hd k X5 := funext fun k => ldQ_eq M5 X5 k
    have hk : ldQ M6 X6 = fun k => hd k X6 := funext fun k => ldQ_eq M6 X6 k
    rw [hT, hq, hk]
    exact congrArg (fun b : S8x256x1.Idx → F .f32 => unhd fun k => hC (hMask (nearQ c i f1) (nearK c i f2)) X8 (hd k X5) (hd k X6) (hd k b)) ((base_full cc0_scratch0 fC _ _).trans (iteC (word_test _ _) nearInit ⟨fC, fA, fD⟩))
  · rw [if_neg fun h => h4 (hD0.trans h)]
    refine (dif_neg fun h => h4 ((word_test _ _).mp h)).trans ?_
    exact ((base_full cc0_scratch0 fC _ _).trans (iteC (word_test _ _) nearInit ⟨fC, fA, fD⟩))

end Cert.KernelIdeal.Stick

end
-- ==== Proof.NearA.lean ====
module

public import proofs.«01_k».proof.Proof.NearFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem nearRun_A (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c))
    (f2 : Bf (F := F) c (Memref.whole main_c_0))
    (f3 : Bf (F := F) c (Memref.whole main_c_1))
    (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0))
    (fA : Bf (F := F) c (Memref.whole cc0_scratch1))
    (fD : Bf (F := F) c (Memref.whole cc0_scratch2))
    : (nearRun c i M5 h5 M6 h6 M7 h7 M8 h8 M9 h9 M10 h10 f1 f2 f3 f4 X5 X6 X7 X8 f9 f10 fC fA fD).1.A = (stepAt nearInit (nearQ c i f1) (nearK c i f2) (nearFi c i f3) X5 X6 X7 X8 ⟨fC, fA, fD⟩).A := by
  have hD0 := nearFlag c i f3 fC fA fD
  unfold nearRun
  dsimp only
  show _ = (if (if nearFi c i f3 = 1#32 then nearInit else ⟨fC, fA, fD⟩ : St F).D (ValueIdx.ix1 0) = 0#32 then _ else (if nearFi c i f3 = 1#32 then nearInit else ⟨fC, fA, fD⟩ : St F) : St F).A
  by_cases h4 : nearRun.sl.r_4 c i f3 fD = 0#32
  · rw [if_pos (hD0.symm.trans h4)]
    refine (dif_pos ((word_test _ _).mpr h4)).trans ?_
    refine (View.read_whole (Val := Elt F) cc0_scratch1 _).symm.trans ?_
    refine (stepA (View.whole cc0_scratch1) _ (hMask (nearQ c i f1) (nearK c i f2)) (k0_pay11 (ldT M8 X8)) (ldQ M5 X5) (ldQ M6 X6) (ldQ M7 X7) (fun k => ld8 (Val := Elt F) (n := 1) (View.whole cc0_scratch0) _ k) (nearPayA0 _ _ _ _ _ _ _ _) (nearPayA1 _ _ _ _ _ _ _ _) (nearPayA2 _ _ _ _ _ _ _ _) (nearPayA3 _ _ _ _ _ _ _ _) (nearPayA4 _ _ _ _ _ _ _ _) (nearPayA5 _ _ _ _ _ _ _ _) (nearPayA6 _ _ _ _ _ _ _ _) (nearPayA7 _ _ _ _ _ _ _ _)).trans ?_
    have hT : k0_pay11 (ldT M8 X8) = X8 := (nearPayT _).trans (ldT_eq M8 X8)
    have hq : ldQ M5 X5 = fun k => hd k X5 := funext fun k => ldQ_eq M5 X5 k
    have hk : ldQ M6 X6 = fun k => hd k X6 := funext fun k => ldQ_eq M6 X6 k
    have hv : ldQ M7 X7 = fun k => hd k X7 := funext fun k => ldQ_eq M7 X7 k
    rw [hT, hq, hk, hv]
    refine (congrArg (fun b : S8x256x64.Idx → F .f32 => unhd fun k => hA (hMask (nearQ c i f1) (nearK c i f2)) X8 (hd k X5) (hd k X6) (hd k X7) (ld8 (Val := Elt F) (n := 1) (View.whole cc0_scratch0) _ k) (hd k b)) ((base_full cc0_scratch1 fA _ _).trans (iteA (word_test _ _) nearInit ⟨fC, fA, fD⟩))).trans ?_
    show unhd _ = unhd (fun k => hA (hMask (nearQ c i f1) (nearK c i f2)) X8 (hd k X5) (hd k X6) (hd k X7) (hd k (if nearFi c i f3 = 1#32 then nearInit else ⟨fC, fA, fD⟩ : St F).C) (hd k (if nearFi c i f3 = 1#32 then nearInit else ⟨fC, fA, fD⟩ : St F).A))
    refine congrArg unhd (funext fun k => ?_)
    exact congrArg (fun b : S1x256x1.Idx → F .f32 => hA (hMask (nearQ c i f1) (nearK c i f2)) X8 (hd k X5) (hd k X6) (hd k X7) b _)
      ((readAt8 (Val := Elt F) (n := 1) (View.whole cc0_scratch0) _ k).trans (congrArg (hd k) ((base_full cc0_scratch0 fC _ _).trans (iteC (word_test _ _) nearInit ⟨fC, fA, fD⟩))))
  · rw [if_neg fun h => h4 (hD0.trans h)]
    refine (dif_neg fun h => h4 ((word_test _ _).mp h)).trans ?_
    exact ((base_full cc0_scratch1 fA _ _).trans (iteA (word_test _ _) nearInit ⟨fC, fA, fD⟩))

end Cert.KernelIdeal.Stick

end
-- ==== Proof.NearD.lean ====
module

public import proofs.«01_k».proof.Proof.NearFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-- The flag from heads, masks and tiles that agree. -/
theorem nearD_congr {m : IVec S256x256 1} {T T' : FVec F S256x256 .bf16} {Q Q' K K' : Fin 8 → FVec F S1x256x64 .bf16} {c c' : Fin 8 → FVec F S1x256x1 .f32}
    (hT : T = T') (hQ : ∀ k, Q k = Q' k) (hK : ∀ k, K k = K' k) (hc : ∀ k, c k = c' k) :
    (hD fun h => hN m T (Q h) (K h) (c h)) = hD fun h => hN m T' (Q' h) (K' h) (c' h) := by
  subst hT
  obtain rfl := funext hQ
  obtain rfl := funext hK
  obtain rfl := funext hc
  rfl

set_option maxHeartbeats 1600000 in
theorem nearRun_D (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c))
    (f2 : Bf (F := F) c (Memref.whole main_c_0))
    (f3 : Bf (F := F) c (Memref.whole main_c_1))
    (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0))
    (fA : Bf (F := F) c (Memref.whole cc0_scratch1))
    (fD : Bf (F := F) c (Memref.whole cc0_scratch2))
    : (nearRun c i M5 h5 M6 h6 M7 h7 M8 h8 M9 h9 M10 h10 f1 f2 f3 f4 X5 X6 X7 X8 f9 f10 fC fA fD).1.D = (stepAt nearInit (nearQ c i f1) (nearK c i f2) (nearFi c i f3) X5 X6 X7 X8 ⟨fC, fA, fD⟩).D := by
  have hD0 := nearFlag c i f3 fC fA fD
  unfold nearRun
  dsimp only
  show _ = (if (if nearFi c i f3 = 1#32 then nearInit else ⟨fC, fA, fD⟩ : St F).D (ValueIdx.ix1 0) = 0#32 then _ else (if nearFi c i f3 = 1#32 then nearInit else ⟨fC, fA, fD⟩ : St F) : St F).D
  by_cases h4 : nearRun.sl.r_4 c i f3 fD = 0#32
  · rw [if_pos (hD0.symm.trans h4)]
    refine (dif_pos ((word_test _ _).mpr h4)).trans ?_
    refine (View.read_whole (Val := Elt F) cc0_scratch2 _).symm.trans ?_
    refine (View.read_writes_full (Val := Elt F) (View.whole cc0_scratch2) _ inb_S1_S1_0 _ []).trans ?_
    refine funext fun _ => ?_
    refine Eq.trans (nearPayDL _ _ _ (ldQ M5 X5) (ldQ M6 X6) (fun k => ld8 (Val := Elt F) (n := 1) (View.whole cc0_scratch0) ?b k) ?h0 ?h1 ?h2 ?h3 ?h4 ?h5 ?h6 ?h7 ?h8 ?h9 ?h10 ?h11 ?h12 ?h13 ?h14 ?h15 ?h16 ?h17 ?h18 ?h19 ?h20 ?h21 ?h22 ?h23) ?fin
    case h0 => rfl
    case h1 => rfl
    case h2 => rfl
    case h3 => rfl
    case h4 => rfl
    case h5 => rfl
    case h6 => rfl
    case h7 => rfl
    case h8 => rfl
    case h9 => rfl
    case h10 => rfl
    case h11 => rfl
    case h12 => rfl
    case h13 => rfl
    case h14 => rfl
    case h15 => rfl
    case h16 => rfl
    case h17 => rfl
    case h18 => rfl
    case h19 => rfl
    case h20 => rfl
    case h21 => rfl
    case h22 => rfl
    case h23 => rfl
    refine nearD_congr (T' := X8) (Q' := fun k => hd k X5) (K' := fun k => hd k X6) (c' := fun k => hd k (if nearFi c i f3 = 1#32 then nearInit else ⟨fC, fA, fD⟩ : St F).C) ?_ ?_ ?_ ?_
    · exact (nearPayT _).trans (ldT_eq M8 X8)
    · exact fun k => ldQ_eq M5 X5 k
    · exact fun k => ldQ_eq M6 X6 k
    · exact fun k => (readAt8 (Val := Elt F) (n := 1) (View.whole cc0_scratch0) _ k).trans (congrArg (hd k) ((base_full cc0_scratch0 fC _ _).trans (iteC (word_test _ _) nearInit ⟨fC, fA, fD⟩)))
  · rw [if_neg fun h => h4 (hD0.trans h)]
    refine (dif_neg fun h => h4 ((word_test _ _).mp h)).trans ?_
    exact ((base_full cc0_scratch2 fD _ _).trans (iteD (word_test _ _) nearInit ⟨fC, fA, fD⟩))

end Cert.KernelIdeal.Stick

end
-- ==== Proof.NearOut.lean ====
module

public import proofs.«01_k».proof.Proof.NearC
public import proofs.«01_k».proof.Proof.NearA

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem nearRun_o (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c))
    (f2 : Bf (F := F) c (Memref.whole main_c_0))
    (f3 : Bf (F := F) c (Memref.whole main_c_1))
    (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0))
    (fA : Bf (F := F) c (Memref.whole cc0_scratch1))
    (fD : Bf (F := F) c (Memref.whole cc0_scratch2))
    : M9.view.read (Elt F) (nearRun c i M5 h5 M6 h6 M7 h7 M8 h8 M9 h9 M10 h10 f1 f2 f3 f4 X5 X6 X7 X8 f9 f10 fC fA fD).1.o
      = if nearLa c i f4 = 1#32 then accBlk (stepAt nearInit (nearQ c i f1) (nearK c i f2) (nearFi c i f3) X5 X6 X7 X8 ⟨fC, fA, fD⟩).A else M9.view.read (Elt F) f9 := by
  rw [← nearRun_A c i M5 h5 M6 h6 M7 h7 M8 h8 M9 h9 M10 h10 f1 f2 f3 f4 X5 X6 X7 X8 f9 f10 fC fA fD]
  unfold nearRun
  dsimp only
  by_cases h : nearLa c i f4 = 1#32
  · rw [if_pos h]
    refine (congrArg (M9.view.read (Elt F)) (dif_pos ((word_test _ _).mpr h))).trans ?_
    refine (emitO M9.view f9 (View.whole cc0_scratch1) _ (nearPayO0 _) (nearPayO1 _) (nearPayO2 _) (nearPayO3 _) (nearPayO4 _) (nearPayO5 _) (nearPayO6 _) (nearPayO7 _)).trans ?_
    exact congrArg accBlk (View.read_whole (Val := Elt F) cc0_scratch1 _)
  · rw [if_neg h]
    exact congrArg (M9.view.read (Elt F)) (dif_neg fun h' => h ((word_test _ _).mp h'))

set_option maxHeartbeats 1600000 in
theorem nearRun_p (c : Dev nD) (i : grid0.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (f1 : Bf (F := F) c (Memref.whole main_c))
    (f2 : Bf (F := F) c (Memref.whole main_c_0))
    (f3 : Bf (F := F) c (Memref.whole main_c_1))
    (f4 : Bf (F := F) c (Memref.whole main_c_2))
    (X5 X6 X7 : S8x256x64.Idx → Elt F .bf16) (X8 : S256x256.Idx → Elt F .bf16)
    (f9 : Bf (F := F) c M9) (f10 : Bf (F := F) c M10)
    (fC : Bf (F := F) c (Memref.whole cc0_scratch0))
    (fA : Bf (F := F) c (Memref.whole cc0_scratch1))
    (fD : Bf (F := F) c (Memref.whole cc0_scratch2))
    : M10.view.read (Elt F) (nearRun c i M5 h5 M6 h6 M7 h7 M8 h8 M9 h9 M10 h10 f1 f2 f3 f4 X5 X6 X7 X8 f9 f10 fC fA fD).1.p
      = if nearLa c i f4 = 1#32 then carryBlk (stepAt nearInit (nearQ c i f1) (nearK c i f2) (nearFi c i f3) X5 X6 X7 X8 ⟨fC, fA, fD⟩).C else M10.view.read (Elt F) f10 := by
  rw [← nearRun_C c i M5 h5 M6 h6 M7 h7 M8 h8 M9 h9 M10 h10 f1 f2 f3 f4 X5 X6 X7 X8 f9 f10 fC fA fD]
  unfold nearRun
  dsimp only
  by_cases h : nearLa c i f4 = 1#32
  · rw [if_pos h]
    refine (congrArg (M10.view.read (Elt F)) (dif_pos ((word_test _ _).mpr h))).trans ?_
    refine (emitP M10.view f10 (View.whole cc0_scratch0) _ (nearPayP0 _) (nearPayP1 _) (nearPayP2 _) (nearPayP3 _) (nearPayP4 _) (nearPayP5 _) (nearPayP6 _) (nearPayP7 _)).trans ?_
    exact congrArg carryBlk (View.read_whole (Val := Elt F) cc0_scratch0 _)
  · rw [if_neg h]
    exact congrArg (M10.view.read (Elt F)) (dif_neg fun h' => h ((word_test _ _).mp h'))

end Cert.KernelIdeal.Stick

end
-- ==== Proof.Lits.lean ====
module

public import proofs.«01_k».proof.Proof.Head
public import proofs.«01_k».proof.Proof.Gen.KernelIdeal.Launch
public import Idealize.ShloMosaic.Lib.Affine
public import Idealize.ShloMosaic.Lib.Pipeline.TableIdle

@[expose] public section

noncomputable section

namespace Cert.KernelIdeal.Stick

open Cert.KernelIdeal Cert.KernelIdeal.Gen
open Idealize.ShloMosaic Idealize.ShloMosaic.TcCoe

variable {F : FTy → Type} [FloatOps F] [Named F]

theorem lit0_lt : ∀ t : Fin 127, (lit0 t).toNat < 64 := by decide +kernel
theorem lit1_lt : ∀ t : Fin 127, (lit1 t).toNat < 64 := by decide +kernel
theorem lit2_zero : lit2 0 = 1#32 := by decide +kernel
/-- A row's last point is where the row changes. -/
theorem lit0_turn : ∀ t : Fin 127, lit3 t = 1#32 ↔ (t.val + 1 = 127 ∨ ∃ h : t.val + 1 < 127, lit0 ⟨t.val + 1, h⟩ ≠ lit0 t) := by decide +kernel
/-- No row ends twice. -/
theorem lit0_once : ∀ t : Fin 127, lit3 t = 1#32 → ∀ h : t.val + 1 < 127, (lit0 t).toNat < (lit0 ⟨t.val + 1, h⟩).toNat := by decide +kernel
theorem lit0_mono : ∀ t : Fin 127, ∀ h : t.val + 1 < 127, (lit0 t).toNat ≤ (lit0 ⟨t.val + 1, h⟩).toNat := by decide +kernel

theorem coords0 : ∀ t : Fin grid0.N, ((grid0.coords t) 0).val = t.val := by decide +kernel

theorem lit4_lt : ∀ t : Fin 1953, (lit4 t).toNat < 64 := by decide +kernel
theorem lit5_lt : ∀ t : Fin 1953, (lit5 t).toNat < 64 := by decide +kernel
theorem lit6_zero : lit6 0 = 1#32 := by decide +kernel
/-- A row's last point is where the row changes. -/
theorem lit4_turn : ∀ t : Fin 1953, lit7 t = 1#32 ↔ (t.val + 1 = 1953 ∨ ∃ h : t.val + 1 < 1953, lit4 ⟨t.val + 1, h⟩ ≠ lit4 t) := by decide +kernel
/-- No row ends twice. -/
theorem lit4_once : ∀ t : Fin 1953, lit7 t = 1#32 → ∀ h : t.val + 1 < 1953, (lit4 t).toNat < (lit4 ⟨t.val + 1, h⟩).toNat := by decide +kernel
theorem lit4_mono : ∀ t : Fin 1953, ∀ h : t.val + 1 < 1953, (lit4 t).toNat ≤ (lit4 ⟨t.val + 1, h⟩).toNat := by decide +kernel

theorem coords1 : ∀ t : Fin grid1.N, ((grid1.coords t) 0).val = t.val := by decide +kernel

end Cert.KernelIdeal.Stick

end
-- ==== Proof.Tables.lean ====
module

public import proofs.«01_k».proof.Proof.Lits
public import proofs.«01_k».proof.Proof.Gen.KernelIdeal.Launch
public import Idealize.ShloMosaic.Lib.Affine
public import Idealize.ShloMosaic.Lib.Pipeline.TableIdle

@[expose] public section

noncomputable section

namespace Cert.KernelIdeal.Stick

open Cert.KernelIdeal Cert.KernelIdeal.Gen
open Idealize.ShloMosaic Idealize.ShloMosaic.TcCoe

variable {F : FTy → Type} [FloatOps F] [Named F]

/-- The tables of region 0, as the program writes them. -/
def tab0 : pre0.Contents (Elt F) := fun
  | 0 => fun i => lit0 (S127.rowMajor i)
  | 1 => fun i => lit1 (S127.rowMajor i)
  | 2 => fun i => lit2 (S127.rowMajor i)
  | 3 => fun i => lit3 (S127.rowMajor i)
  | ⟨_ + 4, h⟩ => absurd h (Nat.not_lt.2 (Nat.le_add_left _ _))

theorem word0 (l : Fin 127 → BitVec 32) (i : grid0.Coords) (j : S127.Idx) (hj : (j 0).val = (BitVec.ofNat 32 (i 0).val).toNat) :
    l (S127.rowMajor j) = l (i 0) := by
  refine congrArg l (Fin.ext ?_)
  have hi : (i 0).val < 127 := (i 0).isLt
  refine (Shape.rowMajor_val_one j).trans (hj.trans ?_)
  rw [BitVec.toNat_ofNat]
  exact Nat.mod_eq_of_lt (by omega)

theorem pos0 (i : grid0.Coords) : (((Rect.unit (s := S127) (k0_off1 i) S1.size (k0_off1_inb i)).point numel1_S1) 0).val = (BitVec.ofNat 32 (i 0).val).toNat := by
  rw [Rect.point, Rect.emb_apply]
  rfl

theorem row0 (i : grid0.Coords) : (tab0 (F := F)).at 0 (Rect.unit (s := S127) (k0_off1 i) S1.size (k0_off1_inb i)) numel1_S1 = lit0 (i 0) :=
  word0 lit0 i _ (pos0 i)
theorem col0 (i : grid0.Coords) : (tab0 (F := F)).at 1 (Rect.unit (s := S127) (k0_off1 i) S1.size (k0_off1_inb i)) numel1_S1 = lit1 (i 0) :=
  word0 lit1 i _ (pos0 i)
theorem last0 (i : grid0.Coords) : (tab0 (F := F)).atD 3 (k0_off2 i) = lit3 (i 0) := by
  have h : ∀ a, (k0_off2 i) a + 1 ≤ S127.size a := fun a => match a with | ⟨0, _⟩ => (k0_off1_inb i 0 : (k0_off1 i) 0 + 1 ≤ 127)
  unfold Pipeline.Prefetch.Contents.atD
  refine (dif_pos h).trans ?_
  exact word0 lit3 i _ rfl

theorem ix0_0 (i : grid0.Coords) : cc0_transform_0 k0_off1_inb numel1_S1 (tab0 (F := F)) i = ![0, (lit0 (i 0)).toNat, 0] :=
  congrArg (fun v : BitVec 32 => (![0, v.toNat, 0] : Fin 3 → ℕ)) (row0 (F := F) i)
theorem in0_0 (i : grid0.Coords) : ∀ a, (cc0_transform_0 k0_off1_inb numel1_S1 (tab0 (F := F)) i a + 1) * S8x256x64.size a ≤ S8x16384x64.size a := by
  rw [ix0_0]
  have h := lit0_lt (i 0)
  intro a
  match a with
  | ⟨0, _⟩ => exact (show (0 + 1) * 8 ≤ 8 by decide)
  | ⟨1, _⟩ => exact (show ((lit0 (i 0)).toNat + 1) * 256 ≤ 16384 by omega)
  | ⟨2, _⟩ => exact (show (0 + 1) * 64 ≤ 64 by decide)
theorem ix0_1 (i : grid0.Coords) : cc0_transform_1 k0_off1_inb numel1_S1 (tab0 (F := F)) i = ![0, (lit1 (i 0)).toNat, 0] :=
  congrArg (fun v : BitVec 32 => (![0, v.toNat, 0] : Fin 3 → ℕ)) (col0 (F := F) i)
theorem in0_1 (i : grid0.Coords) : ∀ a, (cc0_transform_1 k0_off1_inb numel1_S1 (tab0 (F := F)) i a + 1) * S8x256x64.size a ≤ S8x16384x64.size a := by
  rw [ix0_1]
  have h := lit1_lt (i 0)
  intro a
  match a with
  | ⟨0, _⟩ => exact (show (0 + 1) * 8 ≤ 8 by decide)
  | ⟨1, _⟩ => exact (show ((lit1 (i 0)).toNat + 1) * 256 ≤ 16384 by omega)
  | ⟨2, _⟩ => exact (show (0 + 1) * 64 ≤ 64 by decide)
theorem ix0_2 (i : grid0.Coords) : cc0_transform_2 k0_off1_inb numel1_S1 (tab0 (F := F)) i = ![0, (lit1 (i 0)).toNat, 0] :=
  congrArg (fun v : BitVec 32 => (![0, v.toNat, 0] : Fin 3 → ℕ)) (col0 (F := F) i)
theorem in0_2 (i : grid0.Coords) : ∀ a, (cc0_transform_2 k0_off1_inb numel1_S1 (tab0 (F := F)) i a + 1) * S8x256x64.size a ≤ S8x16384x64.size a := by
  rw [ix0_2]
  have h := lit1_lt (i 0)
  intro a
  match a with
  | ⟨0, _⟩ => exact (show (0 + 1) * 8 ≤ 8 by decide)
  | ⟨1, _⟩ => exact (show ((lit1 (i 0)).toNat + 1) * 256 ≤ 16384 by omega)
  | ⟨2, _⟩ => exact (show (0 + 1) * 64 ≤ 64 by decide)
theorem ix0_4 (i : grid0.Coords) : cc0_transform_4 k0_off1_inb numel1_S1 (tab0 (F := F)) i = ![(lit0 (i 0)).toNat, 0] :=
  congrArg (fun v : BitVec 32 => (![v.toNat, 0] : Fin 2 → ℕ)) (row0 (F := F) i)
theorem in0_4 (i : grid0.Coords) : ∀ a, (cc0_transform_4 k0_off1_inb numel1_S1 (tab0 (F := F)) i a + 1) * S256x512.size a ≤ S16384x512.size a := by
  rw [ix0_4]
  have h := lit0_lt (i 0)
  intro a
  match a with
  | ⟨0, _⟩ => exact (show ((lit0 (i 0)).toNat + 1) * 256 ≤ 16384 by omega)
  | ⟨1, _⟩ => exact (show (0 + 1) * 512 ≤ 512 by decide)
theorem ix0_5 (i : grid0.Coords) : cc0_transform_5 k0_off1_inb numel1_S1 (tab0 (F := F)) i = ![(lit0 (i 0)).toNat, 0] :=
  congrArg (fun v : BitVec 32 => (![v.toNat, 0] : Fin 2 → ℕ)) (row0 (F := F) i)
theorem in0_5 (i : grid0.Coords) : ∀ a, (cc0_transform_5 k0_off1_inb numel1_S1 (tab0 (F := F)) i a + 1) * S256x8.size a ≤ S16384x8.size a := by
  rw [ix0_5]
  have h := lit0_lt (i 0)
  intro a
  match a with
  | ⟨0, _⟩ => exact (show ((lit0 (i 0)).toNat + 1) * 256 ≤ 16384 by omega)
  | ⟨1, _⟩ => exact (show (0 + 1) * 8 ≤ 8 by decide)

theorem row0_le (n : ℕ) : ∀ (k : ℕ) (h : n + k < 127), (lit0 ⟨n, by omega⟩).toNat ≤ (lit0 ⟨n + k, h⟩).toNat
  | 0, _ => le_refl _
  | k + 1, h => (row0_le n k (by omega)).trans (lit0_mono ⟨n + k, by omega⟩ h)
/-- After a row has ended it does not come back. -/
theorem row0_lt (t u : Fin 127) (h : t.val < u.val) (hl : lit3 t = 1#32) : (lit0 t).toNat < (lit0 u).toNat := by
  have h1 : t.val + 1 < 127 := by omega
  refine (lit0_once t hl h1).trans_le ?_
  have := row0_le (t.val + 1) (u.val - (t.val + 1)) (by omega)
  rwa [show (⟨t.val + 1 + (u.val - (t.val + 1)), by omega⟩ : Fin 127) = u from Fin.ext (by simp only; omega)] at this
theorem at0 (t : Fin grid0.N) : (grid0.coords t) 0 = (⟨t.val, t.isLt.trans_eq N_0⟩ : Fin 127) := Fin.ext (coords0 t)
theorem turn0 (t : Fin grid0.N) (ix : grid0.Coords → Fin 2 → ℕ) (hix : ∀ i, ix i = ![(lit0 (i 0)).toNat, 0]) :
    (decide (t.val + 1 = grid0.N) || decide (∃ h : t.val + 1 < grid0.N, ix (grid0.coords ⟨t.val + 1, h⟩) ≠ ix (grid0.coords t))) = decide (lit3 ⟨t.val, t.isLt.trans_eq N_0⟩ = 1#32) := by
  rw [← Bool.decide_or]
  refine decide_eq_decide.mpr (Iff.symm ((lit0_turn _).trans ?_))
  have hN : grid0.N = 127 := N_0
  refine or_congr ⟨fun h => h.trans hN.symm, fun h => h.trans hN⟩ ⟨fun ⟨h, hn⟩ => ⟨h.trans_eq hN.symm, fun e => hn ?_⟩, fun ⟨h, hn⟩ => ⟨h.trans_eq hN, fun e => hn ?_⟩⟩
  · rw [hix, hix, at0, at0] at e
    exact BitVec.eq_of_toNat_eq (congrFun e 0)
  · rw [hix, hix, at0, at0]
    exact congrArg (fun v : BitVec 32 => (![v.toNat, 0] : Fin 2 → ℕ)) e

theorem ok_tab0 : ok0 (tab0 (F := F)) := by
  refine ⟨?_, ?_, ?_, ?_, ?_⟩
  · exact fun i => ⟨in0_0 i, .inr (Affine.block_words_dvd (of_decide_eq_true rfl) (by decide))⟩
  · exact fun i => ⟨in0_1 i, .inr (Affine.block_words_dvd (of_decide_eq_true rfl) (by decide))⟩
  · exact fun i => ⟨in0_2 i, .inr (Affine.block_words_dvd (of_decide_eq_true rfl) (by decide))⟩
  · exact fun i => ⟨in0_4 i, .inl rfl⟩
  · exact fun i => ⟨in0_5 i, .inl rfl⟩

/-- The tables of region 0 as admissible contents. -/
def adm0 : (pcfg0 (F := F)).Adm := ⟨tab0, ok_tab0⟩

/-- The tables of region 1, as the program writes them. -/
def tab1 : pre1.Contents (Elt F) := fun
  | 0 => fun i => lit4 (S1953.rowMajor i)
  | 1 => fun i => lit5 (S1953.rowMajor i)
  | 2 => fun i => lit6 (S1953.rowMajor i)
  | 3 => fun i => lit7 (S1953.rowMajor i)
  | ⟨_ + 4, h⟩ => absurd h (Nat.not_lt.2 (Nat.le_add_left _ _))

theorem word1 (l : Fin 1953 → BitVec 32) (i : grid1.Coords) (j : S1953.Idx) (hj : (j 0).val = (BitVec.ofNat 32 (i 0).val).toNat) :
    l (S1953.rowMajor j) = l (i 0) := by
  refine congrArg l (Fin.ext ?_)
  have hi : (i 0).val < 1953 := (i 0).isLt
  refine (Shape.rowMajor_val_one j).trans (hj.trans ?_)
  rw [BitVec.toNat_ofNat]
  exact Nat.mod_eq_of_lt (by omega)

theorem pos1 (i : grid1.Coords) : (((Rect.unit (s := S1953) (k1_off1 i) S1.size (k1_off1_inb i)).point numel1_S1) 0).val = (BitVec.ofNat 32 (i 0).val).toNat := by
  rw [Rect.point, Rect.emb_apply]
  rfl

theorem row1 (i : grid1.Coords) : (tab1 (F := F)).at 0 (Rect.unit (s := S1953) (k1_off1 i) S1.size (k1_off1_inb i)) numel1_S1 = lit4 (i 0) :=
  word1 lit4 i _ (pos1 i)
theorem col1 (i : grid1.Coords) : (tab1 (F := F)).at 1 (Rect.unit (s := S1953) (k1_off1 i) S1.size (k1_off1_inb i)) numel1_S1 = lit5 (i 0) :=
  word1 lit5 i _ (pos1 i)
theorem last1 (i : grid1.Coords) : (tab1 (F := F)).atD 3 (k1_off2 i) = lit7 (i 0) := by
  have h : ∀ a, (k1_off2 i) a + 1 ≤ S1953.size a := fun a => match a with | ⟨0, _⟩ => (k1_off1_inb i 0 : (k1_off1 i) 0 + 1 ≤ 1953)
  unfold Pipeline.Prefetch.Contents.atD
  refine (dif_pos h).trans ?_
  exact word1 lit7 i _ rfl

theorem ix1_0 (i : grid1.Coords) : cc1_transform_0 k1_off1_inb numel1_S1 (tab1 (F := F)) i = ![0, (lit4 (i 0)).toNat, 0] :=
  congrArg (fun v : BitVec 32 => (![0, v.toNat, 0] : Fin 3 → ℕ)) (row1 (F := F) i)
theorem in1_0 (i : grid1.Coords) : ∀ a, (cc1_transform_0 k1_off1_inb numel1_S1 (tab1 (F := F)) i a + 1) * S8x256x64.size a ≤ S8x16384x64.size a := by
  rw [ix1_0]
  have h := lit4_lt (i 0)
  intro a
  match a with
  | ⟨0, _⟩ => exact (show (0 + 1) * 8 ≤ 8 by decide)
  | ⟨1, _⟩ => exact (show ((lit4 (i 0)).toNat + 1) * 256 ≤ 16384 by omega)
  | ⟨2, _⟩ => exact (show (0 + 1) * 64 ≤ 64 by decide)
theorem ix1_1 (i : grid1.Coords) : cc1_transform_1 k1_off1_inb numel1_S1 (tab1 (F := F)) i = ![0, (lit5 (i 0)).toNat, 0] :=
  congrArg (fun v : BitVec 32 => (![0, v.toNat, 0] : Fin 3 → ℕ)) (col1 (F := F) i)
theorem in1_1 (i : grid1.Coords) : ∀ a, (cc1_transform_1 k1_off1_inb numel1_S1 (tab1 (F := F)) i a + 1) * S8x256x64.size a ≤ S8x16384x64.size a := by
  rw [ix1_1]
  have h := lit5_lt (i 0)
  intro a
  match a with
  | ⟨0, _⟩ => exact (show (0 + 1) * 8 ≤ 8 by decide)
  | ⟨1, _⟩ => exact (show ((lit5 (i 0)).toNat + 1) * 256 ≤ 16384 by omega)
  | ⟨2, _⟩ => exact (show (0 + 1) * 64 ≤ 64 by decide)
theorem ix1_2 (i : grid1.Coords) : cc1_transform_2 k1_off1_inb numel1_S1 (tab1 (F := F)) i = ![0, (lit5 (i 0)).toNat, 0] :=
  congrArg (fun v : BitVec 32 => (![0, v.toNat, 0] : Fin 3 → ℕ)) (col1 (F := F) i)
theorem in1_2 (i : grid1.Coords) : ∀ a, (cc1_transform_2 k1_off1_inb numel1_S1 (tab1 (F := F)) i a + 1) * S8x256x64.size a ≤ S8x16384x64.size a := by
  rw [ix1_2]
  have h := lit5_lt (i 0)
  intro a
  match a with
  | ⟨0, _⟩ => exact (show (0 + 1) * 8 ≤ 8 by decide)
  | ⟨1, _⟩ => exact (show ((lit5 (i 0)).toNat + 1) * 256 ≤ 16384 by omega)
  | ⟨2, _⟩ => exact (show (0 + 1) * 64 ≤ 64 by decide)
theorem ix1_4 (i : grid1.Coords) : cc1_transform_4 k1_off1_inb numel1_S1 (tab1 (F := F)) i = ![(lit4 (i 0)).toNat, 0] :=
  congrArg (fun v : BitVec 32 => (![v.toNat, 0] : Fin 2 → ℕ)) (row1 (F := F) i)
theorem in1_4 (i : grid1.Coords) : ∀ a, (cc1_transform_4 k1_off1_inb numel1_S1 (tab1 (F := F)) i a + 1) * S256x512.size a ≤ S16384x512.size a := by
  rw [ix1_4]
  have h := lit4_lt (i 0)
  intro a
  match a with
  | ⟨0, _⟩ => exact (show ((lit4 (i 0)).toNat + 1) * 256 ≤ 16384 by omega)
  | ⟨1, _⟩ => exact (show (0 + 1) * 512 ≤ 512 by decide)
theorem ix1_5 (i : grid1.Coords) : cc1_transform_5 k1_off1_inb numel1_S1 (tab1 (F := F)) i = ![(lit4 (i 0)).toNat, 0] :=
  congrArg (fun v : BitVec 32 => (![v.toNat, 0] : Fin 2 → ℕ)) (row1 (F := F) i)
theorem in1_5 (i : grid1.Coords) : ∀ a, (cc1_transform_5 k1_off1_inb numel1_S1 (tab1 (F := F)) i a + 1) * S256x8.size a ≤ S16384x8.size a := by
  rw [ix1_5]
  have h := lit4_lt (i 0)
  intro a
  match a with
  | ⟨0, _⟩ => exact (show ((lit4 (i 0)).toNat + 1) * 256 ≤ 16384 by omega)
  | ⟨1, _⟩ => exact (show (0 + 1) * 8 ≤ 8 by decide)
theorem ix1_6 (i : grid1.Coords) : cc1_transform_6 k1_off1_inb numel1_S1 (tab1 (F := F)) i = ![(lit4 (i 0)).toNat, 0] :=
  congrArg (fun v : BitVec 32 => (![v.toNat, 0] : Fin 2 → ℕ)) (row1 (F := F) i)
theorem in1_6 (i : grid1.Coords) : ∀ a, (cc1_transform_6 k1_off1_inb numel1_S1 (tab1 (F := F)) i a + 1) * S256x512.size a ≤ S16384x512.size a := by
  rw [ix1_6]
  have h := lit4_lt (i 0)
  intro a
  match a with
  | ⟨0, _⟩ => exact (show ((lit4 (i 0)).toNat + 1) * 256 ≤ 16384 by omega)
  | ⟨1, _⟩ => exact (show (0 + 1) * 512 ≤ 512 by decide)
theorem ix1_7 (i : grid1.Coords) : cc1_transform_7 k1_off1_inb numel1_S1 (tab1 (F := F)) i = ![(lit4 (i 0)).toNat, 0] :=
  congrArg (fun v : BitVec 32 => (![v.toNat, 0] : Fin 2 → ℕ)) (row1 (F := F) i)
theorem in1_7 (i : grid1.Coords) : ∀ a, (cc1_transform_7 k1_off1_inb numel1_S1 (tab1 (F := F)) i a + 1) * S256x8.size a ≤ S16384x8.size a := by
  rw [ix1_7]
  have h := lit4_lt (i 0)
  intro a
  match a with
  | ⟨0, _⟩ => exact (show ((lit4 (i 0)).toNat + 1) * 256 ≤ 16384 by omega)
  | ⟨1, _⟩ => exact (show (0 + 1) * 8 ≤ 8 by decide)

theorem row1_le (n : ℕ) : ∀ (k : ℕ) (h : n + k < 1953), (lit4 ⟨n, by omega⟩).toNat ≤ (lit4 ⟨n + k, h⟩).toNat
  | 0, _ => le_refl _
  | k + 1, h => (row1_le n k (by omega)).trans (lit4_mono ⟨n + k, by omega⟩ h)
/-- After a row has ended it does not come back. -/
theorem row1_lt (t u : Fin 1953) (h : t.val < u.val) (hl : lit7 t = 1#32) : (lit4 t).toNat < (lit4 u).toNat := by
  have h1 : t.val + 1 < 1953 := by omega
  refine (lit4_once t hl h1).trans_le ?_
  have := row1_le (t.val + 1) (u.val - (t.val + 1)) (by omega)
  rwa [show (⟨t.val + 1 + (u.val - (t.val + 1)), by omega⟩ : Fin 1953) = u from Fin.ext (by simp only; omega)] at this
theorem at1 (t : Fin grid1.N) : (grid1.coords t) 0 = (⟨t.val, t.isLt.trans_eq N_1⟩ : Fin 1953) := Fin.ext (coords1 t)
theorem turn1 (t : Fin grid1.N) (ix : grid1.Coords → Fin 2 → ℕ) (hix : ∀ i, ix i = ![(lit4 (i 0)).toNat, 0]) :
    (decide (t.val + 1 = grid1.N) || decide (∃ h : t.val + 1 < grid1.N, ix (grid1.coords ⟨t.val + 1, h⟩) ≠ ix (grid1.coords t))) = decide (lit7 ⟨t.val, t.isLt.trans_eq N_1⟩ = 1#32) := by
  rw [← Bool.decide_or]
  refine decide_eq_decide.mpr (Iff.symm ((lit4_turn _).trans ?_))
  have hN : grid1.N = 1953 := N_1
  refine or_congr ⟨fun h => h.trans hN.symm, fun h => h.trans hN⟩ ⟨fun ⟨h, hn⟩ => ⟨h.trans_eq hN.symm, fun e => hn ?_⟩, fun ⟨h, hn⟩ => ⟨h.trans_eq hN, fun e => hn ?_⟩⟩
  · rw [hix, hix, at1, at1] at e
    exact BitVec.eq_of_toNat_eq (congrFun e 0)
  · rw [hix, hix, at1, at1]
    exact congrArg (fun v : BitVec 32 => (![v.toNat, 0] : Fin 2 → ℕ)) e

theorem aliased (i o : Fin 8) (hi : (spec1 i).isOut = false) (ho : (spec1 o).isOut = true) (hs : (spec1 i).shape = (spec1 o).shape)
    (hz : ∀ (a : Fin (spec1 i).shape.rank) (a' : Fin (spec1 o).shape.rank), a.val = a'.val → (spec1 i).size a = (spec1 o).size a')
    (hx : ∀ (c : grid1.Coords) (a : Fin (spec1 i).shape.rank) (a' : Fin (spec1 o).shape.rank), a.val = a'.val →
      ix1 (tab1 (F := F)) i c a = ix1 (tab1 (F := F)) o c a')
    (h2 : ∀ t : Fin grid1.N, (spec1 o).flushAt (ix1 (tab1 (F := F)) o) t = true → lit7 ⟨t.val, t.isLt.trans_eq N_1⟩ = 1#32)
    (h3 : ∀ t u : Fin grid1.N, ix1 (tab1 (F := F)) o (grid1.coords t) = ix1 (tab1 (F := F)) o (grid1.coords u) → lit4 ⟨t.val, t.isLt.trans_eq N_1⟩ = lit4 ⟨u.val, u.isLt.trans_eq N_1⟩) :
    Pipeline.WinSpec.Aliased spec1 (ix1 (tab1 (F := F))) i o :=
  ⟨hi, ho, by rw [hs], hz, hx, fun u u' h _ hf e => absurd (congrArg BitVec.toNat (h3 u' u e)) (Nat.ne_of_lt (row1_lt _ _ h (h2 u' hf)))⟩

theorem ok_tab1 : ok1 (tab1 (F := F)) := by
  refine ⟨?_, ?_, ?_, ?_, ?_, ?_, ?_, aliased 4 6 rfl rfl rfl (fun a a' h => ?_) (fun i a a' h => ?_) (fun t h => of_decide_eq_true ((turn1 t _ fun i => ix1_6 i).symm.trans h)) (fun t u e => ?_), aliased 5 7 rfl rfl rfl (fun a a' h => ?_) (fun i a a' h => ?_) (fun t h => of_decide_eq_true ((turn1 t _ fun i => ix1_7 i).symm.trans h)) (fun t u e => ?_)⟩
  · exact fun i => ⟨in1_0 i, .inr (Affine.block_words_dvd (of_decide_eq_true rfl) (by decide))⟩
  · exact fun i => ⟨in1_1 i, .inr (Affine.block_words_dvd (of_decide_eq_true rfl) (by decide))⟩
  · exact fun i => ⟨in1_2 i, .inr (Affine.block_words_dvd (of_decide_eq_true rfl) (by decide))⟩
  · exact fun i => ⟨in1_4 i, .inl rfl⟩
  · exact fun i => ⟨in1_5 i, .inl rfl⟩
  · exact fun i => ⟨in1_6 i, .inl rfl⟩
  · exact fun i => ⟨in1_7 i, .inl rfl⟩
  · obtain rfl : a = a' := Fin.ext h
    rfl
  · obtain rfl : a = a' := Fin.ext h
    rfl
  · have e' := ((ix1_6 _).symm.trans e).trans (ix1_6 _)
    rw [at1, at1] at e'
    exact BitVec.eq_of_toNat_eq (congrFun e' 0)
  · obtain rfl : a = a' := Fin.ext h
    rfl
  · obtain rfl : a = a' := Fin.ext h
    rfl
  · have e' := ((ix1_7 _).symm.trans e).trans (ix1_7 _)
    rw [at1, at1] at e'
    exact BitVec.eq_of_toNat_eq (congrFun e' 0)

/-- The tables of region 1 as admissible contents. -/
def adm1 : (pcfg1 (F := F)).Adm := ⟨tab1, ok_tab1⟩

/-- Both regions' tables. -/
def adm : (p : Fin 2) → (pcfgs (F := F) p).Adm := fun
  | 0 => adm0
  | 1 => adm1
  | ⟨_ + 2, h⟩ => absurd h (Nat.not_lt.2 (Nat.le_add_left _ _))

end Cert.KernelIdeal.Stick

end
-- ==== Proof.Own.lean ====
module

public import proofs.«01_k».proof.Proof.NearBody
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- A whole buffer owned at `X` is its points-to at contents that read `X`. -/
theorem own_rp (c : Dev nD) {sp : Space} {S : Shape} {e : EltTy} (M : Memref sig .tc sp S e) (h : M.IsWhole) (X : S.Idx → Elt F e) :
    (owns (c : Thread nD τ) M fullShare X : sProp 𝕄) = rp c M X := by
  rw [owns_eq_rep, h.set_eq_univ]
theorem own_pt (c : Dev nD) {sp : Space} {S : Shape} {e : EltTy} (M : Memref sig .tc sp S e) (h : M.IsWhole) (f : Bf (F := F) c M) (X : S.Idx → Elt F e)
    (hx : M.view.read (Elt F) f = X) : pt c M f ⊢ (owns (c : Thread nD τ) M fullShare X : sProp 𝕄) := by
  subst hx
  unfold owns
  rw [h.set_eq_univ]
  iintro H
  iexists f
  isplitr; · ipureintro; rfl
  iexact H
/-- The arrays' contents on core `c`, read off a valuation. -/
abbrev en (W : Valuation τ sig (Elt F)) (c : Dev nD) (b : Ref sig .tc) : Buf (Elt F) ((c : Thread nD τ).loc b) := W (Proc.devRef .tc b)

end Cert.KernelIdeal.Stick

end
-- ==== Proof.NearDat.lean ====
module

public import proofs.«01_k».proof.Proof.NearC
public import proofs.«01_k».proof.Proof.NearA
public import proofs.«01_k».proof.Proof.NearD
public import proofs.«01_k».proof.Proof.NearOut
public import proofs.«01_k».proof.Proof.Tables
public import proofs.«01_k».proof.Proof.Own
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- Input window `w`'s block at point `t`. -/
abbrev bk0 (W : Valuation τ sig (Elt F)) (c : Dev nD) (w : Fin 6) (t : Fin grid0.N) : ((cfg0 (adm0 (F := F))).win w).block.Idx → Elt F ((cfg0 (adm0 (F := F))).win w).elt :=
  (((cfg0 (adm0 (F := F))).win w).blk t).view.read (Elt F) (en W c (Pipeline.arrRef spec0 w))

/-- The state before point `n`. -/
def st0 (W : Valuation τ sig (Elt F)) (c : Dev nD) : ℕ → St F
  | 0 => nearInit
  | n + 1 => if h : n < grid0.N then stepAt nearInit (lit0 ⟨n, h.trans_eq N_0⟩) (lit1 ⟨n, h.trans_eq N_0⟩) (lit2 ⟨n, h.trans_eq N_0⟩) (bk0 W c 0 ⟨n, h⟩) (bk0 W c 1 ⟨n, h⟩) (bk0 W c 2 ⟨n, h⟩) (bk0 W c 3 ⟨n, h⟩) (st0 W c n) else nearInit

theorem st0_succ (W : Valuation τ sig (Elt F)) (c : Dev nD) (t : Fin grid0.N) (s : St F) (hs : t.val ≠ 0 → s = st0 W c t.val) :
    stepAt nearInit (lit0 ⟨t.val, t.isLt.trans_eq N_0⟩) (lit1 ⟨t.val, t.isLt.trans_eq N_0⟩) (lit2 ⟨t.val, t.isLt.trans_eq N_0⟩) (bk0 W c 0 t) (bk0 W c 1 t) (bk0 W c 2 t) (bk0 W c 3 t) s = st0 W c (t.val + 1) := by
  refine Eq.trans ?_ (dif_pos t.isLt).symm
  by_cases h : t.val = 0
  · have h1 : lit2 ⟨t.val, t.isLt.trans_eq N_0⟩ = 1#32 := (congrArg lit2 (Fin.ext h)).trans lit2_zero
    unfold stepAt
    rw [if_pos h1, if_pos h1]
  · rw [hs h]

/-- The scoped buffers this region does not use. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- The state, the other scoped buffers and the tables, before point `n`. -/
def inv0 (W : Valuation τ sig (Elt F)) (c : Dev nD) (n : ℕ) : sProp 𝕄 :=
  iprop(∃ s : St F, ⌜n ≠ 0 → s = st0 W c n⌝ ∗ pt c (Memref.whole cc0_scratch0) s.C ∗ pt c (Memref.whole cc0_scratch1) s.A ∗ pt c (Memref.whole cc0_scratch2) s.D
    ∗ rest0 c ∗ pt c (Memref.whole main_c) (tab0 (F := F) 0) ∗ pt c (Memref.whole main_c_0) (tab0 (F := F) 1) ∗ pt c (Memref.whole main_c_1) (tab0 (F := F) 2) ∗ pt c (Memref.whole main_c_2) (tab0 (F := F) 3))

/-- The proof data of region 0, entered at the valuation `W`. -/
def dat0 (W : Valuation τ sig (Elt F)) (c : Dev nD) : Dat τ (Elt F) Unit ℕ (UR sig nD τ) ℕ (cfg0 (adm0 (F := F))) c where
  A w := en W c (Pipeline.arrRef spec0 w)
  after w t := match w with
    | ⟨0, _⟩ => bk0 W c 0 t
    | ⟨1, _⟩ => bk0 W c 1 t
    | ⟨2, _⟩ => bk0 W c 2 t
    | ⟨3, _⟩ => bk0 W c 3 t
    | ⟨4, _⟩ => accBlk (st0 W c (t.val + 1)).A
    | ⟨5, _⟩ => carryBlk (st0 W c (t.val + 1)).C
  Φ t := inv0 W c t.val
  q _ := fullShare
  owed _ := 0

theorem word0_q (c : Dev nD) (i : grid0.Coords) : nearQ c i (tab0 (F := F) 0) = lit0 (i 0) := word0 lit0 i _ (pos0 i)
theorem word0_k (c : Dev nD) (i : grid0.Coords) : nearK c i (tab0 (F := F) 1) = lit1 (i 0) := word0 lit1 i _ (pos0 i)
theorem word0_f (c : Dev nD) (i : grid0.Coords) : nearFi c i (tab0 (F := F) 2) = lit2 (i 0) := word0 lit2 i _ (pos0 i)
theorem word0_l (c : Dev nD) (i : grid0.Coords) : nearLa c i (tab0 (F := F) 3) = lit3 (i 0) := word0 lit3 i _ (pos0 i)

theorem before0_0 (W : Valuation τ sig (Elt F)) (c : Dev nD) (t : Fin grid0.N) (d) : (dat0 W c).before 0 t d = bk0 W c 0 t :=
  ((dat0 W c).before_in_eq_fetched 0 rfl (fun _ => rfl) (fun _ _ _ => rfl) (fun _ => rfl) t d).trans rfl
theorem before0_1 (W : Valuation τ sig (Elt F)) (c : Dev nD) (t : Fin grid0.N) (d) : (dat0 W c).before 1 t d = bk0 W c 1 t :=
  ((dat0 W c).before_in_eq_fetched 1 rfl (fun _ => rfl) (fun _ _ _ => rfl) (fun _ => rfl) t d).trans rfl
theorem before0_2 (W : Valuation τ sig (Elt F)) (c : Dev nD) (t : Fin grid0.N) (d) : (dat0 W c).before 2 t d = bk0 W c 2 t :=
  ((dat0 W c).before_in_eq_fetched 2 rfl (fun _ => rfl) (fun _ _ _ => rfl) (fun _ => rfl) t d).trans rfl
theorem before0_3 (W : Valuation τ sig (Elt F)) (c : Dev nD) (t : Fin grid0.N) (d) : (dat0 W c).before 3 t d = bk0 W c 3 t :=
  ((dat0 W c).before_in_eq_fetched 3 rfl (fun _ => rfl) (fun _ _ _ => rfl) (fun _ => rfl) t d).trans rfl
theorem idle0_4 (t : Fin grid0.N) (h : ¬ lit3 ⟨t.val, t.isLt.trans_eq N_0⟩ = 1#32) : (cfg0 (adm0 (F := F))).idle 4 (grid0.coords t) = true := by
  show (!(k0_cond3 ((tab0 (F := F)).atD 3 (k0_off2 (grid0.coords t))) == 1#1)) = true
  rw [last0, at0]
  exact congrArg (fun b : Bool => !b) (beq_false_of_ne fun e => h ((word_test _ _).mp e))
theorem live0_4 (t : Fin grid0.N) (h : lit3 ⟨t.val, t.isLt.trans_eq N_0⟩ = 1#32) : (cfg0 (adm0 (F := F))).idle 4 (grid0.coords t) = false := by
  show (!(k0_cond3 ((tab0 (F := F)).atD 3 (k0_off2 (grid0.coords t))) == 1#1)) = false
  rw [last0, at0]
  exact congrArg (fun b : Bool => !b) (beq_iff_eq.mpr ((word_test _ _).mpr h))
theorem flush0_4 (t : Fin grid0.N) : ((cfg0 (adm0 (F := F))).win 4).flush t = decide (lit3 ⟨t.val, t.isLt.trans_eq N_0⟩ = 1#32) :=
  turn0 t _ fun i => ix0_4 i
theorem idle0_5 (t : Fin grid0.N) (h : ¬ lit3 ⟨t.val, t.isLt.trans_eq N_0⟩ = 1#32) : (cfg0 (adm0 (F := F))).idle 5 (grid0.coords t) = true := by
  show (!(k0_cond3 ((tab0 (F := F)).atD 3 (k0_off2 (grid0.coords t))) == 1#1)) = true
  rw [last0, at0]
  exact congrArg (fun b : Bool => !b) (beq_false_of_ne fun e => h ((word_test _ _).mp e))
theorem live0_5 (t : Fin grid0.N) (h : lit3 ⟨t.val, t.isLt.trans_eq N_0⟩ = 1#32) : (cfg0 (adm0 (F := F))).idle 5 (grid0.coords t) = false := by
  show (!(k0_cond3 ((tab0 (F := F)).atD 3 (k0_off2 (grid0.coords t))) == 1#1)) = false
  rw [last0, at0]
  exact congrArg (fun b : Bool => !b) (beq_iff_eq.mpr ((word_test _ _).mpr h))
theorem flush0_5 (t : Fin grid0.N) : ((cfg0 (adm0 (F := F))).win 5).flush t = decide (lit3 ⟨t.val, t.isLt.trans_eq N_0⟩ = 1#32) :=
  turn0 t _ fun i => ix0_5 i

end Cert.KernelIdeal.Stick

end
-- ==== Proof.NearObl.lean ====
module

public import proofs.«01_k».proof.Proof.NearDat
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- The state and the outputs after point `t`. -/
theorem step0 (W : Valuation τ sig (Elt F)) (c : Dev nD) (t : Fin grid0.N) (s : St F) (hs : t.val ≠ 0 → s = st0 W c t.val) :
    stepAt nearInit (nearQ c (grid0.coords t) (tab0 (F := F) 0)) (nearK c (grid0.coords t) (tab0 (F := F) 1)) (nearFi c (grid0.coords t) (tab0 (F := F) 2)) (bk0 W c 0 t) (bk0 W c 1 t) (bk0 W c 2 t) (bk0 W c 3 t) ⟨s.C, s.A, s.D⟩ = st0 W c (t.val + 1) := by
  rw [word0_q, word0_k, word0_f, at0]
  exact st0_succ W c t s hs
theorem run0_C (W : Valuation τ sig (Elt F)) (c : Dev nD) (t : Fin grid0.N) (s : St F) (hs : t.val ≠ 0 → s = st0 W c t.val) (f9 : Bf (F := F) c (spec0_4.stage ((cfg0 (adm0 (F := F))).slots t 4))) (f10 : Bf (F := F) c (spec0_5.stage ((cfg0 (adm0 (F := F))).slots t 5))) : (nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).1.C = (st0 W c (t.val + 1)).C :=
  (nearRun_C c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).trans (congrArg St.C (step0 W c t s hs))
theorem run0_A (W : Valuation τ sig (Elt F)) (c : Dev nD) (t : Fin grid0.N) (s : St F) (hs : t.val ≠ 0 → s = st0 W c t.val) (f9 : Bf (F := F) c (spec0_4.stage ((cfg0 (adm0 (F := F))).slots t 4))) (f10 : Bf (F := F) c (spec0_5.stage ((cfg0 (adm0 (F := F))).slots t 5))) : (nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).1.A = (st0 W c (t.val + 1)).A :=
  (nearRun_A c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).trans (congrArg St.A (step0 W c t s hs))
theorem run0_D (W : Valuation τ sig (Elt F)) (c : Dev nD) (t : Fin grid0.N) (s : St F) (hs : t.val ≠ 0 → s = st0 W c t.val) (f9 : Bf (F := F) c (spec0_4.stage ((cfg0 (adm0 (F := F))).slots t 4))) (f10 : Bf (F := F) c (spec0_5.stage ((cfg0 (adm0 (F := F))).slots t 5))) : (nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).1.D = (st0 W c (t.val + 1)).D :=
  (nearRun_D c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).trans (congrArg St.D (step0 W c t s hs))
theorem run0_o (W : Valuation τ sig (Elt F)) (c : Dev nD) (t : Fin grid0.N) (s : St F) (hs : t.val ≠ 0 → s = st0 W c t.val) (f9 : Bf (F := F) c (spec0_4.stage ((cfg0 (adm0 (F := F))).slots t 4))) (f10 : Bf (F := F) c (spec0_5.stage ((cfg0 (adm0 (F := F))).slots t 5))) : (spec0_4.stage ((cfg0 (adm0 (F := F))).slots t 4)).view.read (Elt F) (nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).1.o = if lit3 ⟨t.val, t.isLt.trans_eq N_0⟩ = 1#32 then accBlk (st0 W c (t.val + 1)).A else (spec0_4.stage ((cfg0 (adm0 (F := F))).slots t 4)).view.read (Elt F) f9 := by
  have h := nearRun_o c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D
  rw [step0 W c t s hs, word0_l, at0] at h
  exact h
theorem run0_p (W : Valuation τ sig (Elt F)) (c : Dev nD) (t : Fin grid0.N) (s : St F) (hs : t.val ≠ 0 → s = st0 W c t.val) (f9 : Bf (F := F) c (spec0_4.stage ((cfg0 (adm0 (F := F))).slots t 4))) (f10 : Bf (F := F) c (spec0_5.stage ((cfg0 (adm0 (F := F))).slots t 5))) : (spec0_5.stage ((cfg0 (adm0 (F := F))).slots t 5)).view.read (Elt F) (nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D).1.p = if lit3 ⟨t.val, t.isLt.trans_eq N_0⟩ = 1#32 then carryBlk (st0 W c (t.val + 1)).C else (spec0_5.stage ((cfg0 (adm0 (F := F))).slots t 5)).view.read (Elt F) f10 := by
  have h := nearRun_p c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) f9 f10 s.C s.A s.D
  rw [step0 W c t s hs, word0_l, at0] at h
  exact h
/-- What is left in output window 4's buffer, by whether the row ends. -/
theorem out0_4 (W : Valuation τ sig (Elt F)) (c : Dev nD) (t : Fin (cfg0 (adm0 (F := F))).N) (X : ((cfg0 (adm0 (F := F))).win 4).block.Idx → Elt F ((cfg0 (adm0 (F := F))).win 4).elt) (d)
    (h1 : lit3 ⟨t.val, t.isLt.trans_eq N_0⟩ = 1#32 → X = (dat0 W c).after 4 t) (h0 : ¬ lit3 ⟨t.val, t.isLt.trans_eq N_0⟩ = 1#32 → X = (dat0 W c).before 4 t d) :
    (owns (c : Thread nD τ) (((cfg0 (adm0 (F := F))).win 4).stage ((cfg0 (adm0 (F := F))).slots t 4)) fullShare X : sProp 𝕄) ⊢ match (cfg0 (adm0 (F := F))).idle 4 ((cfg0 (adm0 (F := F))).grid.coords t) with
      | true =>
        match ((cfg0 (adm0 (F := F))).win 4).flush t with
        | false => iprop(∃ d, owns (c : Thread nD τ) (((cfg0 (adm0 (F := F))).win 4).stage ((cfg0 (adm0 (F := F))).slots t 4)) fullShare ((dat0 W c).before 4 t d))
        | true => owns (c : Thread nD τ) (((cfg0 (adm0 (F := F))).win 4).stage ((cfg0 (adm0 (F := F))).slots t 4)) fullShare ((dat0 W c).after 4 t)
      | false => owns (c : Thread nD τ) (((cfg0 (adm0 (F := F))).win 4).stage ((cfg0 (adm0 (F := F))).slots t 4)) fullShare ((dat0 W c).after 4 t) := by
  by_cases hl : lit3 ⟨t.val, t.isLt.trans_eq N_0⟩ = 1#32
  · rw [show (cfg0 (adm0 (F := F))).idle 4 ((cfg0 (adm0 (F := F))).grid.coords t) = false from live0_4 t hl, h1 hl]
  · rw [show (cfg0 (adm0 (F := F))).idle 4 ((cfg0 (adm0 (F := F))).grid.coords t) = true from idle0_4 t hl, show ((cfg0 (adm0 (F := F))).win 4).flush t = false from (flush0_4 t).trans (decide_eq_false hl), h0 hl]
    iintro H
    iexists d
    iexact H
/-- What is left in output window 5's buffer, by whether the row ends. -/
theorem out0_5 (W : Valuation τ sig (Elt F)) (c : Dev nD) (t : Fin (cfg0 (adm0 (F := F))).N) (X : ((cfg0 (adm0 (F := F))).win 5).block.Idx → Elt F ((cfg0 (adm0 (F := F))).win 5).elt) (d)
    (h1 : lit3 ⟨t.val, t.isLt.trans_eq N_0⟩ = 1#32 → X = (dat0 W c).after 5 t) (h0 : ¬ lit3 ⟨t.val, t.isLt.trans_eq N_0⟩ = 1#32 → X = (dat0 W c).before 5 t d) :
    (owns (c : Thread nD τ) (((cfg0 (adm0 (F := F))).win 5).stage ((cfg0 (adm0 (F := F))).slots t 5)) fullShare X : sProp 𝕄) ⊢ match (cfg0 (adm0 (F := F))).idle 5 ((cfg0 (adm0 (F := F))).grid.coords t) with
      | true =>
        match ((cfg0 (adm0 (F := F))).win 5).flush t with
        | false => iprop(∃ d, owns (c : Thread nD τ) (((cfg0 (adm0 (F := F))).win 5).stage ((cfg0 (adm0 (F := F))).slots t 5)) fullShare ((dat0 W c).before 5 t d))
        | true => owns (c : Thread nD τ) (((cfg0 (adm0 (F := F))).win 5).stage ((cfg0 (adm0 (F := F))).slots t 5)) fullShare ((dat0 W c).after 5 t)
      | false => owns (c : Thread nD τ) (((cfg0 (adm0 (F := F))).win 5).stage ((cfg0 (adm0 (F := F))).slots t 5)) fullShare ((dat0 W c).after 5 t) := by
  by_cases hl : lit3 ⟨t.val, t.isLt.trans_eq N_0⟩ = 1#32
  · rw [show (cfg0 (adm0 (F := F))).idle 5 ((cfg0 (adm0 (F := F))).grid.coords t) = false from live0_5 t hl, h1 hl]
  · rw [show (cfg0 (adm0 (F := F))).idle 5 ((cfg0 (adm0 (F := F))).grid.coords t) = true from idle0_5 t hl, show ((cfg0 (adm0 (F := F))).win 5).flush t = false from (flush0_5 t).trans (decide_eq_false hl), h0 hl]
    iintro H
    iexists d
    iexact H

/-- Each point of region 0 does what the proof data says. -/
theorem body0 (W : Valuation τ sig (Elt F)) (c : Dev nD) : BodyObligation (dat0 W c) (defs₀ (F := F)) Variants.none () Set.univ := fun t => by
  rw [bigSep_W0, bigSep_W0]
  rw [show (dat0 W c).Φ t.castSucc = inv0 W c t.val from rfl, show (dat0 W c).Φ t.succ = inv0 W c (t.val + 1) from rfl]
  unfold Dat.owesAt Pipeline.owesWithin
  rw [show (dat0 W c).owed t.castSucc = 0 from rfl, show (dat0 W c).owed t.succ = 0 from rfl]
  unfold inv0
  iintro ⟨⟨%s, %hs, HC, HA, HD, HR, H1, H2, H3, H4⟩, ⟨%Wd, %hW, HO⟩, ⟨%d0, H5⟩, ⟨%d1, H6⟩, ⟨%d2, H7⟩, ⟨%d3, H8⟩, ⟨%d4, H9⟩, ⟨%d5, H10⟩⟩
  ihave H5 := (Entails.of_eq ((congrArg (owns (c : Thread nD τ) (spec0_0.stage ((cfg0 (adm0 (F := F))).slots t 0)) fullShare) (before0_0 W c t d0)).trans (own_rp c (spec0_0.stage ((cfg0 (adm0 (F := F))).slots t 0)) (hstage0_0 (((cfg0 (adm0 (F := F))).slots t 0).cast nbuf0_0)) _))) $$ H5
  ihave H6 := (Entails.of_eq ((congrArg (owns (c : Thread nD τ) (spec0_1.stage ((cfg0 (adm0 (F := F))).slots t 1)) fullShare) (before0_1 W c t d1)).trans (own_rp c (spec0_1.stage ((cfg0 (adm0 (F := F))).slots t 1)) (hstage0_1 (((cfg0 (adm0 (F := F))).slots t 1).cast nbuf0_1)) _))) $$ H6
  ihave H7 := (Entails.of_eq ((congrArg (owns (c : Thread nD τ) (spec0_2.stage ((cfg0 (adm0 (F := F))).slots t 2)) fullShare) (before0_2 W c t d2)).trans (own_rp c (spec0_2.stage ((cfg0 (adm0 (F := F))).slots t 2)) (hstage0_2 (((cfg0 (adm0 (F := F))).slots t 2).cast nbuf0_2)) _))) $$ H7
  ihave H8 := (Entails.of_eq ((congrArg (owns (c : Thread nD τ) (spec0_3.stage ((cfg0 (adm0 (F := F))).slots t 3)) fullShare) (before0_3 W c t d3)).trans (own_rp c (spec0_3.stage ((cfg0 (adm0 (F := F))).slots t 3)) (hstage0_3 (((cfg0 (adm0 (F := F))).slots t 3).cast nbuf0_3)) _))) $$ H8
  ihave H9 := (Entails.of_eq (own_rp c (spec0_4.stage ((cfg0 (adm0 (F := F))).slots t 4)) (hstage0_4 (((cfg0 (adm0 (F := F))).slots t 4).cast nbuf0_4)) _)) $$ H9
  ihave H10 := (Entails.of_eq (own_rp c (spec0_5.stage ((cfg0 (adm0 (F := F))).slots t 5)) (hstage0_5 (((cfg0 (adm0 (F := F))).slots t 5).cast nbuf0_5)) _)) $$ H10
  iapply ((nearRun c (grid0.coords t) (spec0_0.stage ((cfg0 (adm0 (F := F))).slots t 0)) (hstage0_0 (((cfg0 (adm0 (F := F))).slots t 0).cast nbuf0_0)) (spec0_1.stage ((cfg0 (adm0 (F := F))).slots t 1)) (hstage0_1 (((cfg0 (adm0 (F := F))).slots t 1).cast nbuf0_1)) (spec0_2.stage ((cfg0 (adm0 (F := F))).slots t 2)) (hstage0_2 (((cfg0 (adm0 (F := F))).slots t 2).cast nbuf0_2)) (spec0_3.stage ((cfg0 (adm0 (F := F))).slots t 3)) (hstage0_3 (((cfg0 (adm0 (F := F))).slots t 3).cast nbuf0_3)) (spec0_4.stage ((cfg0 (adm0 (F := F))).slots t 4)) (hstage0_4 (((cfg0 (adm0 (F := F))).slots t 4).cast nbuf0_4)) (spec0_5.stage ((cfg0 (adm0 (F := F))).slots t 5)) (hstage0_5 (((cfg0 (adm0 (F := F))).slots t 5).cast nbuf0_5)) (tab0 (F := F) 0) (tab0 (F := F) 1) (tab0 (F := F) 2) (tab0 (F := F) 3) (bk0 W c 0 t) (bk0 W c 1 t) (bk0 W c 2 t) (bk0 W c 3 t) ((spec0_4.stage ((cfg0 (adm0 (F := F))).slots t 4)).view.rep ((dat0 W c).before 4 t d4)) ((spec0_5.stage ((cfg0 (adm0 (F := F))).slots t 5)).view.rep ((dat0 W c).before 5 t d5)) s.C s.A s.D).2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HC]; · iexact HC
  isplitl [HA]; · iexact HA
  isplitl [HD]; · iexact HD
  iintro ⟨H1, H2, H3, H4, H5, H6, H7, H8, H9, H10, HC, HA, HD⟩
  isplitl [HC HA HD HR H1 H2 H3 H4]
  · iexists (st0 W c (t.val + 1))
    isplitr; · ipureintro; exact fun _ => rfl
    isplitl [HC]; · rw [run0_C W c t s hs ((spec0_4.stage ((cfg0 (adm0 (F := F))).slots t 4)).view.rep ((dat0 W c).before 4 t d4)) ((spec0_5.stage ((cfg0 (adm0 (F := F))).slots t 5)).view.rep ((dat0 W c).before 5 t d5))]; iexact HC
    isplitl [HA]; · rw [run0_A W c t s hs ((spec0_4.stage ((cfg0 (adm0 (F := F))).slots t 4)).view.rep ((dat0 W c).before 4 t d4)) ((spec0_5.stage ((cfg0 (adm0 (F := F))).slots t 5)).view.rep ((dat0 W c).before 5 t d5))]; iexact HA
    isplitl [HD]; · rw [run0_D W c t s hs ((spec0_4.stage ((cfg0 (adm0 (F := F))).slots t 4)).view.rep ((dat0 W c).before 4 t d4)) ((spec0_5.stage ((cfg0 (adm0 (F := F))).slots t 5)).view.rep ((dat0 W c).before 5 t d5))]; iexact HD
    isplitl [HR]; · iexact HR
    isplitl [H1]; · iexact H1
    isplitl [H2]; · iexact H2
    isplitl [H3]; · iexact H3
    iexact H4
  isplitl [HO]
  · iexists Wd; isplitr; · ipureintro; exact fun _ _ => Or.inl trivial
    iexact HO
  isplitl [H5]
  · ihave H := (Entails.of_eq (own_rp c (spec0_0.stage ((cfg0 (adm0 (F := F))).slots t 0)) (hstage0_0 (((cfg0 (adm0 (F := F))).slots t 0).cast nbuf0_0)) _).symm) $$ H5
    iexact H
  isplitl [H6]
  · ihave H := (Entails.of_eq (own_rp c (spec0_1.stage ((cfg0 (adm0 (F := F))).slots t 1)) (hstage0_1 (((cfg0 (adm0 (F := F))).slots t 1).cast nbuf0_1)) _).symm) $$ H6
    iexact H
  isplitl [H7]
  · ihave H := (Entails.of_eq (own_rp c (spec0_2.stage ((cfg0 (adm0 (F := F))).slots t 2)) (hstage0_2 (((cfg0 (adm0 (F := F))).slots t 2).cast nbuf0_2)) _).symm) $$ H7
    iexact H
  isplitl [H8]
  · ihave H := (Entails.of_eq (own_rp c (spec0_3.stage ((cfg0 (adm0 (F := F))).slots t 3)) (hstage0_3 (((cfg0 (adm0 (F := F))).slots t 3).cast nbuf0_3)) _).symm) $$ H8
    iexact H
  isplitl [H9]
  · ihave H := ((own_pt c (spec0_4.stage ((cfg0 (adm0 (F := F))).slots t 4)) (hstage0_4 (((cfg0 (adm0 (F := F))).slots t 4).cast nbuf0_4)) _ _ rfl).trans (out0_4 W c t _ d4 (fun hl => (run0_o W c t s hs ((spec0_4.stage ((cfg0 (adm0 (F := F))).slots t 4)).view.rep ((dat0 W c).before 4 t d4)) ((spec0_5.stage ((cfg0 (adm0 (F := F))).slots t 5)).view.rep ((dat0 W c).before 5 t d5))).trans (if_pos hl)) (fun hl => (run0_o W c t s hs ((spec0_4.stage ((cfg0 (adm0 (F := F))).slots t 4)).view.rep ((dat0 W c).before 4 t d4)) ((spec0_5.stage ((cfg0 (adm0 (F := F))).slots t 5)).view.rep ((dat0 W c).before 5 t d5))).trans ((if_neg hl).trans (View.read_rep (Val := Elt F) (spec0_4.stage ((cfg0 (adm0 (F := F))).slots t 4)).view _))))) $$ H9
    iexact H
  ihave H := ((own_pt c (spec0_5.stage ((cfg0 (adm0 (F := F))).slots t 5)) (hstage0_5 (((cfg0 (adm0 (F := F))).slots t 5).cast nbuf0_5)) _ _ rfl).trans (out0_5 W c t _ d5 (fun hl => (run0_p W c t s hs ((spec0_4.stage ((cfg0 (adm0 (F := F))).slots t 4)).view.rep ((dat0 W c).before 4 t d4)) ((spec0_5.stage ((cfg0 (adm0 (F := F))).slots t 5)).view.rep ((dat0 W c).before 5 t d5))).trans (if_pos hl)) (fun hl => (run0_p W c t s hs ((spec0_4.stage ((cfg0 (adm0 (F := F))).slots t 4)).view.rep ((dat0 W c).before 4 t d4)) ((spec0_5.stage ((cfg0 (adm0 (F := F))).slots t 5)).view.rep ((dat0 W c).before 5 t d5))).trans ((if_neg hl).trans (View.read_rep (Val := Elt F) (spec0_5.stage ((cfg0 (adm0 (F := F))).slots t 5)).view _))))) $$ H10
  iexact H

end Cert.KernelIdeal.Stick

end
-- ==== Proof.FarBody.lean ====
module

public import proofs.«01_k».proof.Proof.Gen.KernelIdeal.Launch
public import proofs.«01_k».proof.Proof.Gen.KernelIdeal.Skeleton
public import Idealize.ShloMosaic.Lib.Tactic
public import Idealize.ShloMosaic.Lib.Pipeline.Kit
public import Idealize.ShloMosaic.Lib.Pipeline.TableIdle
public import proofs.«01_k».proof.Proof.NearBody

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What one point of the far region leaves: the two output blocks' buffers, then the carry, the accumulator and the flag. -/
structure FOut (F : FTy → Type) (c : Dev nD) (M11 : Memref sig .tc .vmem S256x512 .f32) (M12 : Memref sig .tc .vmem S256x8 .f32) where
  o : Bf (F := F) c M11
  p : Bf (F := F) c M12
  C : Bf (F := F) c (Memref.whole cc1_scratch0)
  A : Bf (F := F) c (Memref.whole cc1_scratch1)
  D : Bf (F := F) c (Memref.whole cc1_scratch2)

/-- One point of the far region, run: the tables and input blocks are kept, the rest is left as the run computes it. -/
def farRun (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3)) (f2 : Bf (F := F) c (Memref.whole main_c_4))
    (f3 : Bf (F := F) c (Memref.whole main_c_5)) (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0)) (fA : Bf (F := F) c (Memref.whole cc1_scratch1))
    (fD : Bf (F := F) c (Memref.whole cc1_scratch2)) :
    { o : FOut F c M11 M12 // ∀ Q : PUnit → sProp 𝕄,
    iprop(pt c (Memref.whole main_c_3) f1 ∗ pt c (Memref.whole main_c_4) f2 ∗ pt c (Memref.whole main_c_5) f3 ∗ pt c (Memref.whole main_c_6) f4
      ∗ rp c M5 X5 ∗ rp c M6 X6 ∗ rp c M7 X7 ∗ rp c M8 X8 ∗ rp c M9 X9 ∗ rp c M10 X10 ∗ pt c M11 f11 ∗ pt c M12 f12
      ∗ pt c (Memref.whole cc1_scratch0) fC ∗ pt c (Memref.whole cc1_scratch1) fA ∗ pt c (Memref.whole cc1_scratch2) fD
      ∗ (iprop(pt c (Memref.whole main_c_3) f1 ∗ pt c (Memref.whole main_c_4) f2 ∗ pt c (Memref.whole main_c_5) f3 ∗ pt c (Memref.whole main_c_6) f4
      ∗ rp c M5 X5 ∗ rp c M6 X6 ∗ rp c M7 X7 ∗ rp c M8 X8 ∗ rp c M9 X9 ∗ rp c M10 X10 ∗ pt c M11 o.o ∗ pt c M12 o.p
      ∗ pt c (Memref.whole cc1_scratch0) o.C ∗ pt c (Memref.whole cc1_scratch1) o.A ∗ pt c (Memref.whole cc1_scratch2) o.D) -∗ Q ⟨⟩))
    ⊢ wp frame (wpE (defs₀ (F := F)) Variants.none c none) Set.univ
        (cc1_sb_prompt_far i (Memref.whole main_c_3) (Memref.isWhole_whole _) (Memref.whole main_c_4) (Memref.isWhole_whole _) (Memref.whole main_c_5) (Memref.isWhole_whole _) (Memref.whole main_c_6) (Memref.isWhole_whole _)
          M5 h5 M6 h6 M7 h7 M8 h8 M9 h9 M10 h10 M11 h11 M12 h12 (Memref.whole cc1_scratch0) (Memref.isWhole_whole _) (Memref.whole cc1_scratch1) (Memref.isWhole_whole _) (Memref.whole cc1_scratch2) (Memref.isWhole_whole _)) Q } := by
  refine ⟨⟨?_, ?_, ?_, ?_, ?_⟩, fun Q => ?_⟩
  rotate_left 5
  · iintro ⟨H1, H2, H3, H4, H5, H6, H7, H8, H9, H10, H11, H12, HC, HA, HD, Hk⟩
    rw [cc1_sb_prompt_far_eq_skeleton]
    unfold cc1_sb_prompt_far_skel
    sl_open_parts
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HC]; · iexact HC
    isplitl [HA]; · iexact HA
    iexact HD

end Cert.KernelIdeal.Stick

end
-- ==== Proof.FarPay.lean ====
module

public import proofs.«01_k».proof.Proof.Head

@[expose] public section

noncomputable section

namespace Cert.KernelIdeal.Stick

open Cert.KernelIdeal Cert.KernelIdeal.Gen

open Idealize.ShloMosaic
open Idealize.ShloMosaic.TcCoe Idealize.ShloMosaic.Tactic

variable {F : FTy → Type} [FloatOps F] [Named F]

/-! The printed payloads of one point, each as the head's own function. -/

theorem farPayT (T : FVec F S256x256 .bf16) : k1_pay38 T = T := castSelf T shapeCasts_S256x256_S256x256
theorem farPayC0 (qi kj : BitVec 32) (T : FVec F S256x256 .bf16) (Q K : FVec F S1x256x64 .bf16) (c : FVec F S1x256x1 .f32) :
    k1_pay83 (k1_pay60 (k1_pay37 (F := F) qi kj) (k1_pay50 (k1_pay48 (k1_pay39 Q K)) (k1_pay49 (k1_pay39 Q K)))) (k1_pay69 (k1_pay38 T) (k1_pay60 (k1_pay37 (F := F) qi kj) (k1_pay50 (k1_pay48 (k1_pay39 Q K)) (k1_pay49 (k1_pay39 Q K)))) (k1_pay68 (k1_pay37 (F := F) qi kj) (k1_pay50 (k1_pay48 (k1_pay39 Q K)) (k1_pay49 (k1_pay39 Q K))))) c
      = hC (hMask qi kj) (k1_pay38 T) Q K c := rfl
theorem farPayA0 (qi kj : BitVec 32) (T : FVec F S256x256 .bf16) (Q K V : FVec F S1x256x64 .bf16) (c : FVec F S1x256x1 .f32) (a : FVec F S1x256x64 .f32) :
    k1_pay81 (k1_pay37 (F := F) qi kj) (k1_pay39 Q K) (k1_pay50 (k1_pay48 (k1_pay39 Q K)) (k1_pay49 (k1_pay39 Q K))) (k1_pay69 (k1_pay38 T) (k1_pay60 (k1_pay37 (F := F) qi kj) (k1_pay50 (k1_pay48 (k1_pay39 Q K)) (k1_pay49 (k1_pay39 Q K)))) (k1_pay68 (k1_pay37 (F := F) qi kj) (k1_pay50 (k1_pay48 (k1_pay39 Q K)) (k1_pay49 (k1_pay39 Q K))))) c a V
      = hA (hMask qi kj) (k1_pay38 T) Q K V c a := rfl
theorem farPayC1 (qi kj : BitVec 32) (T : FVec F S256x256 .bf16) (Q K : FVec F S1x256x64 .bf16) (c : FVec F S1x256x1 .f32) :
    k1_pay87 (k1_pay61 (k1_pay37 (F := F) qi kj) (k1_pay51 (k1_pay40 Q K))) (k1_pay70 (k1_pay38 T) (k1_pay61 (k1_pay37 (F := F) qi kj) (k1_pay51 (k1_pay40 Q K)))) c
      = hC (hMask qi kj) (k1_pay38 T) Q K c := rfl
theorem farPayA1 (qi kj : BitVec 32) (T : FVec F S256x256 .bf16) (Q K V : FVec F S1x256x64 .bf16) (c : FVec F S1x256x1 .f32) (a : FVec F S1x256x64 .f32) :
    k1_pay85 (k1_pay37 (F := F) qi kj) (k1_pay40 Q K) (k1_pay51 (k1_pay40 Q K)) (k1_pay70 (k1_pay38 T) (k1_pay61 (k1_pay37 (F := F) qi kj) (k1_pay51 (k1_pay40 Q K)))) c a V
      = hA (hMask qi kj) (k1_pay38 T) Q K V c a := rfl
theorem farPayC2 (qi kj : BitVec 32) (T : FVec F S256x256 .bf16) (Q K : FVec F S1x256x64 .bf16) (c : FVec F S1x256x1 .f32) :
    k1_pay94 (k1_pay62 (k1_pay37 (F := F) qi kj) (k1_pay52 (k1_pay41 Q K))) (k1_pay71 (k1_pay38 T) (k1_pay62 (k1_pay37 (F := F) qi kj) (k1_pay52 (k1_pay41 Q K)))) (k1_pay89 c)
      = hC (hMask qi kj) (k1_pay38 T) Q K c := rfl
theorem farPayA2 (qi kj : BitVec 32) (T : FVec F S256x256 .bf16) (Q K V : FVec F S1x256x64 .bf16) (c : FVec F S1x256x1 .f32) (a : FVec F S1x256x64 .f32) :
    k1_pay92 (k1_pay90 (k1_pay37 (F := F) qi kj) (k1_pay41 Q K) (k1_pay52 (k1_pay41 Q K)) (k1_pay71 (k1_pay38 T) (k1_pay62 (k1_pay37 (F := F) qi kj) (k1_pay52 (k1_pay41 Q K)))) c) (k1_pay91 a) V
      = hA (hMask qi kj) (k1_pay38 T) Q K V c a := rfl
theorem farPayC3 (qi kj : BitVec 32) (T : FVec F S256x256 .bf16) (Q K : FVec F S1x256x64 .bf16) (c : FVec F S1x256x1 .f32) :
    k1_pay100 (k1_pay63 (k1_pay37 (F := F) qi kj) (k1_pay53 (k1_pay43 (k1_pay42 Q) K))) (k1_pay72 (k1_pay38 T) (k1_pay63 (k1_pay37 (F := F) qi kj) (k1_pay53 (k1_pay43 (k1_pay42 Q) K)))) (k1_pay96 c)
      = hC (hMask qi kj) (k1_pay38 T) Q K c := rfl
theorem farPayA3 (qi kj : BitVec 32) (T : FVec F S256x256 .bf16) (Q K V : FVec F S1x256x64 .bf16) (c : FVec F S1x256x1 .f32) (a : FVec F S1x256x64 .f32) :
    k1_pay98 (k1_pay97 (k1_pay37 (F := F) qi kj) (k1_pay43 (k1_pay42 Q) K) (k1_pay53 (k1_pay43 (k1_pay42 Q) K)) (k1_pay72 (k1_pay38 T) (k1_pay63 (k1_pay37 (F := F) qi kj) (k1_pay53 (k1_pay43 (k1_pay42 Q) K)))) c a V)
      = hA (hMask qi kj) (k1_pay38 T) Q K V c a := rfl
theorem farPayC4 (qi kj : BitVec 32) (T : FVec F S256x256 .bf16) (Q K : FVec F S1x256x64 .bf16) (c : FVec F S1x256x1 .f32) :
    k1_pay104 (k1_pay64 (k1_pay37 (F := F) qi kj) (k1_pay54 (k1_pay44 Q K))) (k1_pay73 (k1_pay38 T) (k1_pay64 (k1_pay37 (F := F) qi kj) (k1_pay54 (k1_pay44 Q K)))) c
      = hC (hMask qi kj) (k1_pay38 T) Q K c := rfl
theorem farPayA4 (qi kj : BitVec 32) (T : FVec F S256x256 .bf16) (Q K V : FVec F S1x256x64 .bf16) (c : FVec F S1x256x1 .f32) (a : FVec F S1x256x64 .f32) :
    k1_pay102 (k1_pay37 (F := F) qi kj) (k1_pay44 Q K) (k1_pay54 (k1_pay44 Q K)) (k1_pay73 (k1_pay38 T) (k1_pay64 (k1_pay37 (F := F) qi kj) (k1_pay54 (k1_pay44 Q K)))) c a V
      = hA (hMask qi kj) (k1_pay38 T) Q K V c a := rfl
theorem farPayC5 (qi kj : BitVec 32) (T : FVec F S256x256 .bf16) (Q K : FVec F S1x256x64 .bf16) (c : FVec F S1x256x1 .f32) :
    k1_pay109 (k1_pay65 (k1_pay37 (F := F) qi kj) (k1_pay55 (k1_pay45 Q K)) (k1_pay56 (k1_pay45 Q K))) (k1_pay74 (k1_pay38 T) (k1_pay65 (k1_pay37 (F := F) qi kj) (k1_pay55 (k1_pay45 Q K)) (k1_pay56 (k1_pay45 Q K)))) c
      = hC (hMask qi kj) (k1_pay38 T) Q K c := rfl
theorem farPayA5 (qi kj : BitVec 32) (T : FVec F S256x256 .bf16) (Q K V : FVec F S1x256x64 .bf16) (c : FVec F S1x256x1 .f32) (a : FVec F S1x256x64 .f32) :
    k1_pay107 (k1_pay37 (F := F) qi kj) (k1_pay45 Q K) (k1_pay57 (k1_pay55 (k1_pay45 Q K)) (k1_pay56 (k1_pay45 Q K))) (k1_pay74 (k1_pay38 T) (k1_pay65 (k1_pay37 (F := F) qi kj) (k1_pay55 (k1_pay45 Q K)) (k1_pay56 (k1_pay45 Q K)))) c a V
      = hA (hMask qi kj) (k1_pay38 T) Q K V c a := rfl
theorem farPayC6 (qi kj : BitVec 32) (T : FVec F S256x256 .bf16) (Q K : FVec F S1x256x64 .bf16) (c : FVec F S1x256x1 .f32) :
    k1_pay115 (k1_pay66 (k1_pay37 (F := F) qi kj) (k1_pay46 Q K)) (k1_pay78 (k1_pay38 T) (k1_pay76 (k1_pay66 (k1_pay37 (F := F) qi kj) (k1_pay46 Q K))) (k1_pay77 (k1_pay38 T) (k1_pay66 (k1_pay37 (F := F) qi kj) (k1_pay46 Q K))) (constant S256x256 .f32 0#32)) (k1_pay111 c)
      = hC (hMask qi kj) (k1_pay38 T) Q K c := rfl
theorem farPayA6 (qi kj : BitVec 32) (T : FVec F S256x256 .bf16) (Q K V : FVec F S1x256x64 .bf16) (c : FVec F S1x256x1 .f32) (a : FVec F S1x256x64 .f32) :
    k1_pay113 (k1_pay112 (k1_pay37 (F := F) qi kj) (k1_pay46 Q K) (k1_pay58 (k1_pay46 Q K)) (k1_pay78 (k1_pay38 T) (k1_pay76 (k1_pay66 (k1_pay37 (F := F) qi kj) (k1_pay46 Q K))) (k1_pay77 (k1_pay38 T) (k1_pay66 (k1_pay37 (F := F) qi kj) (k1_pay46 Q K))) (constant S256x256 .f32 0#32)) c) a V
      = hA (hMask qi kj) (k1_pay38 T) Q K V c a := rfl
theorem farPayC7 (qi kj : BitVec 32) (T : FVec F S256x256 .bf16) (Q K : FVec F S1x256x64 .bf16) (c : FVec F S1x256x1 .f32) :
    k1_pay5 (k1_pay67 (k1_pay37 (F := F) qi kj) (k1_pay47 Q K)) (k1_pay79 (k1_pay38 T) (k1_pay67 (k1_pay37 (F := F) qi kj) (k1_pay47 Q K))) (k1_pay117 c)
      = hC (hMask qi kj) (k1_pay38 T) Q K c := rfl
theorem farPayA7 (qi kj : BitVec 32) (T : FVec F S256x256 .bf16) (Q K V : FVec F S1x256x64 .bf16) (c : FVec F S1x256x1 .f32) (a : FVec F S1x256x64 .f32) :
    k1_pay3 (k1_pay118 (k1_pay37 (F := F) qi kj) (k1_pay47 Q K) (k1_pay59 (k1_pay47 Q K)) (k1_pay79 (k1_pay38 T) (k1_pay67 (k1_pay37 (F := F) qi kj) (k1_pay47 Q K))) c a V)
      = hA (hMask qi kj) (k1_pay38 T) Q K V c a := rfl
theorem farPayD (qi kj : BitVec 32) (T : FVec F S256x256 .bf16) (Q K : Fin 8 → FVec F S1x256x64 .bf16) (c : Fin 8 → FVec F S1x256x1 .f32) :
    Scalar.extui (Scalar.cmpf .olt (k1_pay6 (k1_pay67 (k1_pay37 (F := F) qi kj) (k1_pay47 (Q 7) (K 7))) (k1_pay79 (k1_pay38 T) (k1_pay67 (k1_pay37 (F := F) qi kj) (k1_pay47 (Q 7) (K 7)))) (k1_pay116 (k1_pay66 (k1_pay37 (F := F) qi kj) (k1_pay46 (Q 6) (K 6))) (k1_pay78 (k1_pay38 T) (k1_pay76 (k1_pay66 (k1_pay37 (F := F) qi kj) (k1_pay46 (Q 6) (K 6)))) (k1_pay77 (k1_pay38 T) (k1_pay66 (k1_pay37 (F := F) qi kj) (k1_pay46 (Q 6) (K 6)))) (constant S256x256 .f32 0#32)) (k1_pay110 (k1_pay65 (k1_pay37 (F := F) qi kj) (k1_pay55 (k1_pay45 (Q 5) (K 5))) (k1_pay56 (k1_pay45 (Q 5) (K 5)))) (k1_pay74 (k1_pay38 T) (k1_pay65 (k1_pay37 (F := F) qi kj) (k1_pay55 (k1_pay45 (Q 5) (K 5))) (k1_pay56 (k1_pay45 (Q 5) (K 5))))) (k1_pay105 (k1_pay63 (k1_pay37 (F := F) qi kj) (k1_pay53 (k1_pay43 (k1_pay42 (Q 3)) (K 3)))) (k1_pay64 (k1_pay37 (F := F) qi kj) (k1_pay54 (k1_pay44 (Q 4) (K 4)))) (k1_pay72 (k1_pay38 T) (k1_pay63 (k1_pay37 (F := F) qi kj) (k1_pay53 (k1_pay43 (k1_pay42 (Q 3)) (K 3))))) (k1_pay73 (k1_pay38 T) (k1_pay64 (k1_pay37 (F := F) qi kj) (k1_pay54 (k1_pay44 (Q 4) (K 4))))) (k1_pay95 (k1_pay62 (k1_pay37 (F := F) qi kj) (k1_pay52 (k1_pay41 (Q 2) (K 2)))) (k1_pay71 (k1_pay38 T) (k1_pay62 (k1_pay37 (F := F) qi kj) (k1_pay52 (k1_pay41 (Q 2) (K 2))))) (k1_pay88 (k1_pay61 (k1_pay37 (F := F) qi kj) (k1_pay51 (k1_pay40 (Q 1) (K 1)))) (k1_pay70 (k1_pay38 T) (k1_pay61 (k1_pay37 (F := F) qi kj) (k1_pay51 (k1_pay40 (Q 1) (K 1))))) (k1_pay82 (k1_pay60 (k1_pay37 (F := F) qi kj) (k1_pay50 (k1_pay48 (k1_pay39 (Q 0) (K 0))) (k1_pay49 (k1_pay39 (Q 0) (K 0))))) (k1_pay69 (k1_pay38 T) (k1_pay60 (k1_pay37 (F := F) qi kj) (k1_pay50 (k1_pay48 (k1_pay39 (Q 0) (K 0))) (k1_pay49 (k1_pay39 (Q 0) (K 0))))) (k1_pay68 (k1_pay37 (F := F) qi kj) (k1_pay50 (k1_pay48 (k1_pay39 (Q 0) (K 0))) (k1_pay49 (k1_pay39 (Q 0) (K 0)))))) (c 0)) (c 1)) (k1_pay89 (c 2))) (k1_pay96 (c 3)) (c 4)) (c 5)) (k1_pay111 (c 6))) (k1_pay117 (c 7))) (Named.named κ "dead" 0xC2D00000#32))
      = hD fun h => hN (hMask qi kj) (k1_pay38 T) (Q h) (K h) (c h) := rfl
theorem farPayO0 (a : FVec F S1x256x64 .f32) : k1_pay119 a = shapeCast S256x64 a shapeCasts_S1x256x64_S256x64 := by simp only [k1_pay119, castSelf]
theorem farPayP0 (c : FVec F S1x256x1 .f32) : k1_pay120 c = shapeCast S256x1 c shapeCasts_S1x256x1_S256x1 := by simp only [k1_pay120, castSelf]
theorem farPayO1 (a : FVec F S1x256x64 .f32) : k1_pay121 a = shapeCast S256x64 a shapeCasts_S1x256x64_S256x64 := by simp only [k1_pay121, castSelf]
theorem farPayP1 (c : FVec F S1x256x1 .f32) : k1_pay122 c = shapeCast S256x1 c shapeCasts_S1x256x1_S256x1 := by simp only [k1_pay122, castSelf]
theorem farPayO2 (a : FVec F S1x256x64 .f32) : k1_pay123 a = shapeCast S256x64 a shapeCasts_S1x256x64_S256x64 := by simp only [k1_pay123, castSelf]
theorem farPayP2 (c : FVec F S1x256x1 .f32) : k1_pay124 c = shapeCast S256x1 c shapeCasts_S1x256x1_S256x1 := by simp only [k1_pay124, castSelf]
theorem farPayO3 (a : FVec F S1x256x64 .f32) : k1_pay125 a = shapeCast S256x64 a shapeCasts_S1x256x64_S256x64 := by simp only [k1_pay125, castSelf]
theorem farPayP3 (c : FVec F S1x256x1 .f32) : k1_pay126 c = shapeCast S256x1 c shapeCasts_S1x256x1_S256x1 := by simp only [k1_pay126, castSelf]
theorem farPayO4 (a : FVec F S1x256x64 .f32) : k1_pay127 a = shapeCast S256x64 a shapeCasts_S1x256x64_S256x64 := by simp only [k1_pay127, castSelf]
theorem farPayP4 (c : FVec F S1x256x1 .f32) : k1_pay128 c = shapeCast S256x1 c shapeCasts_S1x256x1_S256x1 := by simp only [k1_pay128, castSelf]
theorem farPayO5 (a : FVec F S1x256x64 .f32) : k1_pay129 a = shapeCast S256x64 a shapeCasts_S1x256x64_S256x64 := by simp only [k1_pay129, castSelf]
theorem farPayP5 (c : FVec F S1x256x1 .f32) : k1_pay130 c = shapeCast S256x1 c shapeCasts_S1x256x1_S256x1 := by simp only [k1_pay130, castSelf]
theorem farPayO6 (a : FVec F S1x256x64 .f32) : k1_pay131 a = shapeCast S256x64 a shapeCasts_S1x256x64_S256x64 := by simp only [k1_pay131, castSelf]
theorem farPayP6 (c : FVec F S1x256x1 .f32) : k1_pay7 c = shapeCast S256x1 c shapeCasts_S1x256x1_S256x1 := by simp only [k1_pay7, castSelf]
theorem farPayO7 (a : FVec F S1x256x64 .f32) : k1_pay8 a = shapeCast S256x64 a shapeCasts_S1x256x64_S256x64 := by simp only [k1_pay8, castSelf]
theorem farPayP7 (c : FVec F S1x256x1 .f32) : k1_pay9 c = shapeCast S256x1 c shapeCasts_S1x256x1_S256x1 := by simp only [k1_pay9, castSelf]
theorem farInitC0 (n : FVec F S256x1 .f32) : k1_pay12 n = shapeCast S1x256x1 n shapeCasts_S256x1_S1x256x1 := by simp only [k1_pay11, k1_pay12, k1_pay14, k1_pay18, k1_pay21, k1_pay24, k1_pay29, k1_pay32, castSelf]
theorem farInitA0 (x : FVec F S256x64 .f32) : k1_pay10 x = shapeCast S1x256x64 x shapeCasts_S256x64_S1x256x64 := by simp only [k1_pay10, castSelf]
theorem farInitC1 (n : FVec F S256x1 .f32) : k1_pay15 n = shapeCast S1x256x1 n shapeCasts_S256x1_S1x256x1 := by simp only [k1_pay11, k1_pay14, k1_pay15, k1_pay18, k1_pay21, k1_pay24, k1_pay29, k1_pay32, castSelf]
theorem farInitA1 (x : FVec F S256x64 .f32) : k1_pay13 x = shapeCast S1x256x64 x shapeCasts_S256x64_S1x256x64 := by simp only [k1_pay13, castSelf]
theorem farInitC2 (n : FVec F S256x1 .f32) : k1_pay19 (k1_pay18 n) = shapeCast S1x256x1 n shapeCasts_S256x1_S1x256x1 := by simp only [k1_pay11, k1_pay14, k1_pay18, k1_pay19, k1_pay21, k1_pay24, k1_pay29, k1_pay32, castSelf]
theorem farInitA2 (x : FVec F S256x64 .f32) : k1_pay17 x = shapeCast S1x256x64 x shapeCasts_S256x64_S1x256x64 := by simp only [k1_pay17, castSelf]
theorem farInitC3 (n : FVec F S256x1 .f32) : k1_pay22 n = shapeCast S1x256x1 n shapeCasts_S256x1_S1x256x1 := by simp only [k1_pay11, k1_pay14, k1_pay18, k1_pay21, k1_pay22, k1_pay24, k1_pay29, k1_pay32, castSelf]
theorem farInitA3 (x : FVec F S256x64 .f32) : k1_pay20 x = shapeCast S1x256x64 x shapeCasts_S256x64_S1x256x64 := by simp only [k1_pay20, castSelf]
theorem farInitC4 (n : FVec F S256x1 .f32) : k1_pay25 n = shapeCast S1x256x1 n shapeCasts_S256x1_S1x256x1 := by simp only [k1_pay11, k1_pay14, k1_pay18, k1_pay21, k1_pay24, k1_pay25, k1_pay29, k1_pay32, castSelf]
theorem farInitA4 (x : FVec F S256x64 .f32) : k1_pay23 x = shapeCast S1x256x64 x shapeCasts_S256x64_S1x256x64 := by simp only [k1_pay23, castSelf]
theorem farInitC5 (n : FVec F S256x1 .f32) : k1_pay30 n = shapeCast S1x256x1 n shapeCasts_S256x1_S1x256x1 := by simp only [k1_pay11, k1_pay14, k1_pay18, k1_pay21, k1_pay24, k1_pay29, k1_pay30, k1_pay32, castSelf]
theorem farInitA5 (x : FVec F S256x64 .f32) : k1_pay28 (k1_pay27 x) = shapeCast S1x256x64 x shapeCasts_S256x64_S1x256x64 := by simp only [k1_pay27, k1_pay28, castSelf]
theorem farInitC6 (n : FVec F S256x1 .f32) : k1_pay33 n = shapeCast S1x256x1 n shapeCasts_S256x1_S1x256x1 := by simp only [k1_pay11, k1_pay14, k1_pay18, k1_pay21, k1_pay24, k1_pay29, k1_pay32, k1_pay33, castSelf]
theorem farInitA6 (x : FVec F S256x64 .f32) : k1_pay31 x = shapeCast S1x256x64 x shapeCasts_S256x64_S1x256x64 := by simp only [k1_pay31, castSelf]
theorem farInitC7 (n : FVec F S256x1 .f32) : k1_pay1 (k1_pay36 n) = shapeCast S1x256x1 n shapeCasts_S256x1_S1x256x1 := by simp only [k1_pay1, k1_pay11, k1_pay14, k1_pay18, k1_pay21, k1_pay24, k1_pay29, k1_pay32, k1_pay36, castSelf]
theorem farInitA7 (x : FVec F S256x64 .f32) : k1_pay35 x = shapeCast S1x256x64 x shapeCasts_S256x64_S1x256x64 := by simp only [k1_pay35, castSelf]
theorem farInitD (n : Fin 8 → FVec F S256x1 .f32) :
    Scalar.extui (Scalar.cmpf .olt (k1_pay2 (k1_pay34 (k1_pay26 (k1_pay16 (n 0) (n 1)) (k1_pay18 (n 2)) (n 3) (n 4)) (n 5) (n 6)) (k1_pay36 (n 7))) (Named.named κ "dead" 0xC2D00000#32))
      = hD n := by simp only [k1_pay11, k1_pay14, k1_pay16, k1_pay18, k1_pay2, k1_pay21, k1_pay24, k1_pay26, k1_pay29, k1_pay32, k1_pay34, k1_pay36, castSelf, hD]

end Cert.KernelIdeal.Stick

end
-- ==== Proof.FarFlag.lean ====
module

public import proofs.«01_k».proof.Proof.Loads
public import proofs.«01_k».proof.Proof.FarBody
public import proofs.«01_k».proof.Proof.FarPay

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-- The word of a point that says the row. -/
abbrev farQ (c : Dev nD) (i : grid1.Coords) (f : Bf (F := F) c (Memref.whole main_c_3)) : BitVec 32 := farRun.sl.r c i f
/-- The word of a point that says the column. -/
abbrev farK (c : Dev nD) (i : grid1.Coords) (f : Bf (F := F) c (Memref.whole main_c_4)) : BitVec 32 := farRun.sl.r_1 c i f
/-- The word of a point that says whether the row starts here. -/
abbrev farFi (c : Dev nD) (i : grid1.Coords) (f : Bf (F := F) c (Memref.whole main_c_5)) : BitVec 32 := farRun.sl.r_2 c i f
/-- The word of a point that says whether the row ends here. -/
abbrev farLa (c : Dev nD) (i : grid1.Coords) (f : Bf (F := F) c (Memref.whole main_c_6)) : BitVec 32 := farRun.sl.r_5 c i f
/-- The flag after a point, from the eight heads taken one by one. -/
theorem farPayDL (qi kj : BitVec 32) (T : FVec F S256x256 .bf16) (Q K : Fin 8 → FVec F S1x256x64 .bf16) (c : Fin 8 → FVec F S1x256x1 .f32)
    {Q0 Q1 Q2 Q3 Q4 Q5 Q6 Q7 : FVec F S1x256x64 .bf16} (hQ0 : Q0 = Q 0) (hQ1 : Q1 = Q 1) (hQ2 : Q2 = Q 2) (hQ3 : Q3 = Q 3) (hQ4 : Q4 = Q 4) (hQ5 : Q5 = Q 5) (hQ6 : Q6 = Q 6) (hQ7 : Q7 = Q 7)
    {K0 K1 K2 K3 K4 K5 K6 K7 : FVec F S1x256x64 .bf16} (hK0 : K0 = K 0) (hK1 : K1 = K 1) (hK2 : K2 = K 2) (hK3 : K3 = K 3) (hK4 : K4 = K 4) (hK5 : K5 = K 5) (hK6 : K6 = K 6) (hK7 : K7 = K 7)
    {c0 c1 c2 c3 c4 c5 c6 c7 : FVec F S1x256x1 .f32} (hc0 : c0 = c 0) (hc1 : c1 = c 1) (hc2 : c2 = c 2) (hc3 : c3 = c 3) (hc4 : c4 = c 4) (hc5 : c5 = c 5) (hc6 : c6 = c 6) (hc7 : c7 = c 7)
    : Scalar.extui (Scalar.cmpf .olt (k1_pay6 (k1_pay67 (k1_pay37 (F := F) qi kj) (k1_pay47 Q7 K7)) (k1_pay79 (k1_pay38 T) (k1_pay67 (k1_pay37 (F := F) qi kj) (k1_pay47 Q7 K7))) (k1_pay116 (k1_pay66 (k1_pay37 (F := F) qi kj) (k1_pay46 Q6 K6)) (k1_pay78 (k1_pay38 T) (k1_pay76 (k1_pay66 (k1_pay37 (F := F) qi kj) (k1_pay46 Q6 K6))) (k1_pay77 (k1_pay38 T) (k1_pay66 (k1_pay37 (F := F) qi kj) (k1_pay46 Q6 K6))) (constant S256x256 .f32 0#32)) (k1_pay110 (k1_pay65 (k1_pay37 (F := F) qi kj) (k1_pay55 (k1_pay45 Q5 K5)) (k1_pay56 (k1_pay45 Q5 K5))) (k1_pay74 (k1_pay38 T) (k1_pay65 (k1_pay37 (F := F) qi kj) (k1_pay55 (k1_pay45 Q5 K5)) (k1_pay56 (k1_pay45 Q5 K5)))) (k1_pay105 (k1_pay63 (k1_pay37 (F := F) qi kj) (k1_pay53 (k1_pay43 (k1_pay42 Q3) K3))) (k1_pay64 (k1_pay37 (F := F) qi kj) (k1_pay54 (k1_pay44 Q4 K4))) (k1_pay72 (k1_pay38 T) (k1_pay63 (k1_pay37 (F := F) qi kj) (k1_pay53 (k1_pay43 (k1_pay42 Q3) K3)))) (k1_pay73 (k1_pay38 T) (k1_pay64 (k1_pay37 (F := F) qi kj) (k1_pay54 (k1_pay44 Q4 K4)))) (k1_pay95 (k1_pay62 (k1_pay37 (F := F) qi kj) (k1_pay52 (k1_pay41 Q2 K2))) (k1_pay71 (k1_pay38 T) (k1_pay62 (k1_pay37 (F := F) qi kj) (k1_pay52 (k1_pay41 Q2 K2)))) (k1_pay88 (k1_pay61 (k1_pay37 (F := F) qi kj) (k1_pay51 (k1_pay40 Q1 K1))) (k1_pay70 (k1_pay38 T) (k1_pay61 (k1_pay37 (F := F) qi kj) (k1_pay51 (k1_pay40 Q1 K1)))) (k1_pay82 (k1_pay60 (k1_pay37 (F := F) qi kj) (k1_pay50 (k1_pay48 (k1_pay39 Q0 K0)) (k1_pay49 (k1_pay39 Q0 K0)))) (k1_pay69 (k1_pay38 T) (k1_pay60 (k1_pay37 (F := F) qi kj) (k1_pay50 (k1_pay48 (k1_pay39 Q0 K0)) (k1_pay49 (k1_pay39 Q0 K0)))) (k1_pay68 (k1_pay37 (F := F) qi kj) (k1_pay50 (k1_pay48 (k1_pay39 Q0 K0)) (k1_pay49 (k1_pay39 Q0 K0))))) c0) c1) (k1_pay89 c2)) (k1_pay96 c3) c4) c5) (k1_pay111 c6)) (k1_pay117 c7)) (Named.named κ "dead" 0xC2D00000#32))
      = hD fun h => hN (hMask qi kj) (k1_pay38 T) (Q h) (K h) (c h) := by
  subst hQ0
  subst hQ1
  subst hQ2
  subst hQ3
  subst hQ4
  subst hQ5
  subst hQ6
  subst hQ7
  subst hK0
  subst hK1
  subst hK2
  subst hK3
  subst hK4
  subst hK5
  subst hK6
  subst hK7
  subst hc0
  subst hc1
  subst hc2
  subst hc3
  subst hc4
  subst hc5
  subst hc6
  subst hc7
  exact farPayD qi kj T Q K c
theorem farInitDL (n : Fin 8 → FVec F S256x1 .f32) {n0 n1 n2 n3 n4 n5 n6 n7 : FVec F S256x1 .f32} (h0 : n0 = n 0) (h1 : n1 = n 1) (h2 : n2 = n 2) (h3 : n3 = n 3) (h4 : n4 = n 4) (h5 : n5 = n 5) (h6 : n6 = n 6) (h7 : n7 = n 7) : Scalar.extui (Scalar.cmpf .olt (k1_pay2 (k1_pay34 (k1_pay26 (k1_pay16 n0 n1) (k1_pay18 n2) n3 n4) n5 n6) (k1_pay36 n7)) (Named.named κ "dead" 0xC2D00000#32)) = hD n := by
  subst h0
  subst h1
  subst h2
  subst h3
  subst h4
  subst h5
  subst h6
  subst h7
  exact farInitD n

theorem farBaseC (X9 : S256x512.Idx → F .f32) (X10 : S256x8.Idx → F .f32) (M10 : Memref sig .tc .vmem S256x8 .f32) {w0 w1 w2 w3 w4 w5 w6 w7 : S1x256x1.Idx → Elt F .f32}
    (h0 : w0 = shapeCast S1x256x1 (ldP M10 X10 0) shapeCasts_S256x1_S1x256x1) (h1 : w1 = shapeCast S1x256x1 (ldP M10 X10 1) shapeCasts_S256x1_S1x256x1) (h2 : w2 = shapeCast S1x256x1 (ldP M10 X10 2) shapeCasts_S256x1_S1x256x1) (h3 : w3 = shapeCast S1x256x1 (ldP M10 X10 3) shapeCasts_S256x1_S1x256x1) (h4 : w4 = shapeCast S1x256x1 (ldP M10 X10 4) shapeCasts_S256x1_S1x256x1) (h5 : w5 = shapeCast S1x256x1 (ldP M10 X10 5) shapeCasts_S256x1_S1x256x1) (h6 : w6 = shapeCast S1x256x1 (ldP M10 X10 6) shapeCasts_S256x1_S1x256x1) (h7 : w7 = shapeCast S1x256x1 (ldP M10 X10 7) shapeCasts_S256x1_S1x256x1)
    (f : S8x256x1.Idx → F .f32) (fA : S8x256x64.Idx → F .f32) (fD : S1.Idx → BitVec 32)
    {i0 : ∀ a, (![0, 0, 0] : Fin 3 → ℕ) a + S1x256x1.size a ≤ S8x256x1.size a} {i1 : ∀ a, (![1, 0, 0] : Fin 3 → ℕ) a + S1x256x1.size a ≤ S8x256x1.size a} {i2 : ∀ a, (![2, 0, 0] : Fin 3 → ℕ) a + S1x256x1.size a ≤ S8x256x1.size a} {i3 : ∀ a, (![3, 0, 0] : Fin 3 → ℕ) a + S1x256x1.size a ≤ S8x256x1.size a} {i4 : ∀ a, (![4, 0, 0] : Fin 3 → ℕ) a + S1x256x1.size a ≤ S8x256x1.size a} {i5 : ∀ a, (![5, 0, 0] : Fin 3 → ℕ) a + S1x256x1.size a ≤ S8x256x1.size a} {i6 : ∀ a, (![6, 0, 0] : Fin 3 → ℕ) a + S1x256x1.size a ≤ S8x256x1.size a} {i7 : ∀ a, (![7, 0, 0] : Fin 3 → ℕ) a + S1x256x1.size a ≤ S8x256x1.size a} {q p : Prop} [Decidable q] [Decidable p] (h : q ↔ p) :
    (if _h : q then (View.whole cc1_scratch0).writes (Elt F) f [⟨Rect.unit ![7, 0, 0] S1x256x1.size i7, w7⟩, ⟨Rect.unit ![6, 0, 0] S1x256x1.size i6, w6⟩, ⟨Rect.unit ![5, 0, 0] S1x256x1.size i5, w5⟩, ⟨Rect.unit ![4, 0, 0] S1x256x1.size i4, w4⟩, ⟨Rect.unit ![3, 0, 0] S1x256x1.size i3, w3⟩, ⟨Rect.unit ![2, 0, 0] S1x256x1.size i2, w2⟩, ⟨Rect.unit ![1, 0, 0] S1x256x1.size i1, w1⟩, ⟨Rect.unit ![0, 0, 0] S1x256x1.size i0, w0⟩] else f)
      = (if p then farInit X9 X10 else ⟨f, fA, fD⟩ : St F).C := by
  refine Eq.trans ?_ (iteC h (farInit X9 X10) ⟨f, fA, fD⟩)
  have hf : (fun k : Fin 8 => shapeCast S1x256x1 (ldP M10 X10 k) shapeCasts_S256x1_S1x256x1) = fun k y => X10 (ix2 (y 1) k) := by
    funext k
    rw [ldP_eq]
    exact cast_add (n := 1) _ shapeCasts_S256x1_S1x256x1
  by_cases hq : q
  · rw [dif_pos hq, if_pos hq]
    refine (View.read_whole (Val := Elt F) cc1_scratch0 _).symm.trans ?_
    refine (writes8L (Val := Elt F) (n := 1) (View.whole cc1_scratch0) f (fun k => shapeCast S1x256x1 (ldP M10 X10 k) shapeCasts_S256x1_S1x256x1) h0 h1 h2 h3 h4 h5 h6 h7).trans ?_
    rw [hf]
    rfl
  · rw [dif_neg hq, if_neg hq]

theorem farBaseA (X9 : S256x512.Idx → F .f32) (X10 : S256x8.Idx → F .f32) (M9 : Memref sig .tc .vmem S256x512 .f32) {w0 w1 w2 w3 w4 w5 w6 w7 : S1x256x64.Idx → Elt F .f32}
    (h0 : w0 = shapeCast S1x256x64 (ldO M9 X9 0) shapeCasts_S256x64_S1x256x64) (h1 : w1 = shapeCast S1x256x64 (ldO M9 X9 1) shapeCasts_S256x64_S1x256x64) (h2 : w2 = shapeCast S1x256x64 (ldO M9 X9 2) shapeCasts_S256x64_S1x256x64) (h3 : w3 = shapeCast S1x256x64 (ldO M9 X9 3) shapeCasts_S256x64_S1x256x64) (h4 : w4 = shapeCast S1x256x64 (ldO M9 X9 4) shapeCasts_S256x64_S1x256x64) (h5 : w5 = shapeCast S1x256x64 (ldO M9 X9 5) shapeCasts_S256x64_S1x256x64) (h6 : w6 = shapeCast S1x256x64 (ldO M9 X9 6) shapeCasts_S256x64_S1x256x64) (h7 : w7 = shapeCast S1x256x64 (ldO M9 X9 7) shapeCasts_S256x64_S1x256x64)
    (f : S8x256x64.Idx → F .f32) (fC : S8x256x1.Idx → F .f32) (fD : S1.Idx → BitVec 32)
    {i0 : ∀ a, (![0, 0, 0] : Fin 3 → ℕ) a + S1x256x64.size a ≤ S8x256x64.size a} {i1 : ∀ a, (![1, 0, 0] : Fin 3 → ℕ) a + S1x256x64.size a ≤ S8x256x64.size a} {i2 : ∀ a, (![2, 0, 0] : Fin 3 → ℕ) a + S1x256x64.size a ≤ S8x256x64.size a} {i3 : ∀ a, (![3, 0, 0] : Fin 3 → ℕ) a + S1x256x64.size a ≤ S8x256x64.size a} {i4 : ∀ a, (![4, 0, 0] : Fin 3 → ℕ) a + S1x256x64.size a ≤ S8x256x64.size a} {i5 : ∀ a, (![5, 0, 0] : Fin 3 → ℕ) a + S1x256x64.size a ≤ S8x256x64.size a} {i6 : ∀ a, (![6, 0, 0] : Fin 3 → ℕ) a + S1x256x64.size a ≤ S8x256x64.size a} {i7 : ∀ a, (![7, 0, 0] : Fin 3 → ℕ) a + S1x256x64.size a ≤ S8x256x64.size a} {q p : Prop} [Decidable q] [Decidable p] (h : q ↔ p) :
    (if _h : q then (View.whole cc1_scratch1).writes (Elt F) f [⟨Rect.unit ![7, 0, 0] S1x256x64.size i7, w7⟩, ⟨Rect.unit ![6, 0, 0] S1x256x64.size i6, w6⟩, ⟨Rect.unit ![5, 0, 0] S1x256x64.size i5, w5⟩, ⟨Rect.unit ![4, 0, 0] S1x256x64.size i4, w4⟩, ⟨Rect.unit ![3, 0, 0] S1x256x64.size i3, w3⟩, ⟨Rect.unit ![2, 0, 0] S1x256x64.size i2, w2⟩, ⟨Rect.unit ![1, 0, 0] S1x256x64.size i1, w1⟩, ⟨Rect.unit ![0, 0, 0] S1x256x64.size i0, w0⟩] else f)
      = (if p then farInit X9 X10 else ⟨fC, f, fD⟩ : St F).A := by
  refine Eq.trans ?_ (iteA h (farInit X9 X10) ⟨fC, f, fD⟩)
  have hf : (fun k : Fin 8 => shapeCast S1x256x64 (ldO M9 X9 k) shapeCasts_S256x64_S1x256x64) = fun k y => X9 (ix2 (y 1) (col k (y 2))) := by
    funext k
    rw [ldO_eq]
    exact cast_add (n := 64) _ shapeCasts_S256x64_S1x256x64
  by_cases hq : q
  · rw [dif_pos hq, if_pos hq]
    refine (View.read_whole (Val := Elt F) cc1_scratch1 _).symm.trans ?_
    refine (writes8L (Val := Elt F) (n := 64) (View.whole cc1_scratch1) f (fun k => shapeCast S1x256x64 (ldO M9 X9 k) shapeCasts_S256x64_S1x256x64) h0 h1 h2 h3 h4 h5 h6 h7).trans ?_
    rw [hf]
    rfl
  · rw [dif_neg hq, if_neg hq]

theorem if_congr_left {α : Sort*} {p : Prop} [Decidable p] {x y : α} (h : x = y) (z : α) : (if p then x else z) = if p then y else z := by rw [h]

theorem farInitFlag (X9 : S256x512.Idx → F .f32) (X10 : S256x8.Idx → F .f32) (M10 : Memref sig .tc .vmem S256x8 .f32) :
    (hD fun h => ldP M10 X10 h) = (farInit X9 X10).D (ValueIdx.ix1 0) := by
  rw [show (fun h => ldP M10 X10 h) = fun h y => X10 (ix2 (y 0) h) from funext fun h => ldP_eq M10 X10 h]
  rfl

theorem farFlag (c : Dev nD) (i : grid1.Coords) (X9 : S256x512.Idx → F .f32) (X10 : S256x8.Idx → F .f32) (M10 : Memref sig .tc .vmem S256x8 .f32) (f3 : Bf (F := F) c (Memref.whole main_c_5))
    (fC : Bf (F := F) c (Memref.whole cc1_scratch0)) (fA : Bf (F := F) c (Memref.whole cc1_scratch1)) (fD : Bf (F := F) c (Memref.whole cc1_scratch2)) :
    farRun.sl.r_4 c i M10 f3 X10 fD = (if farFi c i f3 = 1#32 then (farInit X9 X10) else ⟨fC, fA, fD⟩ : St F).D (ValueIdx.ix1 0) := by
  refine Eq.trans ?_ (congrFun ((base_full (Val := Elt F) cc1_scratch2 fD (fun _ => _) inb_S1_S1_0).trans (((if_congr_left (funext fun _ => (farInitDL (fun k => ldP M10 X10 k) rfl rfl rfl rfl rfl rfl rfl rfl).trans (farInitFlag X9 X10 M10)) fD).trans (iteD (word_test _ _) (farInit X9 X10) ⟨fC, fA, fD⟩)))) (ValueIdx.ix1 0))
  exact (congrFun (View.readAt_full (Val := Elt F) (View.whole cc1_scratch2) _ inb_S1_S1_0) _).trans
    (congrArg _ (funext fun a => match a with | ⟨0, _⟩ => rfl))

end Cert.KernelIdeal.Stick

end
-- ==== Proof.FarC.lean ====
module

public import proofs.«01_k».proof.Proof.FarFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem farRun_C (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3))
    (f2 : Bf (F := F) c (Memref.whole main_c_4))
    (f3 : Bf (F := F) c (Memref.whole main_c_5))
    (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0))
    (fA : Bf (F := F) c (Memref.whole cc1_scratch1))
    (fD : Bf (F := F) c (Memref.whole cc1_scratch2))
    : (farRun c i M5 h5 M6 h6 M7 h7 M8 h8 M9 h9 M10 h10 M11 h11 M12 h12 f1 f2 f3 f4 X5 X6 X7 X8 X9 X10 f11 f12 fC fA fD).1.C = (stepAt (farInit X9 X10) (farQ c i f1) (farK c i f2) (farFi c i f3) X5 X6 X7 X8 ⟨fC, fA, fD⟩).C := by
  have hD0 := farFlag c i X9 X10 M10 f3 fC fA fD
  unfold farRun
  dsimp only
  show _ = (if (if farFi c i f3 = 1#32 then (farInit X9 X10) else ⟨fC, fA, fD⟩ : St F).D (ValueIdx.ix1 0) = 0#32 then _ else (if farFi c i f3 = 1#32 then (farInit X9 X10) else ⟨fC, fA, fD⟩ : St F) : St F).C
  by_cases h4 : farRun.sl.r_4 c i M10 f3 X10 fD = 0#32
  · rw [if_pos (hD0.symm.trans h4)]
    refine (dif_pos ((word_test _ _).mpr h4)).trans ?_
    refine (View.read_whole (Val := Elt F) cc1_scratch0 _).symm.trans ?_
    refine (stepC (View.whole cc1_scratch0) _ (hMask (farQ c i f1) (farK c i f2)) (k1_pay38 (ldT M8 X8)) (ldQ M5 X5) (ldQ M6 X6) (farPayC0 _ _ _ _ _ _) (farPayC1 _ _ _ _ _ _) (farPayC2 _ _ _ _ _ _) (farPayC3 _ _ _ _ _ _) (farPayC4 _ _ _ _ _ _) (farPayC5 _ _ _ _ _ _) (farPayC6 _ _ _ _ _ _) (farPayC7 _ _ _ _ _ _)).trans ?_
    have hT : k1_pay38 (ldT M8 X8) = X8 := (farPayT _).trans (ldT_eq M8 X8)
    have hq : ldQ M5 X5 = fun k => hd k X5 := funext fun k => ldQ_eq M5 X5 k
    have hk : ldQ M6 X6 = fun k => hd k X6 := funext fun k => ldQ_eq M6 X6 k
    rw [hT, hq, hk]
    exact congrArg (fun b : S8x256x1.Idx → F .f32 => unhd fun k => hC (hMask (farQ c i f1) (farK c i f2)) X8 (hd k X5) (hd k X6) (hd k b)) (farBaseC X9 X10 M10 (farInitC0 _) (farInitC1 _) (farInitC2 _) (farInitC3 _) (farInitC4 _) (farInitC5 _) (farInitC6 _) (farInitC7 _) fC fA fD (word_test _ _))
  · rw [if_neg fun h => h4 (hD0.trans h)]
    refine (dif_neg fun h => h4 ((word_test _ _).mp h)).trans ?_
    exact (farBaseC X9 X10 M10 (farInitC0 _) (farInitC1 _) (farInitC2 _) (farInitC3 _) (farInitC4 _) (farInitC5 _) (farInitC6 _) (farInitC7 _) fC fA fD (word_test _ _))

end Cert.KernelIdeal.Stick

end
-- ==== Proof.FarA.lean ====
module

public import proofs.«01_k».proof.Proof.FarFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem farRun_A (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3))
    (f2 : Bf (F := F) c (Memref.whole main_c_4))
    (f3 : Bf (F := F) c (Memref.whole main_c_5))
    (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0))
    (fA : Bf (F := F) c (Memref.whole cc1_scratch1))
    (fD : Bf (F := F) c (Memref.whole cc1_scratch2))
    : (farRun c i M5 h5 M6 h6 M7 h7 M8 h8 M9 h9 M10 h10 M11 h11 M12 h12 f1 f2 f3 f4 X5 X6 X7 X8 X9 X10 f11 f12 fC fA fD).1.A = (stepAt (farInit X9 X10) (farQ c i f1) (farK c i f2) (farFi c i f3) X5 X6 X7 X8 ⟨fC, fA, fD⟩).A := by
  have hD0 := farFlag c i X9 X10 M10 f3 fC fA fD
  unfold farRun
  dsimp only
  show _ = (if (if farFi c i f3 = 1#32 then (farInit X9 X10) else ⟨fC, fA, fD⟩ : St F).D (ValueIdx.ix1 0) = 0#32 then _ else (if farFi c i f3 = 1#32 then (farInit X9 X10) else ⟨fC, fA, fD⟩ : St F) : St F).A
  by_cases h4 : farRun.sl.r_4 c i M10 f3 X10 fD = 0#32
  · rw [if_pos (hD0.symm.trans h4)]
    refine (dif_pos ((word_test _ _).mpr h4)).trans ?_
    refine (View.read_whole (Val := Elt F) cc1_scratch1 _).symm.trans ?_
    refine (stepA (View.whole cc1_scratch1) _ (hMask (farQ c i f1) (farK c i f2)) (k1_pay38 (ldT M8 X8)) (ldQ M5 X5) (ldQ M6 X6) (ldQ M7 X7) (fun k => ld8 (Val := Elt F) (n := 1) (View.whole cc1_scratch0) _ k) (farPayA0 _ _ _ _ _ _ _ _) (farPayA1 _ _ _ _ _ _ _ _) (farPayA2 _ _ _ _ _ _ _ _) (farPayA3 _ _ _ _ _ _ _ _) (farPayA4 _ _ _ _ _ _ _ _) (farPayA5 _ _ _ _ _ _ _ _) (farPayA6 _ _ _ _ _ _ _ _) (farPayA7 _ _ _ _ _ _ _ _)).trans ?_
    have hT : k1_pay38 (ldT M8 X8) = X8 := (farPayT _).trans (ldT_eq M8 X8)
    have hq : ldQ M5 X5 = fun k => hd k X5 := funext fun k => ldQ_eq M5 X5 k
    have hk : ldQ M6 X6 = fun k => hd k X6 := funext fun k => ldQ_eq M6 X6 k
    have hv : ldQ M7 X7 = fun k => hd k X7 := funext fun k => ldQ_eq M7 X7 k
    rw [hT, hq, hk, hv]
    refine (congrArg (fun b : S8x256x64.Idx → F .f32 => unhd fun k => hA (hMask (farQ c i f1) (farK c i f2)) X8 (hd k X5) (hd k X6) (hd k X7) (ld8 (Val := Elt F) (n := 1) (View.whole cc1_scratch0) _ k) (hd k b)) (farBaseA X9 X10 M9 (farInitA0 _) (farInitA1 _) (farInitA2 _) (farInitA3 _) (farInitA4 _) (farInitA5 _) (farInitA6 _) (farInitA7 _) fA fC fD (word_test _ _))).trans ?_
    show unhd _ = unhd (fun k => hA (hMask (farQ c i f1) (farK c i f2)) X8 (hd k X5) (hd k X6) (hd k X7) (hd k (if farFi c i f3 = 1#32 then (farInit X9 X10) else ⟨fC, fA, fD⟩ : St F).C) (hd k (if farFi c i f3 = 1#32 then (farInit X9 X10) else ⟨fC, fA, fD⟩ : St F).A))
    refine congrArg unhd (funext fun k => ?_)
    exact congrArg (fun b : S1x256x1.Idx → F .f32 => hA (hMask (farQ c i f1) (farK c i f2)) X8 (hd k X5) (hd k X6) (hd k X7) b _)
      ((readAt8 (Val := Elt F) (n := 1) (View.whole cc1_scratch0) _ k).trans (congrArg (hd k) (farBaseC X9 X10 M10 (farInitC0 _) (farInitC1 _) (farInitC2 _) (farInitC3 _) (farInitC4 _) (farInitC5 _) (farInitC6 _) (farInitC7 _) fC fA fD (word_test _ _))))
  · rw [if_neg fun h => h4 (hD0.trans h)]
    refine (dif_neg fun h => h4 ((word_test _ _).mp h)).trans ?_
    exact (farBaseA X9 X10 M9 (farInitA0 _) (farInitA1 _) (farInitA2 _) (farInitA3 _) (farInitA4 _) (farInitA5 _) (farInitA6 _) (farInitA7 _) fA fC fD (word_test _ _))

end Cert.KernelIdeal.Stick

end
-- ==== Proof.FarD.lean ====
module

public import proofs.«01_k».proof.Proof.FarFlag

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

/-- The flag from heads, masks and tiles that agree. -/
theorem farD_congr {m : IVec S256x256 1} {T T' : FVec F S256x256 .bf16} {Q Q' K K' : Fin 8 → FVec F S1x256x64 .bf16} {c c' : Fin 8 → FVec F S1x256x1 .f32}
    (hT : T = T') (hQ : ∀ k, Q k = Q' k) (hK : ∀ k, K k = K' k) (hc : ∀ k, c k = c' k) :
    (hD fun h => hN m T (Q h) (K h) (c h)) = hD fun h => hN m T' (Q' h) (K' h) (c' h) := by
  subst hT
  obtain rfl := funext hQ
  obtain rfl := funext hK
  obtain rfl := funext hc
  rfl

set_option maxHeartbeats 1600000 in
theorem farRun_D (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3))
    (f2 : Bf (F := F) c (Memref.whole main_c_4))
    (f3 : Bf (F := F) c (Memref.whole main_c_5))
    (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0))
    (fA : Bf (F := F) c (Memref.whole cc1_scratch1))
    (fD : Bf (F := F) c (Memref.whole cc1_scratch2))
    : (farRun c i M5 h5 M6 h6 M7 h7 M8 h8 M9 h9 M10 h10 M11 h11 M12 h12 f1 f2 f3 f4 X5 X6 X7 X8 X9 X10 f11 f12 fC fA fD).1.D = (stepAt (farInit X9 X10) (farQ c i f1) (farK c i f2) (farFi c i f3) X5 X6 X7 X8 ⟨fC, fA, fD⟩).D := by
  have hD0 := farFlag c i X9 X10 M10 f3 fC fA fD
  unfold farRun
  dsimp only
  show _ = (if (if farFi c i f3 = 1#32 then (farInit X9 X10) else ⟨fC, fA, fD⟩ : St F).D (ValueIdx.ix1 0) = 0#32 then _ else (if farFi c i f3 = 1#32 then (farInit X9 X10) else ⟨fC, fA, fD⟩ : St F) : St F).D
  by_cases h4 : farRun.sl.r_4 c i M10 f3 X10 fD = 0#32
  · rw [if_pos (hD0.symm.trans h4)]
    refine (dif_pos ((word_test _ _).mpr h4)).trans ?_
    refine (View.read_whole (Val := Elt F) cc1_scratch2 _).symm.trans ?_
    refine (View.read_writes_full (Val := Elt F) (View.whole cc1_scratch2) _ inb_S1_S1_0 _ []).trans ?_
    refine funext fun _ => ?_
    refine Eq.trans (farPayDL _ _ _ (ldQ M5 X5) (ldQ M6 X6) (fun k => ld8 (Val := Elt F) (n := 1) (View.whole cc1_scratch0) ?b k) ?h0 ?h1 ?h2 ?h3 ?h4 ?h5 ?h6 ?h7 ?h8 ?h9 ?h10 ?h11 ?h12 ?h13 ?h14 ?h15 ?h16 ?h17 ?h18 ?h19 ?h20 ?h21 ?h22 ?h23) ?fin
    case h0 => rfl
    case h1 => rfl
    case h2 => rfl
    case h3 => rfl
    case h4 => rfl
    case h5 => rfl
    case h6 => rfl
    case h7 => rfl
    case h8 => rfl
    case h9 => rfl
    case h10 => rfl
    case h11 => rfl
    case h12 => rfl
    case h13 => rfl
    case h14 => rfl
    case h15 => rfl
    case h16 => rfl
    case h17 => rfl
    case h18 => rfl
    case h19 => rfl
    case h20 => rfl
    case h21 => rfl
    case h22 => rfl
    case h23 => rfl
    refine farD_congr (T' := X8) (Q' := fun k => hd k X5) (K' := fun k => hd k X6) (c' := fun k => hd k (if farFi c i f3 = 1#32 then (farInit X9 X10) else ⟨fC, fA, fD⟩ : St F).C) ?_ ?_ ?_ ?_
    · exact (farPayT _).trans (ldT_eq M8 X8)
    · exact fun k => ldQ_eq M5 X5 k
    · exact fun k => ldQ_eq M6 X6 k
    · exact fun k => (readAt8 (Val := Elt F) (n := 1) (View.whole cc1_scratch0) _ k).trans (congrArg (hd k) (farBaseC X9 X10 M10 (farInitC0 _) (farInitC1 _) (farInitC2 _) (farInitC3 _) (farInitC4 _) (farInitC5 _) (farInitC6 _) (farInitC7 _) fC fA fD (word_test _ _)))
  · rw [if_neg fun h => h4 (hD0.trans h)]
    refine (dif_neg fun h => h4 ((word_test _ _).mp h)).trans ?_
    by_cases h : farFi c i f3 = 1#32
    · rw [if_pos h]
      refine (dif_pos ((word_test _ _).mpr h)).trans ?_
      refine (View.read_writes_full (Val := Elt F) (View.whole cc1_scratch2) fD inb_S1_S1_0 _ []).trans ?_
      exact funext fun _ => (farInitDL (fun k => ldP M10 X10 k) rfl rfl rfl rfl rfl rfl rfl rfl).trans (farInitFlag X9 X10 M10)
    · rw [if_neg h]
      exact dif_neg fun h' => h ((word_test _ _).mp h')

end Cert.KernelIdeal.Stick

end
-- ==== Proof.FarOut.lean ====
module

public import proofs.«01_k».proof.Proof.FarC
public import proofs.«01_k».proof.Proof.FarA

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

set_option maxHeartbeats 1600000 in
theorem farRun_o (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3))
    (f2 : Bf (F := F) c (Memref.whole main_c_4))
    (f3 : Bf (F := F) c (Memref.whole main_c_5))
    (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0))
    (fA : Bf (F := F) c (Memref.whole cc1_scratch1))
    (fD : Bf (F := F) c (Memref.whole cc1_scratch2))
    : M11.view.read (Elt F) (farRun c i M5 h5 M6 h6 M7 h7 M8 h8 M9 h9 M10 h10 M11 h11 M12 h12 f1 f2 f3 f4 X5 X6 X7 X8 X9 X10 f11 f12 fC fA fD).1.o
      = if farLa c i f4 = 1#32 then accBlk (stepAt (farInit X9 X10) (farQ c i f1) (farK c i f2) (farFi c i f3) X5 X6 X7 X8 ⟨fC, fA, fD⟩).A else M11.view.read (Elt F) f11 := by
  rw [← farRun_A c i M5 h5 M6 h6 M7 h7 M8 h8 M9 h9 M10 h10 M11 h11 M12 h12 f1 f2 f3 f4 X5 X6 X7 X8 X9 X10 f11 f12 fC fA fD]
  unfold farRun
  dsimp only
  by_cases h : farLa c i f4 = 1#32
  · rw [if_pos h]
    refine (congrArg (M11.view.read (Elt F)) (dif_pos ((word_test _ _).mpr h))).trans ?_
    refine (emitO M11.view f11 (View.whole cc1_scratch1) _ (farPayO0 _) (farPayO1 _) (farPayO2 _) (farPayO3 _) (farPayO4 _) (farPayO5 _) (farPayO6 _) (farPayO7 _)).trans ?_
    exact congrArg accBlk (View.read_whole (Val := Elt F) cc1_scratch1 _)
  · rw [if_neg h]
    exact congrArg (M11.view.read (Elt F)) (dif_neg fun h' => h ((word_test _ _).mp h'))

set_option maxHeartbeats 1600000 in
theorem farRun_p (c : Dev nD) (i : grid1.Coords)
    (M5 : Memref sig .tc .vmem S8x256x64 .bf16) (h5 : M5.IsWhole)
    (M6 : Memref sig .tc .vmem S8x256x64 .bf16) (h6 : M6.IsWhole)
    (M7 : Memref sig .tc .vmem S8x256x64 .bf16) (h7 : M7.IsWhole)
    (M8 : Memref sig .tc .vmem S256x256 .bf16) (h8 : M8.IsWhole)
    (M9 : Memref sig .tc .vmem S256x512 .f32) (h9 : M9.IsWhole)
    (M10 : Memref sig .tc .vmem S256x8 .f32) (h10 : M10.IsWhole)
    (M11 : Memref sig .tc .vmem S256x512 .f32) (h11 : M11.IsWhole)
    (M12 : Memref sig .tc .vmem S256x8 .f32) (h12 : M12.IsWhole)
    (f1 : Bf (F := F) c (Memref.whole main_c_3))
    (f2 : Bf (F := F) c (Memref.whole main_c_4))
    (f3 : Bf (F := F) c (Memref.whole main_c_5))
    (f4 : Bf (F := F) c (Memref.whole main_c_6))
    (X5 X6 X7 : S8x256x64.Idx → Elt F .bf16) (X8 : S256x256.Idx → Elt F .bf16)
    (X9 : S256x512.Idx → Elt F .f32) (X10 : S256x8.Idx → Elt F .f32)
    (f11 : Bf (F := F) c M11) (f12 : Bf (F := F) c M12)
    (fC : Bf (F := F) c (Memref.whole cc1_scratch0))
    (fA : Bf (F := F) c (Memref.whole cc1_scratch1))
    (fD : Bf (F := F) c (Memref.whole cc1_scratch2))
    : M12.view.read (Elt F) (farRun c i M5 h5 M6 h6 M7 h7 M8 h8 M9 h9 M10 h10 M11 h11 M12 h12 f1 f2 f3 f4 X5 X6 X7 X8 X9 X10 f11 f12 fC fA fD).1.p
      = if farLa c i f4 = 1#32 then carryBlk (stepAt (farInit X9 X10) (farQ c i f1) (farK c i f2) (farFi c i f3) X5 X6 X7 X8 ⟨fC, fA, fD⟩).C else M12.view.read (Elt F) f12 := by
  rw [← farRun_C c i M5 h5 M6 h6 M7 h7 M8 h8 M9 h9 M10 h10 M11 h11 M12 h12 f1 f2 f3 f4 X5 X6 X7 X8 X9 X10 f11 f12 fC fA fD]
  unfold farRun
  dsimp only
  by_cases h : farLa c i f4 = 1#32
  · rw [if_pos h]
    refine (congrArg (M12.view.read (Elt F)) (dif_pos ((word_test _ _).mpr h))).trans ?_
    refine (emitP M12.view f12 (View.whole cc1_scratch0) _ (farPayP0 _) (farPayP1 _) (farPayP2 _) (farPayP3 _) (farPayP4 _) (farPayP5 _) (farPayP6 _) (farPayP7 _)).trans ?_
    exact congrArg carryBlk (View.read_whole (Val := Elt F) cc1_scratch0 _)
  · rw [if_neg h]
    exact congrArg (M12.view.read (Elt F)) (dif_neg fun h' => h ((word_test _ _).mp h'))

end Cert.KernelIdeal.Stick

end
-- ==== Proof.FarDat.lean ====
module

public import proofs.«01_k».proof.Proof.FarC
public import proofs.«01_k».proof.Proof.FarA
public import proofs.«01_k».proof.Proof.FarD
public import proofs.«01_k».proof.Proof.FarOut
public import proofs.«01_k».proof.Proof.Tables
public import proofs.«01_k».proof.Proof.Own
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- Input window `w`'s block at point `t`. -/
abbrev bk1 (W : Valuation τ sig (Elt F)) (c : Dev nD) (w : Fin 8) (t : Fin grid1.N) : ((cfg1 (adm1 (F := F))).win w).block.Idx → Elt F ((cfg1 (adm1 (F := F))).win w).elt :=
  (((cfg1 (adm1 (F := F))).win w).blk t).view.read (Elt F) (en W c (Pipeline.arrRef spec1 w))

/-- The state before point `n`. -/
def st1 (W : Valuation τ sig (Elt F)) (c : Dev nD) : ℕ → St F
  | 0 => nearInit
  | n + 1 => if h : n < grid1.N then stepAt (farInit (bk1 W c 4 ⟨n, h⟩) (bk1 W c 5 ⟨n, h⟩)) (lit4 ⟨n, h.trans_eq N_1⟩) (lit5 ⟨n, h.trans_eq N_1⟩) (lit6 ⟨n, h.trans_eq N_1⟩) (bk1 W c 0 ⟨n, h⟩) (bk1 W c 1 ⟨n, h⟩) (bk1 W c 2 ⟨n, h⟩) (bk1 W c 3 ⟨n, h⟩) (st1 W c n) else nearInit

theorem st1_succ (W : Valuation τ sig (Elt F)) (c : Dev nD) (t : Fin grid1.N) (s : St F) (hs : t.val ≠ 0 → s = st1 W c t.val) :
    stepAt (farInit (bk1 W c 4 t) (bk1 W c 5 t)) (lit4 ⟨t.val, t.isLt.trans_eq N_1⟩) (lit5 ⟨t.val, t.isLt.trans_eq N_1⟩) (lit6 ⟨t.val, t.isLt.trans_eq N_1⟩) (bk1 W c 0 t) (bk1 W c 1 t) (bk1 W c 2 t) (bk1 W c 3 t) s = st1 W c (t.val + 1) := by
  refine Eq.trans ?_ (dif_pos t.isLt).symm
  by_cases h : t.val = 0
  · have h1 : lit6 ⟨t.val, t.isLt.trans_eq N_1⟩ = 1#32 := (congrArg lit6 (Fin.ext h)).trans lit6_zero
    unfold stepAt
    rw [if_pos h1, if_pos h1]
  · rw [hs h]

/-- The scoped buffers this region does not use. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The state, the other scoped buffers and the tables, before point `n`. -/
def inv1 (W : Valuation τ sig (Elt F)) (c : Dev nD) (n : ℕ) : sProp 𝕄 :=
  iprop(∃ s : St F, ⌜n ≠ 0 → s = st1 W c n⌝ ∗ pt c (Memref.whole cc1_scratch0) s.C ∗ pt c (Memref.whole cc1_scratch1) s.A ∗ pt c (Memref.whole cc1_scratch2) s.D
    ∗ rest1 c ∗ pt c (Memref.whole main_c_3) (tab1 (F := F) 0) ∗ pt c (Memref.whole main_c_4) (tab1 (F := F) 1) ∗ pt c (Memref.whole main_c_5) (tab1 (F := F) 2) ∗ pt c (Memref.whole main_c_6) (tab1 (F := F) 3))

/-- The proof data of region 1, entered at the valuation `W`. -/
def dat1 (W : Valuation τ sig (Elt F)) (c : Dev nD) : Dat τ (Elt F) Unit ℕ (UR sig nD τ) ℕ (cfg1 (adm1 (F := F))) c where
  A w := en W c (Pipeline.arrRef spec1 w)
  after w t := match w with
    | ⟨0, _⟩ => bk1 W c 0 t
    | ⟨1, _⟩ => bk1 W c 1 t
    | ⟨2, _⟩ => bk1 W c 2 t
    | ⟨3, _⟩ => bk1 W c 3 t
    | ⟨4, _⟩ => bk1 W c 4 t
    | ⟨5, _⟩ => bk1 W c 5 t
    | ⟨6, _⟩ => accBlk (st1 W c (t.val + 1)).A
    | ⟨7, _⟩ => carryBlk (st1 W c (t.val + 1)).C
  Φ t := inv1 W c t.val
  q _ := fullShare
  owed _ := 0

theorem word1_q (c : Dev nD) (i : grid1.Coords) : farQ c i (tab1 (F := F) 0) = lit4 (i 0) := word1 lit4 i _ (pos1 i)
theorem word1_k (c : Dev nD) (i : grid1.Coords) : farK c i (tab1 (F := F) 1) = lit5 (i 0) := word1 lit5 i _ (pos1 i)
theorem word1_f (c : Dev nD) (i : grid1.Coords) : farFi c i (tab1 (F := F) 2) = lit6 (i 0) := word1 lit6 i _ (pos1 i)
theorem word1_l (c : Dev nD) (i : grid1.Coords) : farLa c i (tab1 (F := F) 3) = lit7 (i 0) := word1 lit7 i _ (pos1 i)

theorem before1_0 (W : Valuation τ sig (Elt F)) (c : Dev nD) (t : Fin grid1.N) (d) : (dat1 W c).before 0 t d = bk1 W c 0 t :=
  ((dat1 W c).before_in_eq_fetched 0 rfl (fun _ => rfl) (fun _ _ _ => rfl) (fun _ => rfl) t d).trans rfl
theorem before1_1 (W : Valuation τ sig (Elt F)) (c : Dev nD) (t : Fin grid1.N) (d) : (dat1 W c).before 1 t d = bk1 W c 1 t :=
  ((dat1 W c).before_in_eq_fetched 1 rfl (fun _ => rfl) (fun _ _ _ => rfl) (fun _ => rfl) t d).trans rfl
theorem before1_2 (W : Valuation τ sig (Elt F)) (c : Dev nD) (t : Fin grid1.N) (d) : (dat1 W c).before 2 t d = bk1 W c 2 t :=
  ((dat1 W c).before_in_eq_fetched 2 rfl (fun _ => rfl) (fun _ _ _ => rfl) (fun _ => rfl) t d).trans rfl
theorem before1_3 (W : Valuation τ sig (Elt F)) (c : Dev nD) (t : Fin grid1.N) (d) : (dat1 W c).before 3 t d = bk1 W c 3 t :=
  ((dat1 W c).before_in_eq_fetched 3 rfl (fun _ => rfl) (fun _ _ _ => rfl) (fun _ => rfl) t d).trans rfl
theorem before1_4 (W : Valuation τ sig (Elt F)) (c : Dev nD) (t : Fin grid1.N) (d) : (dat1 W c).before 4 t d = bk1 W c 4 t :=
  ((dat1 W c).before_in_eq_fetched 4 rfl (fun _ => rfl) (fun _ _ _ => rfl) (fun _ => rfl) t d).trans rfl
theorem before1_5 (W : Valuation τ sig (Elt F)) (c : Dev nD) (t : Fin grid1.N) (d) : (dat1 W c).before 5 t d = bk1 W c 5 t :=
  ((dat1 W c).before_in_eq_fetched 5 rfl (fun _ => rfl) (fun _ _ _ => rfl) (fun _ => rfl) t d).trans rfl
theorem idle1_6 (t : Fin grid1.N) (h : ¬ lit7 ⟨t.val, t.isLt.trans_eq N_1⟩ = 1#32) : (cfg1 (adm1 (F := F))).idle 6 (grid1.coords t) = true := by
  show (!(k1_cond3 ((tab1 (F := F)).atD 3 (k1_off2 (grid1.coords t))) == 1#1)) = true
  rw [last1, at1]
  exact congrArg (fun b : Bool => !b) (beq_false_of_ne fun e => h ((word_test _ _).mp e))
theorem live1_6 (t : Fin grid1.N) (h : lit7 ⟨t.val, t.isLt.trans_eq N_1⟩ = 1#32) : (cfg1 (adm1 (F := F))).idle 6 (grid1.coords t) = false := by
  show (!(k1_cond3 ((tab1 (F := F)).atD 3 (k1_off2 (grid1.coords t))) == 1#1)) = false
  rw [last1, at1]
  exact congrArg (fun b : Bool => !b) (beq_iff_eq.mpr ((word_test _ _).mpr h))
theorem flush1_6 (t : Fin grid1.N) : ((cfg1 (adm1 (F := F))).win 6).flush t = decide (lit7 ⟨t.val, t.isLt.trans_eq N_1⟩ = 1#32) :=
  turn1 t _ fun i => ix1_6 i
theorem idle1_7 (t : Fin grid1.N) (h : ¬ lit7 ⟨t.val, t.isLt.trans_eq N_1⟩ = 1#32) : (cfg1 (adm1 (F := F))).idle 7 (grid1.coords t) = true := by
  show (!(k1_cond3 ((tab1 (F := F)).atD 3 (k1_off2 (grid1.coords t))) == 1#1)) = true
  rw [last1, at1]
  exact congrArg (fun b : Bool => !b) (beq_false_of_ne fun e => h ((word_test _ _).mp e))
theorem live1_7 (t : Fin grid1.N) (h : lit7 ⟨t.val, t.isLt.trans_eq N_1⟩ = 1#32) : (cfg1 (adm1 (F := F))).idle 7 (grid1.coords t) = false := by
  show (!(k1_cond3 ((tab1 (F := F)).atD 3 (k1_off2 (grid1.coords t))) == 1#1)) = false
  rw [last1, at1]
  exact congrArg (fun b : Bool => !b) (beq_iff_eq.mpr ((word_test _ _).mpr h))
theorem flush1_7 (t : Fin grid1.N) : ((cfg1 (adm1 (F := F))).win 7).flush t = decide (lit7 ⟨t.val, t.isLt.trans_eq N_1⟩ = 1#32) :=
  turn1 t _ fun i => ix1_7 i

end Cert.KernelIdeal.Stick

end
-- ==== Proof.FarObl.lean ====
module

public import proofs.«01_k».proof.Proof.FarDat
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- The state and the outputs after point `t`. -/
theorem step1 (W : Valuation τ sig (Elt F)) (c : Dev nD) (t : Fin grid1.N) (s : St F) (hs : t.val ≠ 0 → s = st1 W c t.val) :
    stepAt (farInit (bk1 W c 4 t) (bk1 W c 5 t)) (farQ c (grid1.coords t) (tab1 (F := F) 0)) (farK c (grid1.coords t) (tab1 (F := F) 1)) (farFi c (grid1.coords t) (tab1 (F := F) 2)) (bk1 W c 0 t) (bk1 W c 1 t) (bk1 W c 2 t) (bk1 W c 3 t) ⟨s.C, s.A, s.D⟩ = st1 W c (t.val + 1) := by
  rw [word1_q, word1_k, word1_f, at1]
  exact st1_succ W c t s hs
theorem run1_C (W : Valuation τ sig (Elt F)) (c : Dev nD) (t : Fin grid1.N) (s : St F) (hs : t.val ≠ 0 → s = st1 W c t.val) (f9 : Bf (F := F) c (spec1_6.stage ((cfg1 (adm1 (F := F))).slots t 6))) (f10 : Bf (F := F) c (spec1_7.stage ((cfg1 (adm1 (F := F))).slots t 7))) : (farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).1.C = (st1 W c (t.val + 1)).C :=
  (farRun_C c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).trans (congrArg St.C (step1 W c t s hs))
theorem run1_A (W : Valuation τ sig (Elt F)) (c : Dev nD) (t : Fin grid1.N) (s : St F) (hs : t.val ≠ 0 → s = st1 W c t.val) (f9 : Bf (F := F) c (spec1_6.stage ((cfg1 (adm1 (F := F))).slots t 6))) (f10 : Bf (F := F) c (spec1_7.stage ((cfg1 (adm1 (F := F))).slots t 7))) : (farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).1.A = (st1 W c (t.val + 1)).A :=
  (farRun_A c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).trans (congrArg St.A (step1 W c t s hs))
theorem run1_D (W : Valuation τ sig (Elt F)) (c : Dev nD) (t : Fin grid1.N) (s : St F) (hs : t.val ≠ 0 → s = st1 W c t.val) (f9 : Bf (F := F) c (spec1_6.stage ((cfg1 (adm1 (F := F))).slots t 6))) (f10 : Bf (F := F) c (spec1_7.stage ((cfg1 (adm1 (F := F))).slots t 7))) : (farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).1.D = (st1 W c (t.val + 1)).D :=
  (farRun_D c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).trans (congrArg St.D (step1 W c t s hs))
theorem run1_o (W : Valuation τ sig (Elt F)) (c : Dev nD) (t : Fin grid1.N) (s : St F) (hs : t.val ≠ 0 → s = st1 W c t.val) (f9 : Bf (F := F) c (spec1_6.stage ((cfg1 (adm1 (F := F))).slots t 6))) (f10 : Bf (F := F) c (spec1_7.stage ((cfg1 (adm1 (F := F))).slots t 7))) : (spec1_6.stage ((cfg1 (adm1 (F := F))).slots t 6)).view.read (Elt F) (farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).1.o = if lit7 ⟨t.val, t.isLt.trans_eq N_1⟩ = 1#32 then accBlk (st1 W c (t.val + 1)).A else (spec1_6.stage ((cfg1 (adm1 (F := F))).slots t 6)).view.read (Elt F) f9 := by
  have h := farRun_o c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D
  rw [step1 W c t s hs, word1_l, at1] at h
  exact h
theorem run1_p (W : Valuation τ sig (Elt F)) (c : Dev nD) (t : Fin grid1.N) (s : St F) (hs : t.val ≠ 0 → s = st1 W c t.val) (f9 : Bf (F := F) c (spec1_6.stage ((cfg1 (adm1 (F := F))).slots t 6))) (f10 : Bf (F := F) c (spec1_7.stage ((cfg1 (adm1 (F := F))).slots t 7))) : (spec1_7.stage ((cfg1 (adm1 (F := F))).slots t 7)).view.read (Elt F) (farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D).1.p = if lit7 ⟨t.val, t.isLt.trans_eq N_1⟩ = 1#32 then carryBlk (st1 W c (t.val + 1)).C else (spec1_7.stage ((cfg1 (adm1 (F := F))).slots t 7)).view.read (Elt F) f10 := by
  have h := farRun_p c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) f9 f10 s.C s.A s.D
  rw [step1 W c t s hs, word1_l, at1] at h
  exact h
/-- What is left in output window 6's buffer, by whether the row ends. -/
theorem out1_6 (W : Valuation τ sig (Elt F)) (c : Dev nD) (t : Fin (cfg1 (adm1 (F := F))).N) (X : ((cfg1 (adm1 (F := F))).win 6).block.Idx → Elt F ((cfg1 (adm1 (F := F))).win 6).elt) (d)
    (h1 : lit7 ⟨t.val, t.isLt.trans_eq N_1⟩ = 1#32 → X = (dat1 W c).after 6 t) (h0 : ¬ lit7 ⟨t.val, t.isLt.trans_eq N_1⟩ = 1#32 → X = (dat1 W c).before 6 t d) :
    (owns (c : Thread nD τ) (((cfg1 (adm1 (F := F))).win 6).stage ((cfg1 (adm1 (F := F))).slots t 6)) fullShare X : sProp 𝕄) ⊢ match (cfg1 (adm1 (F := F))).idle 6 ((cfg1 (adm1 (F := F))).grid.coords t) with
      | true =>
        match ((cfg1 (adm1 (F := F))).win 6).flush t with
        | false => iprop(∃ d, owns (c : Thread nD τ) (((cfg1 (adm1 (F := F))).win 6).stage ((cfg1 (adm1 (F := F))).slots t 6)) fullShare ((dat1 W c).before 6 t d))
        | true => owns (c : Thread nD τ) (((cfg1 (adm1 (F := F))).win 6).stage ((cfg1 (adm1 (F := F))).slots t 6)) fullShare ((dat1 W c).after 6 t)
      | false => owns (c : Thread nD τ) (((cfg1 (adm1 (F := F))).win 6).stage ((cfg1 (adm1 (F := F))).slots t 6)) fullShare ((dat1 W c).after 6 t) := by
  by_cases hl : lit7 ⟨t.val, t.isLt.trans_eq N_1⟩ = 1#32
  · rw [show (cfg1 (adm1 (F := F))).idle 6 ((cfg1 (adm1 (F := F))).grid.coords t) = false from live1_6 t hl, h1 hl]
  · rw [show (cfg1 (adm1 (F := F))).idle 6 ((cfg1 (adm1 (F := F))).grid.coords t) = true from idle1_6 t hl, show ((cfg1 (adm1 (F := F))).win 6).flush t = false from (flush1_6 t).trans (decide_eq_false hl), h0 hl]
    iintro H
    iexists d
    iexact H
/-- What is left in output window 7's buffer, by whether the row ends. -/
theorem out1_7 (W : Valuation τ sig (Elt F)) (c : Dev nD) (t : Fin (cfg1 (adm1 (F := F))).N) (X : ((cfg1 (adm1 (F := F))).win 7).block.Idx → Elt F ((cfg1 (adm1 (F := F))).win 7).elt) (d)
    (h1 : lit7 ⟨t.val, t.isLt.trans_eq N_1⟩ = 1#32 → X = (dat1 W c).after 7 t) (h0 : ¬ lit7 ⟨t.val, t.isLt.trans_eq N_1⟩ = 1#32 → X = (dat1 W c).before 7 t d) :
    (owns (c : Thread nD τ) (((cfg1 (adm1 (F := F))).win 7).stage ((cfg1 (adm1 (F := F))).slots t 7)) fullShare X : sProp 𝕄) ⊢ match (cfg1 (adm1 (F := F))).idle 7 ((cfg1 (adm1 (F := F))).grid.coords t) with
      | true =>
        match ((cfg1 (adm1 (F := F))).win 7).flush t with
        | false => iprop(∃ d, owns (c : Thread nD τ) (((cfg1 (adm1 (F := F))).win 7).stage ((cfg1 (adm1 (F := F))).slots t 7)) fullShare ((dat1 W c).before 7 t d))
        | true => owns (c : Thread nD τ) (((cfg1 (adm1 (F := F))).win 7).stage ((cfg1 (adm1 (F := F))).slots t 7)) fullShare ((dat1 W c).after 7 t)
      | false => owns (c : Thread nD τ) (((cfg1 (adm1 (F := F))).win 7).stage ((cfg1 (adm1 (F := F))).slots t 7)) fullShare ((dat1 W c).after 7 t) := by
  by_cases hl : lit7 ⟨t.val, t.isLt.trans_eq N_1⟩ = 1#32
  · rw [show (cfg1 (adm1 (F := F))).idle 7 ((cfg1 (adm1 (F := F))).grid.coords t) = false from live1_7 t hl, h1 hl]
  · rw [show (cfg1 (adm1 (F := F))).idle 7 ((cfg1 (adm1 (F := F))).grid.coords t) = true from idle1_7 t hl, show ((cfg1 (adm1 (F := F))).win 7).flush t = false from (flush1_7 t).trans (decide_eq_false hl), h0 hl]
    iintro H
    iexists d
    iexact H

/-- Each point of region 1 does what the proof data says. -/
theorem body1 (W : Valuation τ sig (Elt F)) (c : Dev nD) : BodyObligation (dat1 W c) (defs₀ (F := F)) Variants.none () Set.univ := fun t => by
  rw [bigSep_W1, bigSep_W1]
  rw [show (dat1 W c).Φ t.castSucc = inv1 W c t.val from rfl, show (dat1 W c).Φ t.succ = inv1 W c (t.val + 1) from rfl]
  unfold Dat.owesAt Pipeline.owesWithin
  rw [show (dat1 W c).owed t.castSucc = 0 from rfl, show (dat1 W c).owed t.succ = 0 from rfl]
  unfold inv1
  iintro ⟨⟨%s, %hs, HC, HA, HD, HR, H1, H2, H3, H4⟩, ⟨%Wd, %hW, HO⟩, ⟨%d0, H5⟩, ⟨%d1, H6⟩, ⟨%d2, H7⟩, ⟨%d3, H8⟩, ⟨%d4, H9⟩, ⟨%d5, H10⟩, ⟨%d6, H11⟩, ⟨%d7, H12⟩⟩
  ihave H5 := (Entails.of_eq ((congrArg (owns (c : Thread nD τ) (spec1_0.stage ((cfg1 (adm1 (F := F))).slots t 0)) fullShare) (before1_0 W c t d0)).trans (own_rp c (spec1_0.stage ((cfg1 (adm1 (F := F))).slots t 0)) (hstage1_0 (((cfg1 (adm1 (F := F))).slots t 0).cast nbuf1_0)) _))) $$ H5
  ihave H6 := (Entails.of_eq ((congrArg (owns (c : Thread nD τ) (spec1_1.stage ((cfg1 (adm1 (F := F))).slots t 1)) fullShare) (before1_1 W c t d1)).trans (own_rp c (spec1_1.stage ((cfg1 (adm1 (F := F))).slots t 1)) (hstage1_1 (((cfg1 (adm1 (F := F))).slots t 1).cast nbuf1_1)) _))) $$ H6
  ihave H7 := (Entails.of_eq ((congrArg (owns (c : Thread nD τ) (spec1_2.stage ((cfg1 (adm1 (F := F))).slots t 2)) fullShare) (before1_2 W c t d2)).trans (own_rp c (spec1_2.stage ((cfg1 (adm1 (F := F))).slots t 2)) (hstage1_2 (((cfg1 (adm1 (F := F))).slots t 2).cast nbuf1_2)) _))) $$ H7
  ihave H8 := (Entails.of_eq ((congrArg (owns (c : Thread nD τ) (spec1_3.stage ((cfg1 (adm1 (F := F))).slots t 3)) fullShare) (before1_3 W c t d3)).trans (own_rp c (spec1_3.stage ((cfg1 (adm1 (F := F))).slots t 3)) (hstage1_3 (((cfg1 (adm1 (F := F))).slots t 3).cast nbuf1_3)) _))) $$ H8
  ihave H9 := (Entails.of_eq ((congrArg (owns (c : Thread nD τ) (spec1_4.stage ((cfg1 (adm1 (F := F))).slots t 4)) fullShare) (before1_4 W c t d4)).trans (own_rp c (spec1_4.stage ((cfg1 (adm1 (F := F))).slots t 4)) (hstage1_4 (((cfg1 (adm1 (F := F))).slots t 4).cast nbuf1_4)) _))) $$ H9
  ihave H10 := (Entails.of_eq ((congrArg (owns (c : Thread nD τ) (spec1_5.stage ((cfg1 (adm1 (F := F))).slots t 5)) fullShare) (before1_5 W c t d5)).trans (own_rp c (spec1_5.stage ((cfg1 (adm1 (F := F))).slots t 5)) (hstage1_5 (((cfg1 (adm1 (F := F))).slots t 5).cast nbuf1_5)) _))) $$ H10
  ihave H11 := (Entails.of_eq (own_rp c (spec1_6.stage ((cfg1 (adm1 (F := F))).slots t 6)) (hstage1_6 (((cfg1 (adm1 (F := F))).slots t 6).cast nbuf1_6)) _)) $$ H11
  ihave H12 := (Entails.of_eq (own_rp c (spec1_7.stage ((cfg1 (adm1 (F := F))).slots t 7)) (hstage1_7 (((cfg1 (adm1 (F := F))).slots t 7).cast nbuf1_7)) _)) $$ H12
  iapply ((farRun c (grid1.coords t) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6)) (spec1_7.stage ((cfg1 (adm1 (F := F))).slots t 7)) (hstage1_7 (((cfg1 (adm1 (F := F))).slots t 7).cast nbuf1_7)) (tab1 (F := F) 0) (tab1 (F := F) 1) (tab1 (F := F) 2) (tab1 (F := F) 3) (bk1 W c 0 t) (bk1 W c 1 t) (bk1 W c 2 t) (bk1 W c 3 t) (bk1 W c 4 t) (bk1 W c 5 t) ((spec1_6.stage ((cfg1 (adm1 (F := F))).slots t 6)).view.rep ((dat1 W c).before 6 t d6)) ((spec1_7.stage ((cfg1 (adm1 (F := F))).slots t 7)).view.rep ((dat1 W c).before 7 t d7)) s.C s.A s.D).2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HC]; · iexact HC
  isplitl [HA]; · iexact HA
  isplitl [HD]; · iexact HD
  iintro ⟨H1, H2, H3, H4, H5, H6, H7, H8, H9, H10, H11, H12, HC, HA, HD⟩
  isplitl [HC HA HD HR H1 H2 H3 H4]
  · iexists (st1 W c (t.val + 1))
    isplitr; · ipureintro; exact fun _ => rfl
    isplitl [HC]; · rw [run1_C W c t s hs ((spec1_6.stage ((cfg1 (adm1 (F := F))).slots t 6)).view.rep ((dat1 W c).before 6 t d6)) ((spec1_7.stage ((cfg1 (adm1 (F := F))).slots t 7)).view.rep ((dat1 W c).before 7 t d7))]; iexact HC
    isplitl [HA]; · rw [run1_A W c t s hs ((spec1_6.stage ((cfg1 (adm1 (F := F))).slots t 6)).view.rep ((dat1 W c).before 6 t d6)) ((spec1_7.stage ((cfg1 (adm1 (F := F))).slots t 7)).view.rep ((dat1 W c).before 7 t d7))]; iexact HA
    isplitl [HD]; · rw [run1_D W c t s hs ((spec1_6.stage ((cfg1 (adm1 (F := F))).slots t 6)).view.rep ((dat1 W c).before 6 t d6)) ((spec1_7.stage ((cfg1 (adm1 (F := F))).slots t 7)).view.rep ((dat1 W c).before 7 t d7))]; iexact HD
    isplitl [HR]; · iexact HR
    isplitl [H1]; · iexact H1
    isplitl [H2]; · iexact H2
    isplitl [H3]; · iexact H3
    iexact H4
  isplitl [HO]
  · iexists Wd; isplitr; · ipureintro; exact fun _ _ => Or.inl trivial
    iexact HO
  isplitl [H5]
  · ihave H := (Entails.of_eq (own_rp c (spec1_0.stage ((cfg1 (adm1 (F := F))).slots t 0)) (hstage1_0 (((cfg1 (adm1 (F := F))).slots t 0).cast nbuf1_0)) _).symm) $$ H5
    iexact H
  isplitl [H6]
  · ihave H := (Entails.of_eq (own_rp c (spec1_1.stage ((cfg1 (adm1 (F := F))).slots t 1)) (hstage1_1 (((cfg1 (adm1 (F := F))).slots t 1).cast nbuf1_1)) _).symm) $$ H6
    iexact H
  isplitl [H7]
  · ihave H := (Entails.of_eq (own_rp c (spec1_2.stage ((cfg1 (adm1 (F := F))).slots t 2)) (hstage1_2 (((cfg1 (adm1 (F := F))).slots t 2).cast nbuf1_2)) _).symm) $$ H7
    iexact H
  isplitl [H8]
  · ihave H := (Entails.of_eq (own_rp c (spec1_3.stage ((cfg1 (adm1 (F := F))).slots t 3)) (hstage1_3 (((cfg1 (adm1 (F := F))).slots t 3).cast nbuf1_3)) _).symm) $$ H8
    iexact H
  isplitl [H9]
  · ihave H := (Entails.of_eq (own_rp c (spec1_4.stage ((cfg1 (adm1 (F := F))).slots t 4)) (hstage1_4 (((cfg1 (adm1 (F := F))).slots t 4).cast nbuf1_4)) _).symm) $$ H9
    iexact H
  isplitl [H10]
  · ihave H := (Entails.of_eq (own_rp c (spec1_5.stage ((cfg1 (adm1 (F := F))).slots t 5)) (hstage1_5 (((cfg1 (adm1 (F := F))).slots t 5).cast nbuf1_5)) _).symm) $$ H10
    iexact H
  isplitl [H11]
  · ihave H := ((own_pt c (spec1_6.stage ((cfg1 (adm1 (F := F))).slots t 6)) (hstage1_6 (((cfg1 (adm1 (F := F))).slots t 6).cast nbuf1_6)) _ _ rfl).trans (out1_6 W c t _ d6 (fun hl => (run1_o W c t s hs ((spec1_6.stage ((cfg1 (adm1 (F := F))).slots t 6)).view.rep ((dat1 W c).before 6 t d6)) ((spec1_7.stage ((cfg1 (adm1 (F := F))).slots t 7)).view.rep ((dat1 W c).before 7 t d7))).trans (if_pos hl)) (fun hl => (run1_o W c t s hs ((spec1_6.stage ((cfg1 (adm1 (F := F))).slots t 6)).view.rep ((dat1 W c).before 6 t d6)) ((spec1_7.stage ((cfg1 (adm1 (F := F))).slots t 7)).view.rep ((dat1 W c).before 7 t d7))).trans ((if_neg hl).trans (View.read_rep (Val := Elt F) (spec1_6.stage ((cfg1 (adm1 (F := F))).slots t 6)).view _))))) $$ H11
    iexact H
  ihave H := ((own_pt c (spec1_7.stage ((cfg1 (adm1 (F := F))).slots t 7)) (hstage1_7 (((cfg1 (adm1 (F := F))).slots t 7).cast nbuf1_7)) _ _ rfl).trans (out1_7 W c t _ d7 (fun hl => (run1_p W c t s hs ((spec1_6.stage ((cfg1 (adm1 (F := F))).slots t 6)).view.rep ((dat1 W c).before 6 t d6)) ((spec1_7.stage ((cfg1 (adm1 (F := F))).slots t 7)).view.rep ((dat1 W c).before 7 t d7))).trans (if_pos hl)) (fun hl => (run1_p W c t s hs ((spec1_6.stage ((cfg1 (adm1 (F := F))).slots t 6)).view.rep ((dat1 W c).before 6 t d6)) ((spec1_7.stage ((cfg1 (adm1 (F := F))).slots t 7)).view.rep ((dat1 W c).before 7 t d7))).trans ((if_neg hl).trans (View.read_rep (Val := Elt F) (spec1_7.stage ((cfg1 (adm1 (F := F))).slots t 7)).view _))))) $$ H12
  iexact H

end Cert.KernelIdeal.Stick

end
-- ==== Proof.Ends.lean ====
module

public import proofs.«01_k».proof.Proof.NearObl
public import proofs.«01_k».proof.Proof.FarObl
public import proofs.«01_k».proof.Proof.Gen.KernelIdeal.Regions
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

theorem four_all : (Finset.univ : Finset (Fin 4)) = [0, 1, 2, 3].toFinset := by decide
theorem four_nodup : ([0, 1, 2, 3] : List (Fin 4)).Nodup := by decide

theorem tables0_eq (c : Dev nD) : (Pipeline.tablesAt (pcfgs (F := F)) adm 0 c : sProp 𝕄)
    = iprop(pt c (Memref.whole main_c) (tab0 (F := F) 0) ∗ pt c (Memref.whole main_c_0) (tab0 (F := F) 1) ∗ pt c (Memref.whole main_c_1) (tab0 (F := F) 2) ∗ pt c (Memref.whole main_c_2) (tab0 (F := F) 3)) :=
  bigSep_univ_eq_bigSepL (I := Fin 4) [0, 1, 2, 3] four_all four_nodup _

theorem in0 (W : Valuation τ sig (Elt F)) (c : Dev nD) : iprop(iprop(Pipeline.scopedRest spec0 c ∗ BI.emp) ∗ Pipeline.tablesAt (pcfgs (F := F)) adm 0 c) ⊢ (inv0 W c 0 : sProp 𝕄) := by
  rw [scopedRest0_eq, tables0_eq]
  unfold inv0 rest0
  iintro ⟨⟨⟨⟨%fC, HC⟩, ⟨%fA, HA⟩, B0, B1, B2, B3, B4, B5, B6, B7, B8, B9, B10, B11, B12, B13, B14, B15, B16, ⟨%fD, HD⟩, B17⟩, -⟩, T0, T1, T2, T3⟩
  iexists (⟨fC, fA, fD⟩ : St F)
  isplitr; · ipureintro; exact fun h => absurd rfl h
  isplitl [HC]; · iexact HC
  isplitl [HA]; · iexact HA
  isplitl [HD]; · iexact HD
  isplitl [B0 B1 B2 B3 B4 B5 B6 B7 B8 B9 B10 B11 B12 B13 B14 B15 B16 B17]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    iexact B17
  isplitl [T0]; · iexact T0
  isplitl [T1]; · iexact T1
  isplitl [T2]; · iexact T2
  iexact T3

theorem out0 (W : Valuation τ sig (Elt F)) (c : Dev nD) (n : ℕ) : (inv0 W c n : sProp 𝕄) ⊢ iprop(iprop(Pipeline.scopedRest spec0 c ∗ BI.emp) ∗ Pipeline.tablesAt (pcfgs (F := F)) adm 0 c) := by
  rw [scopedRest0_eq, tables0_eq]
  unfold inv0 rest0
  iintro ⟨%s, -, HC, HA, HD, ⟨B0, B1, B2, B3, B4, B5, B6, B7, B8, B9, B10, B11, B12, B13, B14, B15, B16, B17⟩, T0, T1, T2, T3⟩
  isplitl [HC HA HD B0 B1 B2 B3 B4 B5 B6 B7 B8 B9 B10 B11 B12 B13 B14 B15 B16 B17]
  · isplitl [HC HA HD B0 B1 B2 B3 B4 B5 B6 B7 B8 B9 B10 B11 B12 B13 B14 B15 B16 B17]
    · isplitl [HC]; · iexists (s.C); iexact HC
      isplitl [HA]; · iexists (s.A); iexact HA
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B15]; · iexact B15
      isplitl [B16]; · iexact B16
      isplitl [HD]; · iexists (s.D); iexact HD
      iexact B17
    · iempintro
  isplitl [T0]; · iexact T0
  isplitl [T1]; · iexact T1
  isplitl [T2]; · iexact T2
  iexact T3

theorem tables1_eq (c : Dev nD) : (Pipeline.tablesAt (pcfgs (F := F)) adm 1 c : sProp 𝕄)
    = iprop(pt c (Memref.whole main_c_3) (tab1 (F := F) 0) ∗ pt c (Memref.whole main_c_4) (tab1 (F := F) 1) ∗ pt c (Memref.whole main_c_5) (tab1 (F := F) 2) ∗ pt c (Memref.whole main_c_6) (tab1 (F := F) 3)) :=
  bigSep_univ_eq_bigSepL (I := Fin 4) [0, 1, 2, 3] four_all four_nodup _

theorem in1 (W : Valuation τ sig (Elt F)) (c : Dev nD) : iprop(iprop(Pipeline.scopedRest spec1 c ∗ BI.emp) ∗ Pipeline.tablesAt (pcfgs (F := F)) adm 1 c) ⊢ (inv1 W c 0 : sProp 𝕄) := by
  rw [scopedRest1_eq, tables1_eq]
  unfold inv1 rest1
  iintro ⟨⟨⟨B0, B1, B2, B3, B4, B5, B6, B7, B8, B9, B10, B11, B12, ⟨%fC, HC⟩, ⟨%fA, HA⟩, B13, ⟨%fD, HD⟩⟩, -⟩, T0, T1, T2, T3⟩
  iexists (⟨fC, fA, fD⟩ : St F)
  isplitr; · ipureintro; exact fun h => absurd rfl h
  isplitl [HC]; · iexact HC
  isplitl [HA]; · iexact HA
  isplitl [HD]; · iexact HD
  isplitl [B0 B1 B2 B3 B4 B5 B6 B7 B8 B9 B10 B11 B12 B13]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  isplitl [T0]; · iexact T0
  isplitl [T1]; · iexact T1
  isplitl [T2]; · iexact T2
  iexact T3

theorem out1 (W : Valuation τ sig (Elt F)) (c : Dev nD) (n : ℕ) : (inv1 W c n : sProp 𝕄) ⊢ iprop(iprop(Pipeline.scopedRest spec1 c ∗ BI.emp) ∗ Pipeline.tablesAt (pcfgs (F := F)) adm 1 c) := by
  rw [scopedRest1_eq, tables1_eq]
  unfold inv1 rest1
  iintro ⟨%s, -, HC, HA, HD, ⟨B0, B1, B2, B3, B4, B5, B6, B7, B8, B9, B10, B11, B12, B13⟩, T0, T1, T2, T3⟩
  isplitl [HC HA HD B0 B1 B2 B3 B4 B5 B6 B7 B8 B9 B10 B11 B12 B13]
  · isplitl [HC HA HD B0 B1 B2 B3 B4 B5 B6 B7 B8 B9 B10 B11 B12 B13]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [HC]; · iexists (s.C); iexact HC
      isplitl [HA]; · iexists (s.A); iexact HA
      isplitl [B13]; · iexact B13
      iexists (s.D); iexact HD
    · iempintro
  isplitl [T0]; · iexact T0
  isplitl [T1]; · iexact T1
  isplitl [T2]; · iexact T2
  iexact T3

end Cert.KernelIdeal.Stick

end
-- ==== Proof.Records.lean ====
module

public import proofs.«01_k».proof.Proof.Ends
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- What region 0 leaves. -/
def outs1 : Outs (F := F) := fun _ r c => Pipeline.afterRegion (dat0 (V1 m c) c) (V1 m c) (Proc.devRef .tc r)
/-- What the two regions leave. -/
def outs : Outs (F := F) := fun J r c => match J with
  | 2 => outs1 m 2 r c
  | _ => Pipeline.afterRegion (dat1 (V3 m (outs1 m) c) c) (V3 m (outs1 m) c) (Proc.devRef .tc r)

/-- The two regions' proof data. -/
def pd : (p : Fin 2) → (c : Dev nD) → Dat τ (Elt F) Unit ℕ (UR sig nD τ) ℕ (Pipeline.pin (pcfgs (F := F)) adm p) c
  | 0, c => dat0 (V1 m c) c
  | 1, c => dat1 (V3 m (outs1 m) c) c

/-- One level, on the cells of the cores that run the program. -/
def L (g : GSem nD τ sig) : Finset Unit := if g.1.2 = .tc then {()} else ∅
def lv (_ : GSem nD τ sig) (_ : Unit) : ℕ := 0

theorem cut (p : Fin 2) : Pipeline.LevelCut (pcfgs (F := F)) adm () L lv p 0 (fun _ => 0) where
  hι _ _ _ := by
    unfold L
    rw [if_pos rfl]
    exact Finset.mem_singleton_self _
  hιb _ _ _ := le_rfl
  hD _ _ _ h := absurd h (lt_irrefl 0)

theorem tabs0 (c : Dev nD) (k : Fin 4) : tab0 (F := F) k = V1 m c (Proc.devRef .tc (pre0.ref k)) := by
  match k with
  | 0 => exact (show V1 m c main_c = _ by after_results; rfl).symm
  | 1 => exact (show V1 m c main_c_0 = _ by after_results; rfl).symm
  | 2 => exact (show V1 m c main_c_1 = _ by after_results; rfl).symm
  | 3 => exact (show V1 m c main_c_2 = _ by after_results; rfl).symm
theorem tabs1 (c : Dev nD) (k : Fin 4) : tab1 (F := F) k = V3 m (outs1 m) c (Proc.devRef .tc (pre1.ref k)) := by
  match k with
  | 0 => exact ((V3_of m (outs1 m) c main_c_3 (by decide)).trans ((V2_of m (outs1 m) c main_c_3 (by decide)).trans (show V1 m c main_c_3 = _ by after_results; rfl))).symm
  | 1 => exact ((V3_of m (outs1 m) c main_c_4 (by decide)).trans ((V2_of m (outs1 m) c main_c_4 (by decide)).trans (show V1 m c main_c_4 = _ by after_results; rfl))).symm
  | 2 => exact ((V3_of m (outs1 m) c main_c_5 (by decide)).trans ((V2_of m (outs1 m) c main_c_5 (by decide)).trans (show V1 m c main_c_5 = _ by after_results; rfl))).symm
  | 3 => exact ((V3_of m (outs1 m) c main_c_6 (by decide)).trans ((V2_of m (outs1 m) c main_c_6 (by decide)).trans (show V1 m c main_c_6 = _ by after_results; rfl))).symm

set_option backward.isDefEq.respectTransparency.types false in
/-- Region 0's record. -/
def reg0 : Pipeline.RegionSeg (pcfgs (F := F)) adm (pd m) () defs₀ Variants.none L lv 0 :=
  Pipeline.RegionSeg.ofHeldInT (pcfgs (F := F)) adm (pd m) () defs₀ Variants.none L lv 0 0 (Pipeline.ucRefs τ sig) (fun _ => BI.emp) (fun _ => BI.emp) launch0
    (fun c => (body0 (V1 m c) c).loose) (fun _ _ => rfl) (fun _ => rfl) (fun c => (pd m 0 c).share_full fun _ => rfl)
    (fun c => in0 (V1 m c) c) (fun c => out0 (V1 m c) c _) (fun _ => 0) (cut 0) (fun _ => BI.emp) (fun c => V1 m c) (fun _ _ => rfl) (fun c k => tabs0 m c k)

set_option backward.isDefEq.respectTransparency.types false in
/-- Region 1's record. -/
def reg1 : Pipeline.RegionSeg (pcfgs (F := F)) adm (pd m) () defs₀ Variants.none L lv 1 :=
  Pipeline.RegionSeg.ofHeldInT (pcfgs (F := F)) adm (pd m) () defs₀ Variants.none L lv 1 0 (Pipeline.ucRefs τ sig) (fun _ => BI.emp) (fun _ => BI.emp) launch1
    (fun c => (body1 (V3 m (outs1 m) c) c).loose) (fun _ _ => rfl) (fun _ => rfl) (fun c => (pd m 1 c).share_full fun _ => rfl)
    (fun c => in1 (V3 m (outs1 m) c) c) (fun c => out1 (V3 m (outs1 m) c) c _) (fun _ => 0) (cut 1) (fun _ => BI.emp) (fun c => V3 m (outs1 m) c) (fun _ _ => rfl) (fun c k => tabs1 m c k)

theorem up_b (V : Valuation τ sig (Elt F)) (a b : Ref sig .tc) (x y) : Function.update (Function.update V (Proc.devRef .tc a) x) (Proc.devRef .tc b) y (Proc.devRef .tc b) = y :=
  Function.update_self _ _ _
theorem up_a (V : Valuation τ sig (Elt F)) (a b : Ref sig .tc) (h : a ≠ b) (x y) : Function.update (Function.update V (Proc.devRef .tc a) x) (Proc.devRef .tc b) y (Proc.devRef .tc a) = x :=
  (Function.update_of_ne (StableHlo.devRef_ne_of_ne h) _ _).trans (Function.update_self _ _ _)
theorem up_o (V : Valuation τ sig (Elt F)) (a b r : Ref sig .tc) (h0 : ¬r = a) (h1 : ¬r = b) (x y) : Function.update (Function.update V (Proc.devRef .tc a) x) (Proc.devRef .tc b) y (Proc.devRef .tc r) = V (Proc.devRef .tc r) :=
  (Function.update_of_ne (StableHlo.devRef_ne_of_ne h1) _ _).trans (Function.update_of_ne (StableHlo.devRef_ne_of_ne h0) _ _)

theorem left0 (c : Dev nD) (b : DevRef τ sig) (hb : b ∈ Pipeline.ucRefs τ sig) : Pipeline.afterRegion (pd m 0 c) (V1 m c) b = V2 m (outs m) c b := by
  obtain ⟨r, -, rfl⟩ := Finset.mem_map.mp (Finset.mem_filter.mp hb).1
  by_cases h1 : r = main_v8_1
  · subst h1
    exact (up_b (V1 m c) main_v8_0 main_v8_1 _ _).symm
  by_cases h0 : r = main_v8_0
  · subst h0
    exact (up_a (V1 m c) main_v8_0 main_v8_1 (by decide) _ _).symm
  · refine (Pipeline.afterRegion_keeps (pd m 0 c) _ (launch0 (F := F)).win.arr_inj (fun _ => rfl) r fun w hw => ?_).trans
      (up_o (V1 m c) main_v8_0 main_v8_1 r h0 h1 _ _).symm
    exact match w, hw with
      | ⟨0, _⟩, _ => rfl
      | ⟨1, _⟩, _ => rfl
      | ⟨2, _⟩, _ => rfl
      | ⟨3, _⟩, _ => rfl
      | ⟨4, _⟩, hw => absurd hw.symm h0
      | ⟨5, _⟩, hw => absurd hw.symm h1

theorem left1 (c : Dev nD) (b : DevRef τ sig) (hb : b ∈ Pipeline.ucRefs τ sig) : Pipeline.afterRegion (pd m 1 c) (V3 m (outs1 m) c) b = V4 m (outs m) c b := by
  obtain ⟨r, -, rfl⟩ := Finset.mem_map.mp (Finset.mem_filter.mp hb).1
  by_cases h1 : r = main_v9_1
  · subst h1
    exact (up_b (V3 m (outs m) c) main_v9_0 main_v9_1 _ _).symm
  by_cases h0 : r = main_v9_0
  · subst h0
    exact (up_a (V3 m (outs m) c) main_v9_0 main_v9_1 (by decide) _ _).symm
  · refine (Pipeline.afterRegion_keeps (pd m 1 c) _ (launch1 (F := F)).win.arr_inj (fun _ => rfl) r fun w hw => ?_).trans
      (up_o (V3 m (outs m) c) main_v9_0 main_v9_1 r h0 h1 _ _).symm
    exact match w, hw with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hw => absurd hw.symm h0
      | ⟨7, _⟩, hw => absurd hw.symm h1

theorem arrs0 : Pipeline.arrRefs (τ := τ) (pcfgs (F := F) 0).spec ⊆ Pipeline.ucRefs τ sig := Pipeline.arrRefs_sub_ucRefs spec0 (by decide)
theorem arrs1 : Pipeline.arrRefs (τ := τ) (pcfgs (F := F) 1).spec ⊆ Pipeline.ucRefs τ sig := Pipeline.arrRefs_sub_ucRefs spec1 (by decide)
theorem tbls0 : Pipeline.tblRefs (τ := τ) (pcfgs (F := F) 0).pre ⊆ Pipeline.ucRefs τ sig := Pipeline.tblRefs_sub_ucRefs pre0 (by decide)
theorem tbls1 : Pipeline.tblRefs (τ := τ) (pcfgs (F := F) 1).pre ⊆ Pipeline.ucRefs τ sig := Pipeline.tblRefs_sub_ucRefs pre1 (by decide)
/-- What core `c` carries beside its buffers. -/
abbrev due (c : Dev nD) : sProp 𝕄 := iprop(∃ Wd, owes (c : Thread nD τ) (0 : CellTallies nD τ sig Unit) Wd)

theorem pre0_of (c : Dev nD) : iprop(StableHlo.held (c : Thread nD τ) (Pipeline.ucRefs τ sig) (V1 m c) ∗ due (F := F) c) ⊢ (reg0 m).pre c := by
  refine BIBase.Entails.trans ?_ (Pipeline.RegionSeg.ofHeldInT_pre (pcs := pcfgs (F := F)) (a := adm) (pdats := pd m) (p := 0) (D := 0) (W := fun c => V1 m c) arrs0 tbls0 c)
  iintro ⟨Hh, Ho⟩
  isplitl [Hh]; · iexact Hh
  isplitl [Ho]; · iexact Ho
  isplitl []; · iempintro
  iempintro
theorem post0_of (c : Dev nD) : (reg0 m).post c ⊢ iprop(StableHlo.held (c : Thread nD τ) (Pipeline.ucRefs τ sig) (V2 m (outs m) c) ∗ due (F := F) c) := by
  refine (Pipeline.RegionSeg.ofHeldInT_post (pcs := pcfgs (F := F)) (a := adm) (pdats := pd m) (p := 0) (D := 0) (W := fun c => V1 m c) arrs0 tbls0 c).trans ?_
  rw [StableHlo.held_congr (c.tc : Thread nD τ) (S := Pipeline.ucRefs τ sig) (V' := V2 m (outs m) c) (fun b hb => left0 m c b hb)]
  iintro ⟨Hh, Ho, -, -⟩
  isplitl [Hh]; · iexact Hh
  iexact Ho

theorem pre1_of (c : Dev nD) : iprop(StableHlo.held (c : Thread nD τ) (Pipeline.ucRefs τ sig) (V3 m (outs1 m) c) ∗ due (F := F) c) ⊢ (reg1 m).pre c := by
  refine BIBase.Entails.trans ?_ (Pipeline.RegionSeg.ofHeldInT_pre (pcs := pcfgs (F := F)) (a := adm) (pdats := pd m) (p := 1) (D := 0) (W := fun c => V3 m (outs1 m) c) arrs1 tbls1 c)
  iintro ⟨Hh, Ho⟩
  isplitl [Hh]; · iexact Hh
  isplitl [Ho]; · iexact Ho
  isplitl []; · iempintro
  iempintro
theorem post1_of (c : Dev nD) : (reg1 m).post c ⊢ iprop(StableHlo.held (c : Thread nD τ) (Pipeline.ucRefs τ sig) (V4 m (outs m) c) ∗ due (F := F) c) := by
  refine (Pipeline.RegionSeg.ofHeldInT_post (pcs := pcfgs (F := F)) (a := adm) (pdats := pd m) (p := 1) (D := 0) (W := fun c => V3 m (outs1 m) c) arrs1 tbls1 c).trans ?_
  rw [StableHlo.held_congr (c.tc : Thread nD τ) (S := Pipeline.ucRefs τ sig) (V' := V4 m (outs m) c) (fun b hb => left1 m c b hb)]
  iintro ⟨Hh, Ho, -, -⟩
  isplitl [Hh]; · iexact Hh
  iexact Ho

end Cert.KernelIdeal.Stick

end
-- ==== Proof.Run.lean ====
module

public import proofs.«01_k».proof.Proof.Records
public import Idealize.ShloMosaic.Init
public import Idealize.ShloMosaic.Lib.ValueIdxCore
public import Idealize.ShloMosaic.Lib.Pipeline.FrameBody
public import Idealize.ShloMosaic.Lib.Pipeline.TableIdle
public import Idealize.ShloMosaic.Lib.Pipeline.RegionArraysTS

@[expose] public section

noncomputable section

namespace Cert.KernelIdeal.Stick

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

open Idealize.ShloMosaic.ValueIdx

/-- The protocol's resources inside the program's. -/
abbrev EP : Emb (URounds (GSem nD τ sig) Unit) 𝕄 := emb₁
/-- The launch element. -/
def u₀ (F : FTy → Type) [FloatOps F] [Named F] : UR sig nD τ := initOf (Pipeline.cells (Pipeline.pin (pcfgs (F := F)) adm) (cellOf_inj adm)) (Pipeline.launchToks (Pipeline.pin (pcfgs (F := F)) adm) (cellOf_inj adm))

variable (m : (ℓ : Loc nD τ sig) → Buf (Elt F) ℓ)

theorem start_u : (ownU (u₀ F) : sProp 𝕄) ⊢ |={Set.univ}=> iprop(BI.own (EP (initOf (Pipeline.cells (Pipeline.pin (pcfgs (F := F)) adm) (cellOf_inj adm)) (Pipeline.launchToks (Pipeline.pin (pcfgs (F := F)) adm) (cellOf_inj adm)))) ∗ bigSep Finset.univ fun _ : Dev nD => (BI.emp : sProp 𝕄)) := by
  rw [show (ownU (u₀ F) : sProp 𝕄) = BI.own (EP (initOf (Pipeline.cells (Pipeline.pin (pcfgs (F := F)) adm) (cellOf_inj adm)) (Pipeline.launchToks (Pipeline.pin (pcfgs (F := F)) adm) (cellOf_inj adm)))) from rfl]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

theorem start_all (ρ : Dev nD → PrngReg) : iprop((bigSep Finset.univ fun c : Dev nD => iprop(unscopedBufs c (fun b => m ((c.tc : Thread nD τ).loc b)) ∗ unscopedSems0 c
      ∗ owes (c.tc : Thread nD τ) ((0 : Dev nD → CellTallies nD τ sig Unit) c) ∅ ∗ Pipeline.launchCred 0 c ∗ prngReg c (ρ c) ∗ BI.emp)) ∗ levAts L lv)
    ⊢ (|={Set.univ}=> bigSep Finset.univ (fun c : Dev nD => iprop(StableHlo.held (c : Thread nD τ) (Pipeline.ucRefs τ sig) (V0 m c) ∗ due (F := F) c)) : sProp 𝕄) := by
  refine Pipeline.initEach L lv fun c => ?_
  rw [show unscopedBufs c (fun b => m ((c : Thread nD τ).loc b)) = (StableHlo.held (c : Thread nD τ) (Pipeline.ucRefs τ sig) (V0 m c) : sProp 𝕄) from Pipeline.unscopedBufs_held c (V0 m c)]
  iintro ⟨⟨Hh, -, HO, -, -, -⟩, -⟩
  imodintro
  isplitl [Hh]; · iexact Hh
  iexists ∅; iexact HO

set_option backward.isDefEq.respectTransparency.types false in
/-- Every fair execution ends with the arguments as launched, every counter at zero, and the result at what the second region leaves. -/
theorem run_all (ρ : Dev nD → PrngReg) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v9_0) = V4 m (outs m) c main_v9_0)
      ∧ r.2.sem = fun _ => 0) := by
  refine Pipeline.θ_run_regions_kit_dev_sems (pcfgs (F := F)) adm (pd m) () (cellOf_inj adm) EP defs₀ Variants.none L lv m ρ main
    (segs m (outs m) Variants.none L lv (fun _ => due (F := F)) () adm (pd m) (reg0 m) (reg1 m))
    (fun c Q => by
      rewrite [main_chain c, Pipeline.Seg.run_eq_chain,
        show (segs m (outs m) Variants.none L lv (fun _ => due (F := F)) () adm (pd m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide) 0 (fun g h => if_neg h) (fun _ => BI.emp) (u₀ F) start_u
    (T₀ := fun c => iprop(StableHlo.held (c : Thread nD τ) (Pipeline.ucRefs τ sig) (V0 m c) ∗ due (F := F) c))
    (Tₙ := fun c => StableHlo.held (c : Thread nD τ) (Pipeline.ucRefs τ sig) (V4 m (outs m) c))
    (hch := fun c => ⟨.rfl, pre0_of m c, post0_of m c, pre1_of m c, post1_of m c⟩)
    (hinit := start_all m ρ) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2)) ∧ s.mem ((c.tc : Thread nD τ).loc main_v9_0) = V4 m (outs m) c main_v9_0)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c),
      (h (Proc.devRef .tc main_arg2) (Finset.mem_filter.mpr ⟨StableHlo.devRef_mem_tcRefs main_arg2, by decide⟩)).trans (V4_main_arg2 m (outs m) c)⟩,
      h (Proc.devRef .tc main_v9_0) (Finset.mem_filter.mpr ⟨StableHlo.devRef_mem_tcRefs main_v9_0, by decide⟩)⟩
  · iexact HSI

end Cert.KernelIdeal.Stick

end
-- ==== Proof.Bits.NearFlag.lean ====
module

public import proofs.«01_k».proof.Proof.Bits.Loads
public import proofs.«01_k».proof.Proof.Bits.NearBody
public import proofs.«01_k».proof.Proof.Bits.NearPay

@[expose] public section

noncomputable section

namespace Cert.Kernel.Stick

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.ValueIdx

/-- The word of a point that says the row. -/
abbrev nearQ (c : Dev nD) (i : grid0.Coords) (f : Bf (F := F) c (Memref.whole main_c)) : BitVec 32 := nearRun.sl.r c i f
/-- The word of a point that says the column. -/
abbrev nearK (c : Dev nD) (i : grid0.Coords) (f : Bf (F := F) c (Memref.whole main_c_0)) : BitVec 32 := nearRun.sl.r_1 c i f
/-- The word of a point that says whether the row starts here. -/
abbrev nearFi (c : Dev nD) (i : grid0.Coords) (f : Bf (F := F) c (Memref.whole main_c_1)) : BitVec 32 := nearRun.sl.r_2 c i f
/-- The word of a point that says whether the row ends here. -/
abbrev nearLa (c : Dev nD) (i : grid0.Coords) (f : Bf (F := F) c (Memref.whole main_c_2)) : BitVec 32 := nearRun.sl.r_5 c i f
/-- The flag after a point, from the eight heads taken one by one. -/
theorem nearPayDL (qi kj : BitVec 32) (T : FVec F S256x256 .bf16) (Q K : Fin 8 → FVec F S1x256x64 .bf16) (c : Fin 8 → FVec F S1x256x1 .f32)
    {Q0 Q1 Q2 Q3 Q4 Q5 Q6 Q7 : FVec F S1x256x64 .bf16} (hQ0 : Q0 = Q 0) (hQ1 : Q1 = Q 1) (hQ2 : Q2 = Q 2) (hQ3 : Q3 = Q 3) (hQ4 : Q4 = Q 4) (hQ5 : Q5 = Q 5) (hQ6 : Q6 = Q 6) (hQ7 : Q7 = Q 7)
    {K0 K1 K2 K3 K4 K5 K6 K7 : FVec F S1x256x64 .bf16} (hK0 : K0 = K 0) (hK1 : K1 = K 1) (hK2 : K2 = K 2) (hK3 : K3 = K 3) (hK4 : K4 = K 4) (hK5 : K5 = K 5) (hK6 : K6 = K 6) (hK7 : K7 = K 7)
    {c0 c1 c2 c3 c4 c5 c6 c7 : FVec F S1x256x1 .f32} (hc0 : c0 = c 0) (hc1 : c1 = c 1) (hc2 : c2 = c 2) (hc3 : c3 = c 3) (hc4 : c4 = c 4) (hc5 : c5 = c 5) (hc6 : c6 = c 6) (hc7 : c7 = c 7)
    : Scalar.extui (Scalar.cmpf .olt (k0_pay6 (k0_pay40 (k0_pay10 (F := F) qi kj) (k0_pay20 Q7 K7)) (k0_pay52 (k0_pay11 T) (k0_pay40 (k0_pay10 (F := F) qi kj) (k0_pay20 Q7 K7))) (k0_pay89 (k0_pay39 (k0_pay10 (F := F) qi kj) (k0_pay19 Q6 K6)) (k0_pay51 (k0_pay11 T) (k0_pay49 (k0_pay39 (k0_pay10 (F := F) qi kj) (k0_pay19 Q6 K6))) (k0_pay50 (k0_pay11 T) (k0_pay39 (k0_pay10 (F := F) qi kj) (k0_pay19 Q6 K6))) (constant S256x256 .f32 0#32)) (k0_pay83 (k0_pay38 (k0_pay10 (F := F) qi kj) (k0_pay28 (k0_pay18 Q5 K5)) (k0_pay29 (k0_pay18 Q5 K5))) (k0_pay47 (k0_pay11 T) (k0_pay38 (k0_pay10 (F := F) qi kj) (k0_pay28 (k0_pay18 Q5 K5)) (k0_pay29 (k0_pay18 Q5 K5)))) (k0_pay78 (k0_pay36 (k0_pay10 (F := F) qi kj) (k0_pay26 (k0_pay16 (k0_pay15 Q3) K3))) (k0_pay37 (k0_pay10 (F := F) qi kj) (k0_pay27 (k0_pay17 Q4 K4))) (k0_pay45 (k0_pay11 T) (k0_pay36 (k0_pay10 (F := F) qi kj) (k0_pay26 (k0_pay16 (k0_pay15 Q3) K3)))) (k0_pay46 (k0_pay11 T) (k0_pay37 (k0_pay10 (F := F) qi kj) (k0_pay27 (k0_pay17 Q4 K4)))) (k0_pay68 (k0_pay35 (k0_pay10 (F := F) qi kj) (k0_pay25 (k0_pay14 Q2 K2))) (k0_pay44 (k0_pay11 T) (k0_pay35 (k0_pay10 (F := F) qi kj) (k0_pay25 (k0_pay14 Q2 K2)))) (k0_pay61 (k0_pay34 (k0_pay10 (F := F) qi kj) (k0_pay24 (k0_pay13 Q1 K1))) (k0_pay43 (k0_pay11 T) (k0_pay34 (k0_pay10 (F := F) qi kj) (k0_pay24 (k0_pay13 Q1 K1)))) (k0_pay55 (k0_pay33 (k0_pay10 (F := F) qi kj) (k0_pay23 (k0_pay21 (k0_pay12 Q0 K0)) (k0_pay22 (k0_pay12 Q0 K0)))) (k0_pay42 (k0_pay11 T) (k0_pay33 (k0_pay10 (F := F) qi kj) (k0_pay23 (k0_pay21 (k0_pay12 Q0 K0)) (k0_pay22 (k0_pay12 Q0 K0)))) (k0_pay41 (k0_pay10 (F := F) qi kj) (k0_pay23 (k0_pay21 (k0_pay12 Q0 K0)) (k0_pay22 (k0_pay12 Q0 K0))))) c0) c1) (k0_pay62 c2)) (k0_pay69 c3) c4) c5) (k0_pay84 c6)) (k0_pay90 c7)) (Scalar.ofBits .f32 0xC2D00000#32))
      = hD fun h => hN (hMask qi kj) (k0_pay11 T) (Q h) (K h) (c h) := by
  subst hQ0
  subst hQ1
  subst hQ2
  subst hQ3
  subst hQ4
  subst hQ5
  subst hQ6
  subst hQ7
  subst hK0
  subst hK1
  subst hK2
  subst hK3
  subst hK4
  subst hK5
  subst hK6
  subst hK7
  subst hc0
  subst hc1
  subst hc2
  subst hc3
  subst hc4
  subst hc5
  subst hc6
  subst hc7
  exact nearPayD qi kj T Q K c

theorem nearFlag (c : Dev nD) (i : grid0.Coords) (f3 : Bf (F := F) c (Memref.whole main_c_1))
    (fC : Bf (F := F) c (Memref.whole cc0_scratch0)) (fA : Bf (F := F) c (Memref.whole cc0_scratch1)) (fD : Bf (F := F) c (Memref.whole cc0_scratch2)) :
    nearRun.sl.r_4 c i f3 fD = (if nearFi c i f3 = 1#32 then nearInit else ⟨fC, fA, fD⟩ : St F).D (ValueIdx.ix1 0) := by
  refine Eq.trans ?_ (congrFun ((base_full cc0_scratch2 fD (fun _ => 0#32) inb_S1_S1_0).trans (iteD (word_test _ _) nearInit ⟨fC, fA, fD⟩)) (ValueIdx.ix1 0))
  exact (congrFun (View.readAt_full (Val := Elt F) (View.whole cc0_scratch2) _ inb_S1_S1_0) _).trans
    (congrArg _ (funext fun a => match a with | ⟨0, _⟩ => rfl))

end Cert.Kernel.Stick

end
-- ==== Proof.Frames.lean ====
module

public import proofs.«01_k».proof.Defs
public import proofs.«01_k».proof.Proof.Run
public import proofs.«01_k».proof.Proof.Bits.Run
public import proofs.«01_k».proof.Proof.Gen.ReferenceIdeal.Run
public import Idealize.ShloMosaic.Lib.Claim

@[expose] public section

noncomputable section

namespace Cert.Proof

open Idealize.ShloMosaic Idealize.SL.Sem

/-- The kernel, at the machine's floats, runs and leaves its arguments and every counter as they were. -/
theorem quiescent_Kernel : Cert.quiescent_Kernel (hKernel := Cert.Kernel.Gen.facts) := by
  intro m g _
  exact (θ_run _ _ _).mono (fun r h => ⟨fun c => ⟨(h.1 c).1.1, (h.1 c).1.2.1, (h.1 c).1.2.2⟩, h.2⟩) (Cert.Kernel.Stick.run_all m g)

/-- The same of the kernel at the exact reading. -/
theorem quiescent_KernelIdeal : Cert.quiescent_KernelIdeal (hKernelIdeal := Cert.KernelIdeal.Gen.facts) := by
  intro m g _
  exact (θ_run _ _ _).mono (fun r h => ⟨fun c => ⟨(h.1 c).1.1, (h.1 c).1.2.1, (h.1 c).1.2.2⟩, h.2⟩) (Cert.KernelIdeal.Stick.run_all m g)

set_option maxRecDepth 16384 in
set_option maxHeartbeats 4000000 in
/-- The reference runs and leaves its arguments and every counter as they were. -/
theorem quiescent_ReferenceIdeal : Cert.quiescent_ReferenceIdeal (hReferenceIdeal := Cert.ReferenceIdeal.Gen.facts) := by
  intro m g _
  exact (θ_run _ _ _).mono (fun r h => ⟨fun c => ⟨(h c).2.1, (h c).2.2.1, (h c).2.2.2⟩,
    Idealize.ShloMosaic.sem_eq_zero_of_no_sems (by decide) r.2⟩) (Cert.ReferenceIdeal.Value.run m g)

/-- Naming the literal that stands for minus infinity is sound. -/
theorem preserves : Cert.preserves_Kernel_KernelIdeal :=
  IdealRules.named_const.statement Cert.KernelIdeal.κ "dead" .f32 0xC2D00000#32 ⊥ rfl

end Cert.Proof

end
-- ==== Proof.ValReal.lean ====
module

public import proofs.«01_k».proof.Proof.Head
public import Idealize.ShloMosaic.Lib.Pointwise
public import Idealize.ShloMosaic.PureOps.Ideal

@[expose] public section

noncomputable section

namespace Cert.KernelIdeal.Stick

open Idealize.ShloMosaic Finset

/-! The scalar arithmetic of stick-breaking on real scores, and the sums over tiles. -/

/-- The softplus of a real, in the form both programs compute it. -/
def sp (x : ℝ) : ℝ := max x 0 + Real.log (1 + Real.exp (-|x|))

theorem sp_neg (x : ℝ) : sp (-x) = sp x - x := by
  unfold sp
  rw [abs_neg]
  rcases le_total 0 x with h | h
  · rw [max_eq_right (by linarith : -x ≤ 0), max_eq_left h]; ring
  · rw [max_eq_left (by linarith : 0 ≤ -x), max_eq_right h]; ring

theorem coe_max (a b : ℝ) : ((max a b : ℝ) : EReal) = max (a : EReal) (b : EReal) :=
  (EReal.coe_strictMono.monotone.map_max)

theorem coe_abs (x : ℝ) : max (x : EReal) (-(x : EReal)) = ((|x| : ℝ) : EReal) := by
  rw [← EReal.coe_neg, ← coe_max]; rfl

theorem log1p_exp (r : ℝ) : Ideal.log1p (Ideal.exp (r : EReal)) = ((Real.log (1 + Real.exp r) : ℝ) : EReal) := by
  have h : Ideal.exp (r : EReal) = ((Real.exp r : ℝ) : EReal) := rfl
  rw [h]
  show Ideal.log (1 + ((Real.exp r : ℝ) : EReal)) = _
  rw [← EReal.coe_one, ← EReal.coe_add]
  have hp : ¬ (1 + Real.exp r ≤ 0) := by have := Real.exp_pos r; linarith
  show (if 1 + Real.exp r ≤ 0 then (⊥ : EReal) else ((Real.log (1 + Real.exp r) : ℝ) : EReal)) = _
  rw [if_neg hp]

theorem soft (x : ℝ) :
    max (x : EReal) 0 + Ideal.log1p (Ideal.exp (0 - max (x : EReal) (-(x : EReal)))) = ((sp x : ℝ) : EReal) := by
  rw [coe_abs, ← EReal.coe_zero, ← EReal.coe_sub, log1p_exp, ← coe_max, ← EReal.coe_add, zero_sub]
  rfl

theorem soft_neg (x : ℝ) :
    max (x : EReal) 0 + Ideal.log1p (Ideal.exp (-(max (x : EReal) (-(x : EReal))))) = ((sp x : ℝ) : EReal) := by
  rw [← soft, zero_sub]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A tile's sum is the sum over its interval. -/
theorem sum_tile {M : Type} [AddCommMonoid M] (n b : ℕ) (f : ℕ → M) : ∑ k : Fin n, f (b + k.val) = ∑ s ∈ Ico b (b + n), f s := by
  rw [Finset.sum_Ico_eq_sum_range, Nat.add_sub_cancel_left, ← Fin.sum_univ_eq_sum_range (fun k => f (b + k))]

/-- The softplus of a score, in the form both programs compute it. -/
def spl (z : EReal) : EReal := max z 0 + Ideal.log1p (Ideal.exp (-(max z (-z))))

theorem spl_coe (x : ℝ) : spl (x : EReal) = ((sp x : ℝ) : EReal) := soft_neg x

theorem log1p_exp_bot : Ideal.log1p (Ideal.exp ⊥) = 0 := by
  show Ideal.log (1 + 0) = 0
  rw [add_zero, ← EReal.coe_one]
  show (if (1 : ℝ) ≤ 0 then (⊥ : EReal) else ((Real.log 1 : ℝ) : EReal)) = 0
  rw [if_neg (by norm_num), Real.log_one, EReal.coe_zero]

theorem spl_bot : spl ⊥ = 0 := by
  unfold spl
  rw [EReal.neg_bot, max_eq_right bot_le, max_eq_right bot_le, EReal.neg_top, log1p_exp_bot, add_zero]

theorem spl_top : spl ⊤ = ⊤ := by
  unfold spl
  rw [max_eq_left le_top, max_eq_left le_top, EReal.neg_top, log1p_exp_bot, add_zero]

theorem neg_spl_ne_top (z : EReal) : -(spl z) ≠ ⊤ := by
  induction z using EReal.rec with
  | bot => rw [spl_bot, neg_zero]; exact EReal.zero_ne_top
  | coe x => rw [spl_coe, ← EReal.coe_neg]; exact EReal.coe_ne_top _
  | top => rw [spl_top, EReal.neg_top]; exact bot_ne_top

/-- A number that is not plus infinity, and what is left of it. -/
theorem add_left_over (x : EReal) (h : x ≠ ⊤) : x + (x - x) = x := by
  induction x using EReal.rec with
  | bot => rw [EReal.bot_add]
  | coe x => rw [← EReal.coe_sub, sub_self, EReal.coe_zero, add_zero]
  | top => exact absurd rfl h

theorem real_back (a : ℝ) (r : EReal) : ((a : EReal) + r) - (a : EReal) = r := by
  induction r using EReal.rec with
  | bot => rw [EReal.add_bot, EReal.bot_sub]
  | coe x => rw [← EReal.coe_add, ← EReal.coe_sub, add_sub_cancel_left]
  | top => rw [EReal.coe_add_top, EReal.top_sub_coe]

/-- The two ways to write the logarithm of a weight. -/
theorem two_ways (z r : EReal) : -(spl (-z)) + ((-(spl z) + r) - (-(spl z))) = (-(spl z) + z) + r := by
  induction z using EReal.rec with
  | bot => rw [EReal.neg_bot, spl_top, EReal.neg_top, EReal.bot_add, EReal.add_bot, EReal.bot_add]
  | coe x =>
    rw [← EReal.coe_neg, spl_coe, spl_coe, ← EReal.coe_neg, ← EReal.coe_neg, real_back, ← EReal.coe_add, sp_neg]
    congr 2
    ring
  | top => rw [spl_top, EReal.neg_top, EReal.bot_add, EReal.bot_add, EReal.bot_add, EReal.bot_sub, EReal.add_bot]

/-- The part of a tile's sum after a place, with what the split left over. -/
theorem sum_later (n b c : ℕ) (g : ℕ → EReal) (hg : ∀ s, g s ≠ ⊤) :
    (∑ k : Fin n, g (b + k.val) * (if c < k.val then 1 else 0)) + (∑ k : Fin n, (g (b + k.val) - g (b + k.val)) * (if c < k.val then 1 else 0))
      = ∑ s ∈ Ico (b + c + 1) (b + n), g s := by
  rw [← Finset.sum_add_distrib]
  have h1 : ∀ k : Fin n, g (b + k.val) * (if c < k.val then 1 else 0) + (g (b + k.val) - g (b + k.val)) * (if c < k.val then 1 else 0)
      = if b + c < b + k.val then g (b + k.val) else 0 := by
    intro k
    by_cases h : c < k.val
    · rw [if_pos h, if_pos (by omega), mul_one, mul_one, add_left_over _ (hg _)]
    · rw [if_neg h, if_neg (by omega), mul_zero, mul_zero, add_zero]
  rw [Finset.sum_congr rfl fun k _ => h1 k]
  rw [sum_tile n b fun s => if b + c < s then g s else 0, ← Finset.sum_filter]
  refine Finset.sum_congr ?_ fun _ _ => rfl
  ext s
  simp only [Finset.mem_filter, Finset.mem_Ico]
  omega

end Cert.KernelIdeal.Stick

end
-- ==== Proof.ValHead.lean ====
module

public import proofs.«01_k».proof.Proof.ValReal

@[expose] public section

set_option maxRecDepth 16384

noncomputable section

namespace Cert.KernelIdeal.Stick

open Cert.KernelIdeal Cert.KernelIdeal.Gen
open Idealize.ShloMosaic

/-! One head's tile, read at an index. -/

theorem vix2 {a b : ℕ} (i : Fin a) (j : Fin b) : (ValueIdx.ix2 i j : (⟨2, ![a, b]⟩ : Shape).Idx) = ix2 i j := by
  funext x; fin_cases x <;> rfl

theorem vix3 {a b c : ℕ} (i : Fin a) (j : Fin b) (k : Fin c) :
    (ValueIdx.ix3 i j k : (⟨3, ![a, b, c]⟩ : Shape).Idx) = ix3 i j k := by
  funext x; fin_cases x <;> rfl

theorem hZ_at (q k : FVec Ideal S1x256x64 .bf16) (r c : Fin 256) :
    hZ q k (ix2 r c) = ∑ d : Fin 64, q (ix3 0 r d) * k (ix3 0 c d) := by
  pointwise [hZ]

theorem hLsm_at (z : FVec Ideal S256x256 .f32) (r c : Fin 256) :
    hLsm z (ix2 r c) = -(spl (z (ix2 r c))) := by
  pointwise [hLsm, hO]
  show 0 - (max (z (ix2 r c)) 0 + Ideal.log1p (Ideal.exp (0 - max (z (ix2 r c)) (-(z (ix2 r c)))))) = _
  rw [zero_sub, zero_sub]
  rfl

theorem hLg_at (m : IVec S256x256 1) (z : FVec Ideal S256x256 .f32) (r c : Fin 256) :
    hLg m z (ix2 r c) = if m (ix2 r c) = 1#1 then hLsm z (ix2 r c) else 0 := by
  pointwise [hLg, hO]
  rfl

theorem hLater_at (T : FVec Ideal S256x256 .bf16) (lg : FVec Ideal S256x256 .f32) (r c : Fin 256) :
    hLater T lg (ix2 r c) = (∑ s : Fin 256, lg (ix2 r s) * T (ix2 s c)) + ∑ s : Fin 256, (lg (ix2 r s) - lg (ix2 r s)) * T (ix2 s c) := by
  pointwise [hLater]

theorem hN_at (m : IVec S256x256 1) (T : FVec Ideal S256x256 .bf16) (q k : FVec Ideal S1x256x64 .bf16) (c : FVec Ideal S1x256x1 .f32) (r : Fin 256) :
    hN m T q k c (ix2 r (0 : Fin 1)) = (c (ix3 0 r 0) + hLater T (hLg m (hZ q k)) (ix2 r 0)) + hLg m (hZ q k) (ix2 r 0) := by
  pointwise [hN]

theorem hC_at (m : IVec S256x256 1) (T : FVec Ideal S256x256 .bf16) (q k : FVec Ideal S1x256x64 .bf16) (c : FVec Ideal S1x256x1 .f32) (r : Fin 256) :
    hC m T q k c (ix3 0 r 0) = hN m T q k c (ix2 r (0 : Fin 1)) := by
  pointwise [hC]

theorem hW_at (m : IVec S256x256 1) (T : FVec Ideal S256x256 .bf16) (q k : FVec Ideal S1x256x64 .bf16) (c : FVec Ideal S1x256x1 .f32) (r s : Fin 256) :
    hW m T q k c (ix2 r s) = if m (ix2 r s) = 1#1 then
      Ideal.exp (((hLsm (hZ q k) (ix2 r s) + hZ q k (ix2 r s)) + hLater T (hLg m (hZ q k)) (ix2 r s)) + c (ix3 0 r 0)) else 0 := by
  pointwise [hW, hO]
  rfl

theorem hA_at (m : IVec S256x256 1) (T : FVec Ideal S256x256 .bf16) (q k v : FVec Ideal S1x256x64 .bf16) (c : FVec Ideal S1x256x1 .f32)
    (a : FVec Ideal S1x256x64 .f32) (r : Fin 256) (d : Fin 64) :
    hA m T q k v c a (ix3 0 r d) = a (ix3 0 r d) + ∑ s : Fin 256, hW m T q k c (ix2 r s) * v (ix3 0 s d) := by
  pointwise [hA]

theorem hMask_at (i j : ℕ) (hi : i < 64) (hj : j < 64) (qi kj : BitVec 32) (hqi : qi = BitVec.ofNat 32 i) (hkj : kj = BitVec.ofNat 32 j) (r c : Fin 256) :
    (hMask qi kj (ix2 r c) = 1#1) ↔ 256 * j + c.val < 256 * i + r.val := by
  have e : ∀ a b : ℕ, a < 64 → b < 256 →
      IntOp.addi (Scalar.muli (BitVec.ofNat 32 a) 256#32) (BitVec.ofNat 32 b) = BitVec.ofNat 32 (256 * a + b) := by
    intro a b ha hb
    apply BitVec.eq_of_toNat_eq
    show (BitVec.ofNat 32 a * 256#32 + BitVec.ofNat 32 b).toNat = _
    simp only [BitVec.toNat_add, BitVec.toNat_mul, BitVec.toNat_ofNat]
    omega
  have n : ∀ a : ℕ, a < 16384 → (BitVec.ofNat 32 a).toInt = (a : ℤ) := by
    intro a ha
    rw [BitVec.toInt_eq_toNat_of_lt (by rw [BitVec.toNat_ofNat]; omega), BitVec.toNat_ofNat, Nat.mod_eq_of_lt (by omega)]
  pointwise [hMask]
  subst hqi; subst hkj
  have hr := r.isLt
  have hc := c.isLt
  rw [e j c hj hc, e i r hi hr]
  show BitVec.ofBool (BitVec.slt _ _) = 1#1 ↔ _
  rw [show (BitVec.ofBool (BitVec.slt (BitVec.ofNat 32 (256 * j + c)) (BitVec.ofNat 32 (256 * i + r))) = 1#1)
    ↔ BitVec.slt (BitVec.ofNat 32 (256 * j + c)) (BitVec.ofNat 32 (256 * i + r)) = true by
      cases BitVec.slt (BitVec.ofNat 32 (256 * j + c)) (BitVec.ofNat 32 (256 * i + r)) <;> decide]
  rw [BitVec.slt_iff_toInt_lt, n _ (by omega), n _ (by omega)]
  omega

theorem flag_zero (x : EReal) : (Scalar.extui (Scalar.cmpf (F := Ideal) (φ := .f32) .olt x (⊥ : EReal)) : BitVec 32) = 0#32 := by
  show Scalar.extui (BitVec.ofBool (decide (x < (⊥ : EReal)))) = 0#32
  rw [decide_eq_false not_lt_bot]
  rfl

theorem hD_at (n : Fin 8 → FVec Ideal S256x1 .f32) : hD n = 0#32 := by
  unfold hD
  rw [IdealRules.named_const.ideal_named_scalar κ "dead" (φ := .f32) 0xC2D00000#32 ⊥ rfl]
  exact flag_zero _

end Cert.KernelIdeal.Stick

end
-- ==== Proof.ValRow.lean ====
module

public import proofs.«01_k».proof.Proof.ValHead

@[expose] public section

set_option maxRecDepth 16384

noncomputable section

namespace Cert.KernelIdeal.Stick

open Cert.KernelIdeal Cert.KernelIdeal.Gen
open Idealize.ShloMosaic Finset

/-! What a row of tiles has summed when it has come down to a block. -/

/-- An array of eight heads read at a position that need not be in range. -/
def nat3 {α : Type} [Zero α] (X : S8x16384x64.Idx → α) (h : Fin 8) (n : ℕ) (d : Fin 64) : α :=
  if hn : n < 16384 then X (ix3 h ⟨n, hn⟩ d) else 0

section

variable (Q K V : S8x16384x64.Idx → EReal)

/-- The score of a pair of positions. -/
def zr (h : Fin 8) (R s : ℕ) : EReal := ∑ d : Fin 64, nat3 Q h R d * nat3 K h s d
/-- The logarithm of what a place leaves of the stick. -/
def lg (h : Fin 8) (R s : ℕ) : EReal := if s < R then -(spl (zr Q K h R s)) else 0
/-- What is left of the stick's logarithm from a place on. -/
def rest (h : Fin 8) (R b : ℕ) : EReal := ∑ s ∈ Ico b 16384, lg Q K h R s
/-- The weight of a place. -/
def wr (h : Fin 8) (R s : ℕ) : EReal :=
  if s < R then Ideal.exp ((-(spl (zr Q K h R s)) + zr Q K h R s) + rest Q K h R (s + 1)) else 0

theorem lg_ne_top (h : Fin 8) (R s : ℕ) : lg Q K h R s ≠ ⊤ := by
  unfold lg
  split
  · exact neg_spl_ne_top _
  · exact EReal.zero_ne_top

/-- The weighted sum of the values from a place on. -/
def acc (h : Fin 8) (R b : ℕ) (d : Fin 64) : EReal := ∑ s ∈ Ico b 16384, wr Q K h R s * nat3 V h s d

/-- The state of row block `i` after the blocks from `b` on. -/
structure Row (i b : ℕ) (s : St Ideal) : Prop where
  C : ∀ (h : Fin 8) (r : Fin 256), s.C (ix3 h r 0) = rest Q K h (256 * i + r.val) (256 * b)
  A : ∀ (h : Fin 8) (r : Fin 256) (d : Fin 64), s.A (ix3 h r d) = acc Q K V h (256 * i + r.val) (256 * b) d
  D : s.D (ValueIdx.ix1 0) = 0#32

theorem rest_out (h : Fin 8) (R b : ℕ) (hb : R ≤ b) : rest Q K h R b = 0 :=
  Finset.sum_eq_zero fun s hs => if_neg (by have := (Finset.mem_Ico.mp hs).1; omega)
theorem acc_out (h : Fin 8) (R b : ℕ) (d : Fin 64) (hb : R ≤ b) : acc Q K V h R b d = 0 :=
  Finset.sum_eq_zero fun s hs => by
    rw [wr, if_neg (by have := (Finset.mem_Ico.mp hs).1; omega), zero_mul]

theorem row_init (i : ℕ) : Row Q K V i (i + 1) (nearInit : St Ideal) where
  C h r := by
    rw [rest_out Q K _ _ _ (by have := r.isLt; omega)]
    show k0_pay1 (F := Ideal) (ix3 h r 0) = _
    pointwise [k0_pay1]
  A h r d := by
    rw [acc_out Q K V _ _ _ _ (by have := r.isLt; omega)]
    show k0_pay2 (F := Ideal) (ix3 h r d) = _
    pointwise [k0_pay2]
  D := rfl

section Tile
variable (i j : ℕ) (hi : i < 64) (hj : j < 64) (qi kj : BitVec 32) (hqi : qi = BitVec.ofNat 32 i) (hkj : kj = BitVec.ofNat 32 j)
variable (X5 X6 X7 : FVec Ideal S8x256x64 .bf16) (X8 : FVec Ideal S256x256 .bf16) (s : St Ideal)
variable (h5 : ∀ (h : Fin 8) (r : Fin 256) (d : Fin 64), X5 (ix3 h r d) = nat3 Q h (256 * i + r.val) d)
variable (h6 : ∀ (h : Fin 8) (r : Fin 256) (d : Fin 64), X6 (ix3 h r d) = nat3 K h (256 * j + r.val) d)
variable (h7 : ∀ (h : Fin 8) (r : Fin 256) (d : Fin 64), X7 (ix3 h r d) = nat3 V h (256 * j + r.val) d)
variable (h8 : ∀ (r c : Fin 256), X8 (ix2 r c) = if c.val < r.val then 1 else 0)
include hi hj hqi hkj h5 h6 h8

omit hi hj hqi hkj h8 in
theorem tile_z (h : Fin 8) (r c : Fin 256) :
    hZ (F := Ideal) (hd h X5) (hd h X6) (ix2 r c) = zr Q K h (256 * i + r.val) (256 * j + c.val) := by
  rw [hZ_at, zr]
  refine Finset.sum_congr rfl fun d _ => ?_
  show X5 (ValueIdx.ix3 h r d) * X6 (ValueIdx.ix3 h c d) = _
  rw [vix3, vix3, h5, h6]

omit h8 in
theorem tile_lg (h : Fin 8) (r c : Fin 256) :
    hLg (F := Ideal) (hMask qi kj) (hZ (hd h X5) (hd h X6)) (ix2 r c) = lg Q K h (256 * i + r.val) (256 * j + c.val) := by
  rw [hLg_at, hLsm_at, tile_z Q K i j X5 X6 h5 h6 h r c, lg]
  by_cases hm : 256 * j + c.val < 256 * i + r.val
  · rw [if_pos ((hMask_at i j hi hj qi kj hqi hkj r c).mpr hm), if_pos hm]
  · rw [if_neg fun e => hm ((hMask_at i j hi hj qi kj hqi hkj r c).mp e), if_neg hm]

theorem tile_later (h : Fin 8) (r c : Fin 256) :
    hLater (F := Ideal) X8 (hLg (hMask qi kj) (hZ (hd h X5) (hd h X6))) (ix2 r c)
      = ∑ s ∈ Ico (256 * j + c.val + 1) (256 * j + 256), lg Q K h (256 * i + r.val) s := by
  have l := tile_lg Q K i j hi hj qi kj hqi hkj X5 X6 h5 h6 h r
  rw [hLater_at, Finset.sum_congr rfl fun s _ => congrArg₂ (· * ·) (l s) (h8 s c),
    Finset.sum_congr rfl fun s _ => congrArg₂ (· * ·) (congrArg₂ (· - ·) (l s) (l s)) (h8 s c)]
  exact sum_later 256 (256 * j) c.val (fun s => lg Q K h (256 * i + r.val) s) fun s => lg_ne_top Q K h _ s

theorem tile_w (hR : Row Q K V i (j + 1) s) (h : Fin 8) (r c : Fin 256) :
    hW (F := Ideal) (hMask qi kj) X8 (hd h X5) (hd h X6) (hd h s.C) (ix2 r c)
      = wr Q K h (256 * i + r.val) (256 * j + c.val) := by
  have hc := c.isLt
  rw [hW_at, wr, hLsm_at, tile_z Q K i j X5 X6 h5 h6 h r c,
    tile_later Q K i j hi hj qi kj hqi hkj X5 X6 X8 h5 h6 h8 h r c]
  by_cases hm : 256 * j + c.val < 256 * i + r.val
  · rw [if_pos ((hMask_at i j hi hj qi kj hqi hkj r c).mpr hm), if_pos hm]
    have e : hd h s.C (ix3 0 r 0) = rest Q K h (256 * i + r.val) (256 * (j + 1)) := by
      show s.C (ValueIdx.ix3 h r 0) = _
      rw [vix3, hR.C]
    rw [e]
    have e2 : rest Q K h (256 * i + r.val) (256 * j + c.val + 1)
        = (∑ s ∈ Ico (256 * j + c.val + 1) (256 * j + 256), lg Q K h (256 * i + r.val) s) + rest Q K h (256 * i + r.val) (256 * (j + 1)) := by
      unfold rest
      rw [show 256 * (j + 1) = 256 * j + 256 by ring]
      exact (Finset.sum_Ico_consecutive _ (by omega) (by omega)).symm
    rw [e2, ← add_assoc]
  · rw [if_neg fun e => hm ((hMask_at i j hi hj qi kj hqi hkj r c).mp e), if_neg hm]

include h7 in
/-- One tile takes the row one block further. -/
theorem row_step (hR : Row Q K V i (j + 1) s) : Row Q K V i j (comp qi kj X5 X6 X7 X8 s) := by
  unfold comp
  rw [if_pos hR.D]
  refine ⟨fun h r => ?_, fun h r d => ?_, ?_⟩
  · show hC (F := Ideal) (hMask qi kj) X8 (hd h X5) (hd h X6) (hd h s.C) (ValueIdx.ix3 0 r 0) = _
    rw [vix3, hC_at, hN_at, tile_later Q K i j hi hj qi kj hqi hkj X5 X6 X8 h5 h6 h8 h r 0,
      tile_lg Q K i j hi hj qi kj hqi hkj X5 X6 h5 h6 h r 0]
    have e : hd h s.C (ix3 0 r 0) = rest Q K h (256 * i + r.val) (256 * (j + 1)) := by
      show s.C (ValueIdx.ix3 h r 0) = _
      rw [vix3, hR.C]
    rw [e]
    unfold rest
    rw [show 256 * (j + 1) = 256 * j + 256 by ring, ← Finset.sum_Ico_consecutive _ (by omega : 256 * j ≤ 256 * j + 256) (by omega : 256 * j + 256 ≤ 16384),
      Finset.sum_eq_sum_Ico_succ_bot (by omega : 256 * j < 256 * j + 256)]
    have z0 : 256 * j + ((0 : Fin 256) : ℕ) = 256 * j := rfl
    rw [z0]
    generalize (∑ s ∈ Ico (256 * j + 256) 16384, lg Q K h (256 * i + r.val) s) = a
    generalize (∑ s ∈ Ico (256 * j + 1) (256 * j + 256), lg Q K h (256 * i + r.val) s) = b
    generalize lg Q K h (256 * i + r.val) (256 * j) = x
    rw [add_comm a b, add_assoc, add_comm a x, ← add_assoc, add_comm b x]
  · show hA (F := Ideal) (hMask qi kj) X8 (hd h X5) (hd h X6) (hd h X7) (hd h s.C) (hd h s.A) (ValueIdx.ix3 0 r d) = _
    rw [vix3, hA_at]
    have e : hd h s.A (ix3 0 r d) = acc Q K V h (256 * i + r.val) (256 * (j + 1)) d := by
      show s.A (ValueIdx.ix3 h r d) = _
      rw [vix3, hR.A]
    have e7 : ∀ c : Fin 256, hd h X7 (ix3 0 c d) = nat3 V h (256 * j + c.val) d := by
      intro c
      show X7 (ValueIdx.ix3 h c d) = _
      rw [vix3, h7]
    have tl := sum_tile 256 (256 * j) fun s => wr Q K h (256 * i + r.val) s * nat3 V h s d
    beta_reduce at tl
    have e9 : ∑ c : Fin 256, hW (F := Ideal) (hMask qi kj) X8 (hd h X5) (hd h X6) (hd h s.C) (ix2 r c) * hd h X7 (ix3 0 c d)
        = ∑ s ∈ Ico (256 * j) (256 * j + 256), wr Q K h (256 * i + r.val) s * nat3 V h s d := by
      rw [← tl]
      refine Finset.sum_congr rfl fun c _ => ?_
      rw [tile_w Q K V i j hi hj qi kj hqi hkj X5 X6 X8 s h5 h6 h8 hR h r c, e7 c]
    have e10 : acc Q K V h (256 * i + r.val) (256 * j) d
        = (∑ s ∈ Ico (256 * j) (256 * j + 256), wr Q K h (256 * i + r.val) s * nat3 V h s d) + acc Q K V h (256 * i + r.val) (256 * (j + 1)) d := by
      unfold acc
      rw [show 256 * (j + 1) = 256 * j + 256 by ring]
      exact (Finset.sum_Ico_consecutive _ (by omega) (by omega)).symm
    rw [e, e10, e9, add_comm]
  · dsimp only
    rw [hD_at]

end Tile

end

end Cert.KernelIdeal.Stick

end
-- ==== Proof.ValTab.lean ====
module

public import proofs.«01_k».proof.Proof.ValRow
public import proofs.«01_k».proof.Proof.Records

@[expose] public section

set_option maxRecDepth 16384

noncomputable section

namespace Cert.KernelIdeal.Stick

open Cert.KernelIdeal Cert.KernelIdeal.Gen
open Idealize.ShloMosaic Idealize.ShloMosaic.TcCoe Finset
open Idealize.ShloMosaic.Pipeline (Dat)

/-! The order of the tables: a row starts at its own block, or two before it, and comes down a block at a point. -/

theorem near_first : ∀ t : Fin 127, lit2 t = 1#32 → (lit1 t).toNat = (lit0 t).toNat := by decide +kernel
theorem near_next : ∀ t : Fin 127, ¬lit2 t = 1#32 → ∃ h : 0 < t.val, lit0 ⟨t.val - 1, by omega⟩ = lit0 t ∧ (lit1 ⟨t.val - 1, by omega⟩).toNat = (lit1 t).toNat + 1 := by decide +kernel
theorem near_last : ∀ t : Fin 127, lit3 t = 1#32 → (lit1 t).toNat = (lit0 t).toNat - 1 := by decide +kernel
theorem near_cover : ∀ i : Fin 64, lit3 ⟨2 * i.val, by omega⟩ = 1#32 ∧ (lit0 ⟨2 * i.val, by omega⟩).toNat = i.val := by decide +kernel
theorem far_first : ∀ t : Fin 1953, lit6 t = 1#32 → (lit4 t).toNat = (lit5 t).toNat + 2 := by decide +kernel
theorem far_next : ∀ t : Fin 1953, ¬lit6 t = 1#32 → ∃ h : 0 < t.val, lit4 ⟨t.val - 1, by omega⟩ = lit4 t ∧ (lit5 ⟨t.val - 1, by omega⟩).toNat = (lit5 t).toNat + 1 := by decide +kernel
theorem far_last : ∀ t : Fin 1953, lit7 t = 1#32 → (lit5 t).toNat = 0 := by decide +kernel
theorem far_cover : ∀ i : Fin 62, lit7 ⟨(i.val + 2) * (i.val + 1) / 2 - 1, by
    have h := i.isLt
    have h2 : (i.val + 2) * (i.val + 1) ≤ 63 * 62 := Nat.mul_le_mul (by omega) (by omega)
    omega⟩ = 1#32 ∧ (lit4 ⟨(i.val + 2) * (i.val + 1) / 2 - 1, by
    have h := i.isLt
    have h2 : (i.val + 2) * (i.val + 1) ≤ 63 * 62 := Nat.mul_le_mul (by omega) (by omega)
    omega⟩).toNat = i.val + 2 := by decide +kernel

end Cert.KernelIdeal.Stick

end
-- ==== Proof.ValBlk.lean ====
module

public import proofs.«01_k».proof.Proof.ValTab
public import proofs.«01_k».proof.Proof.Records

@[expose] public section

set_option maxRecDepth 16384

noncomputable section

namespace Cert.KernelIdeal.Stick

open Cert.KernelIdeal Cert.KernelIdeal.Gen
open Idealize.ShloMosaic Idealize.ShloMosaic.TcCoe Finset
open Idealize.ShloMosaic.Pipeline (Dat)

/-! Where a block's element sits in its array. -/

theorem in256 {i : ℕ} (hi : i < 64) (r : Fin 256) : 256 * i + r.val < 16384 := by have := r.isLt; omega

theorem blk0_0 (W : Valuation τ sig (Elt Ideal)) (c : Dev nD) (t : Fin grid0.N) (h : Fin 8) (r : Fin 256) (d : Fin 64) :
    (show S8x256x64.Idx → EReal from bk0 W c 0 t) (ix3 h r d)
      = (show S8x16384x64.Idx → EReal from W (Proc.devRef .tc main_arg0)) (ix3 h ⟨256 * (lit0 ⟨t.val, t.isLt.trans_eq N_0⟩).toNat + r.val, in256 (lit0_lt _) r⟩ d) := by
  refine congrArg (show S8x16384x64.Idx → EReal from W (Proc.devRef .tc main_arg0)) (funext fun a => Fin.ext ?_)
  refine (Pipeline.Window.rect_emb_val ((cfg0 (adm0 (F := Ideal))).win 0) t (show S8x256x64.Idx from ix3 h r d) a).trans ?_
  have hx : ((cfg0 (adm0 (F := Ideal))).win 0).index t = ![0, (lit0 ⟨t.val, t.isLt.trans_eq N_0⟩).toNat, 0] :=
    (ix0_0 (grid0.coords t)).trans (by rw [at0])
  rw [hx]
  match a with
  | ⟨0, _⟩ => exact (show 0 * 8 + h.val = h.val by omega)
  | ⟨1, _⟩ => exact (show (lit0 ⟨t.val, t.isLt.trans_eq N_0⟩).toNat * 256 + r.val = 256 * (lit0 ⟨t.val, t.isLt.trans_eq N_0⟩).toNat + r.val by omega)
  | ⟨2, _⟩ => exact (show 0 * 64 + d.val = d.val by omega)

theorem blk0_1 (W : Valuation τ sig (Elt Ideal)) (c : Dev nD) (t : Fin grid0.N) (h : Fin 8) (r : Fin 256) (d : Fin 64) :
    (show S8x256x64.Idx → EReal from bk0 W c 1 t) (ix3 h r d)
      = (show S8x16384x64.Idx → EReal from W (Proc.devRef .tc main_arg1)) (ix3 h ⟨256 * (lit1 ⟨t.val, t.isLt.trans_eq N_0⟩).toNat + r.val, in256 (lit1_lt _) r⟩ d) := by
  refine congrArg (show S8x16384x64.Idx → EReal from W (Proc.devRef .tc main_arg1)) (funext fun a => Fin.ext ?_)
  refine (Pipeline.Window.rect_emb_val ((cfg0 (adm0 (F := Ideal))).win 1) t (show S8x256x64.Idx from ix3 h r d) a).trans ?_
  have hx : ((cfg0 (adm0 (F := Ideal))).win 1).index t = ![0, (lit1 ⟨t.val, t.isLt.trans_eq N_0⟩).toNat, 0] :=
    (ix0_1 (grid0.coords t)).trans (by rw [at0])
  rw [hx]
  match a with
  | ⟨0, _⟩ => exact (show 0 * 8 + h.val = h.val by omega)
  | ⟨1, _⟩ => exact (show (lit1 ⟨t.val, t.isLt.trans_eq N_0⟩).toNat * 256 + r.val = 256 * (lit1 ⟨t.val, t.isLt.trans_eq N_0⟩).toNat + r.val by omega)
  | ⟨2, _⟩ => exact (show 0 * 64 + d.val = d.val by omega)

theorem blk0_2 (W : Valuation τ sig (Elt Ideal)) (c : Dev nD) (t : Fin grid0.N) (h : Fin 8) (r : Fin 256) (d : Fin 64) :
    (show S8x256x64.Idx → EReal from bk0 W c 2 t) (ix3 h r d)
      = (show S8x16384x64.Idx → EReal from W (Proc.devRef .tc main_arg2)) (ix3 h ⟨256 * (lit1 ⟨t.val, t.isLt.trans_eq N_0⟩).toNat + r.val, in256 (lit1_lt _) r⟩ d) := by
  refine congrArg (show S8x16384x64.Idx → EReal from W (Proc.devRef .tc main_arg2)) (funext fun a => Fin.ext ?_)
  refine (Pipeline.Window.rect_emb_val ((cfg0 (adm0 (F := Ideal))).win 2) t (show S8x256x64.Idx from ix3 h r d) a).trans ?_
  have hx : ((cfg0 (adm0 (F := Ideal))).win 2).index t = ![0, (lit1 ⟨t.val, t.isLt.trans_eq N_0⟩).toNat, 0] :=
    (ix0_2 (grid0.coords t)).trans (by rw [at0])
  rw [hx]
  match a with
  | ⟨0, _⟩ => exact (show 0 * 8 + h.val = h.val by omega)
  | ⟨1, _⟩ => exact (show (lit1 ⟨t.val, t.isLt.trans_eq N_0⟩).toNat * 256 + r.val = 256 * (lit1 ⟨t.val, t.isLt.trans_eq N_0⟩).toNat + r.val by omega)
  | ⟨2, _⟩ => exact (show 0 * 64 + d.val = d.val by omega)

theorem blk0_3 (W : Valuation τ sig (Elt Ideal)) (c : Dev nD) (t : Fin grid0.N) (r s : Fin 256) :
    (show S256x256.Idx → EReal from bk0 W c 3 t) (ix2 r s) = (show S256x256.Idx → EReal from W (Proc.devRef .tc main_v7)) (ix2 r s) := by
  refine congrArg (show S256x256.Idx → EReal from W (Proc.devRef .tc main_v7)) (funext fun a => Fin.ext ?_)
  refine (Pipeline.Window.rect_emb_val ((cfg0 (adm0 (F := Ideal))).win 3) t (show S256x256.Idx from ix2 r s) a).trans ?_
  match a with
  | ⟨0, _⟩ => exact (show 0 * 256 + r.val = r.val by omega)
  | ⟨1, _⟩ => exact (show 0 * 256 + s.val = s.val by omega)

theorem emb0_4 (t : Fin grid0.N) (r : Fin 256) (e : Fin 512) :
    ((((cfg0 (adm0 (F := Ideal))).win 4).blk t).view.emb (show S256x512.Idx from ix2 r e) : S16384x512.Idx)
      = ix2 (⟨256 * (lit0 ⟨t.val, t.isLt.trans_eq N_0⟩).toNat + r.val, in256 (lit0_lt _) r⟩ : Fin 16384) e := by
  refine funext fun a => Fin.ext ?_
  refine (Pipeline.Window.rect_emb_val ((cfg0 (adm0 (F := Ideal))).win 4) t (show S256x512.Idx from ix2 r e) a).trans ?_
  have hx : ((cfg0 (adm0 (F := Ideal))).win 4).index t = ![(lit0 ⟨t.val, t.isLt.trans_eq N_0⟩).toNat, 0] :=
    (ix0_4 (grid0.coords t)).trans (by rw [at0])
  rw [hx]
  match a with
  | ⟨0, _⟩ => exact (show (lit0 ⟨t.val, t.isLt.trans_eq N_0⟩).toNat * 256 + r.val = 256 * (lit0 ⟨t.val, t.isLt.trans_eq N_0⟩).toNat + r.val by omega)
  | ⟨1, _⟩ => exact (show 0 * 512 + e.val = e.val by omega)

theorem emb0_5 (t : Fin grid0.N) (r : Fin 256) (e : Fin 8) :
    ((((cfg0 (adm0 (F := Ideal))).win 5).blk t).view.emb (show S256x8.Idx from ix2 r e) : S16384x8.Idx)
      = ix2 (⟨256 * (lit0 ⟨t.val, t.isLt.trans_eq N_0⟩).toNat + r.val, in256 (lit0_lt _) r⟩ : Fin 16384) e := by
  refine funext fun a => Fin.ext ?_
  refine (Pipeline.Window.rect_emb_val ((cfg0 (adm0 (F := Ideal))).win 5) t (show S256x8.Idx from ix2 r e) a).trans ?_
  have hx : ((cfg0 (adm0 (F := Ideal))).win 5).index t = ![(lit0 ⟨t.val, t.isLt.trans_eq N_0⟩).toNat, 0] :=
    (ix0_5 (grid0.coords t)).trans (by rw [at0])
  rw [hx]
  match a with
  | ⟨0, _⟩ => exact (show (lit0 ⟨t.val, t.isLt.trans_eq N_0⟩).toNat * 256 + r.val = 256 * (lit0 ⟨t.val, t.isLt.trans_eq N_0⟩).toNat + r.val by omega)
  | ⟨1, _⟩ => exact (show 0 * 8 + e.val = e.val by omega)

theorem blk1_0 (W : Valuation τ sig (Elt Ideal)) (c : Dev nD) (t : Fin grid1.N) (h : Fin 8) (r : Fin 256) (d : Fin 64) :
    (show S8x256x64.Idx → EReal from bk1 W c 0 t) (ix3 h r d)
      = (show S8x16384x64.Idx → EReal from W (Proc.devRef .tc main_arg0)) (ix3 h ⟨256 * (lit4 ⟨t.val, t.isLt.trans_eq N_1⟩).toNat + r.val, in256 (lit4_lt _) r⟩ d) := by
  refine congrArg (show S8x16384x64.Idx → EReal from W (Proc.devRef .tc main_arg0)) (funext fun a => Fin.ext ?_)
  refine (Pipeline.Window.rect_emb_val ((cfg1 (adm1 (F := Ideal))).win 0) t (show S8x256x64.Idx from ix3 h r d) a).trans ?_
  have hx : ((cfg1 (adm1 (F := Ideal))).win 0).index t = ![0, (lit4 ⟨t.val, t.isLt.trans_eq N_1⟩).toNat, 0] :=
    (ix1_0 (grid1.coords t)).trans (by rw [at1])
  rw [hx]
  match a with
  | ⟨0, _⟩ => exact (show 0 * 8 + h.val = h.val by omega)
  | ⟨1, _⟩ => exact (show (lit4 ⟨t.val, t.isLt.trans_eq N_1⟩).toNat * 256 + r.val = 256 * (lit4 ⟨t.val, t.isLt.trans_eq N_1⟩).toNat + r.val by omega)
  | ⟨2, _⟩ => exact (show 0 * 64 + d.val = d.val by omega)

theorem blk1_1 (W : Valuation τ sig (Elt Ideal)) (c : Dev nD) (t : Fin grid1.N) (h : Fin 8) (r : Fin 256) (d : Fin 64) :
    (show S8x256x64.Idx → EReal from bk1 W c 1 t) (ix3 h r d)
      = (show S8x16384x64.Idx → EReal from W (Proc.devRef .tc main_arg1)) (ix3 h ⟨256 * (lit5 ⟨t.val, t.isLt.trans_eq N_1⟩).toNat + r.val, in256 (lit5_lt _) r⟩ d) := by
  refine congrArg (show S8x16384x64.Idx → EReal from W (Proc.devRef .tc main_arg1)) (funext fun a => Fin.ext ?_)
  refine (Pipeline.Window.rect_emb_val ((cfg1 (adm1 (F := Ideal))).win 1) t (show S8x256x64.Idx from ix3 h r d) a).trans ?_
  have hx : ((cfg1 (adm1 (F := Ideal))).win 1).index t = ![0, (lit5 ⟨t.val, t.isLt.trans_eq N_1⟩).toNat, 0] :=
    (ix1_1 (grid1.coords t)).trans (by rw [at1])
  rw [hx]
  match a with
  | ⟨0, _⟩ => exact (show 0 * 8 + h.val = h.val by omega)
  | ⟨1, _⟩ => exact (show (lit5 ⟨t.val, t.isLt.trans_eq N_1⟩).toNat * 256 + r.val = 256 * (lit5 ⟨t.val, t.isLt.trans_eq N_1⟩).toNat + r.val by omega)
  | ⟨2, _⟩ => exact (show 0 * 64 + d.val = d.val by omega)

theorem blk1_2 (W : Valuation τ sig (Elt Ideal)) (c : Dev nD) (t : Fin grid1.N) (h : Fin 8) (r : Fin 256) (d : Fin 64) :
    (show S8x256x64.Idx → EReal from bk1 W c 2 t) (ix3 h r d)
      = (show S8x16384x64.Idx → EReal from W (Proc.devRef .tc main_arg2)) (ix3 h ⟨256 * (lit5 ⟨t.val, t.isLt.trans_eq N_1⟩).toNat + r.val, in256 (lit5_lt _) r⟩ d) := by
  refine congrArg (show S8x16384x64.Idx → EReal from W (Proc.devRef .tc main_arg2)) (funext fun a => Fin.ext ?_)
  refine (Pipeline.Window.rect_emb_val ((cfg1 (adm1 (F := Ideal))).win 2) t (show S8x256x64.Idx from ix3 h r d) a).trans ?_
  have hx : ((cfg1 (adm1 (F := Ideal))).win 2).index t = ![0, (lit5 ⟨t.val, t.isLt.trans_eq N_1⟩).toNat, 0] :=
    (ix1_2 (grid1.coords t)).trans (by rw [at1])
  rw [hx]
  match a with
  | ⟨0, _⟩ => exact (show 0 * 8 + h.val = h.val by omega)
  | ⟨1, _⟩ => exact (show (lit5 ⟨t.val, t.isLt.trans_eq N_1⟩).toNat * 256 + r.val = 256 * (lit5 ⟨t.val, t.isLt.trans_eq N_1⟩).toNat + r.val by omega)
  | ⟨2, _⟩ => exact (show 0 * 64 + d.val = d.val by omega)

theorem blk1_3 (W : Valuation τ sig (Elt Ideal)) (c : Dev nD) (t : Fin grid1.N) (r s : Fin 256) :
    (show S256x256.Idx → EReal from bk1 W c 3 t) (ix2 r s) = (show S256x256.Idx → EReal from W (Proc.devRef .tc main_v7)) (ix2 r s) := by
  refine congrArg (show S256x256.Idx → EReal from W (Proc.devRef .tc main_v7)) (funext fun a => Fin.ext ?_)
  refine (Pipeline.Window.rect_emb_val ((cfg1 (adm1 (F := Ideal))).win 3) t (show S256x256.Idx from ix2 r s) a).trans ?_
  match a with
  | ⟨0, _⟩ => exact (show 0 * 256 + r.val = r.val by omega)
  | ⟨1, _⟩ => exact (show 0 * 256 + s.val = s.val by omega)

theorem emb1_4 (t : Fin grid1.N) (r : Fin 256) (e : Fin 512) :
    ((((cfg1 (adm1 (F := Ideal))).win 4).blk t).view.emb (show S256x512.Idx from ix2 r e) : S16384x512.Idx)
      = ix2 (⟨256 * (lit4 ⟨t.val, t.isLt.trans_eq N_1⟩).toNat + r.val, in256 (lit4_lt _) r⟩ : Fin 16384) e := by
  refine funext fun a => Fin.ext ?_
  refine (Pipeline.Window.rect_emb_val ((cfg1 (adm1 (F := Ideal))).win 4) t (show S256x512.Idx from ix2 r e) a).trans ?_
  have hx : ((cfg1 (adm1 (F := Ideal))).win 4).index t = ![(lit4 ⟨t.val, t.isLt.trans_eq N_1⟩).toNat, 0] :=
    (ix1_4 (grid1.coords t)).trans (by rw [at1])
  rw [hx]
  match a with
  | ⟨0, _⟩ => exact (show (lit4 ⟨t.val, t.isLt.trans_eq N_1⟩).toNat * 256 + r.val = 256 * (lit4 ⟨t.val, t.isLt.trans_eq N_1⟩).toNat + r.val by omega)
  | ⟨1, _⟩ => exact (show 0 * 512 + e.val = e.val by omega)

theorem blk1_4 (W : Valuation τ sig (Elt Ideal)) (c : Dev nD) (t : Fin grid1.N) (r : Fin 256) (e : Fin 512) :
    (show S256x512.Idx → EReal from bk1 W c 4 t) (ix2 r e)
      = (show S16384x512.Idx → EReal from W (Proc.devRef .tc main_v8_0)) (ix2 ⟨256 * (lit4 ⟨t.val, t.isLt.trans_eq N_1⟩).toNat + r.val, in256 (lit4_lt _) r⟩ e) :=
  congrArg (show S16384x512.Idx → EReal from W (Proc.devRef .tc main_v8_0)) (emb1_4 t r e)

theorem emb1_5 (t : Fin grid1.N) (r : Fin 256) (e : Fin 8) :
    ((((cfg1 (adm1 (F := Ideal))).win 5).blk t).view.emb (show S256x8.Idx from ix2 r e) : S16384x8.Idx)
      = ix2 (⟨256 * (lit4 ⟨t.val, t.isLt.trans_eq N_1⟩).toNat + r.val, in256 (lit4_lt _) r⟩ : Fin 16384) e := by
  refine funext fun a => Fin.ext ?_
  refine (Pipeline.Window.rect_emb_val ((cfg1 (adm1 (F := Ideal))).win 5) t (show S256x8.Idx from ix2 r e) a).trans ?_
  have hx : ((cfg1 (adm1 (F := Ideal))).win 5).index t = ![(lit4 ⟨t.val, t.isLt.trans_eq N_1⟩).toNat, 0] :=
    (ix1_5 (grid1.coords t)).trans (by rw [at1])
  rw [hx]
  match a with
  | ⟨0, _⟩ => exact (show (lit4 ⟨t.val, t.isLt.trans_eq N_1⟩).toNat * 256 + r.val = 256 * (lit4 ⟨t.val, t.isLt.trans_eq N_1⟩).toNat + r.val by omega)
  | ⟨1, _⟩ => exact (show 0 * 8 + e.val = e.val by omega)

theorem blk1_5 (W : Valuation τ sig (Elt Ideal)) (c : Dev nD) (t : Fin grid1.N) (r : Fin 256) (e : Fin 8) :
    (show S256x8.Idx → EReal from bk1 W c 5 t) (ix2 r e)
      = (show S16384x8.Idx → EReal from W (Proc.devRef .tc main_v8_1)) (ix2 ⟨256 * (lit4 ⟨t.val, t.isLt.trans_eq N_1⟩).toNat + r.val, in256 (lit4_lt _) r⟩ e) :=
  congrArg (show S16384x8.Idx → EReal from W (Proc.devRef .tc main_v8_1)) (emb1_5 t r e)

theorem emb1_6 (t : Fin grid1.N) (r : Fin 256) (e : Fin 512) :
    ((((cfg1 (adm1 (F := Ideal))).win 6).blk t).view.emb (show S256x512.Idx from ix2 r e) : S16384x512.Idx)
      = ix2 (⟨256 * (lit4 ⟨t.val, t.isLt.trans_eq N_1⟩).toNat + r.val, in256 (lit4_lt _) r⟩ : Fin 16384) e := by
  refine funext fun a => Fin.ext ?_
  refine (Pipeline.Window.rect_emb_val ((cfg1 (adm1 (F := Ideal))).win 6) t (show S256x512.Idx from ix2 r e) a).trans ?_
  have hx : ((cfg1 (adm1 (F := Ideal))).win 6).index t = ![(lit4 ⟨t.val, t.isLt.trans_eq N_1⟩).toNat, 0] :=
    (ix1_6 (grid1.coords t)).trans (by rw [at1])
  rw [hx]
  match a with
  | ⟨0, _⟩ => exact (show (lit4 ⟨t.val, t.isLt.trans_eq N_1⟩).toNat * 256 + r.val = 256 * (lit4 ⟨t.val, t.isLt.trans_eq N_1⟩).toNat + r.val by omega)
  | ⟨1, _⟩ => exact (show 0 * 512 + e.val = e.val by omega)

end Cert.KernelIdeal.Stick

end
-- ==== Proof.ValArr.lean ====
module

public import proofs.«01_k».proof.Proof.ValBlk

@[expose] public section

set_option maxRecDepth 16384

noncomputable section

namespace Cert.KernelIdeal.Stick

open Cert.KernelIdeal Cert.KernelIdeal.Gen
open Idealize.ShloMosaic Idealize.ShloMosaic.TcCoe Finset
open Idealize.ShloMosaic.Pipeline (Dat)

/-! What the two regions leave in their arrays. -/

section

variable (Q K V : S8x16384x64.Idx → EReal)

/-- What a region starts from: queries, keys and values, and the triangle. -/
structure Ins (W : Valuation τ sig (Elt Ideal)) : Prop where
  q : (show S8x16384x64.Idx → EReal from W (Proc.devRef .tc main_arg0)) = Q
  k : (show S8x16384x64.Idx → EReal from W (Proc.devRef .tc main_arg1)) = K
  v : (show S8x16384x64.Idx → EReal from W (Proc.devRef .tc main_arg2)) = V
  T : ∀ r s : Fin 256, (show S256x256.Idx → EReal from W (Proc.devRef .tc main_v7)) (ix2 r s) = if s.val < r.val then 1 else 0

theorem nat3_at {α : Type} [Zero α] (X : S8x16384x64.Idx → α) (h : Fin 8) (n : ℕ) (hn : n < 16384) (d : Fin 64) :
    nat3 X h n d = X (ix3 h ⟨n, hn⟩ d) := dif_pos hn

theorem word_nat (v : BitVec 32) : v = BitVec.ofNat 32 v.toNat :=
  BitVec.eq_of_toNat_eq (by rw [BitVec.toNat_ofNat, Nat.mod_eq_of_lt v.isLt])

/-- The accumulators the near region leaves, as one array. -/
def nearA : S16384x512.Idx → EReal := fun y =>
  acc Q K V (⟨(y 1).val / 64, by have h : (y 1).val < 512 := (y 1).isLt; omega⟩ : Fin 8) (y 0).val (256 * ((y 0).val / 256 - 1)) (⟨(y 1).val % 64, by omega⟩ : Fin 64)
/-- The carries the near region leaves. -/
def nearC : S16384x8.Idx → EReal := fun y => rest Q K (show Fin 8 from y 1) (y 0).val (256 * ((y 0).val / 256 - 1))
/-- The whole sums. -/
def farA : S16384x512.Idx → EReal := fun y =>
  acc Q K V (⟨(y 1).val / 64, by have h : (y 1).val < 512 := (y 1).isLt; omega⟩ : Fin 8) (y 0).val 0 (⟨(y 1).val % 64, by omega⟩ : Fin 64)

theorem nearA_at {i : ℕ} (hi : i < 64) (r : Fin 256) (e : Fin 512) :
    nearA Q K V (ix2 ⟨256 * i + r.val, in256 hi r⟩ e)
      = acc Q K V (⟨e.val / 64, by omega⟩ : Fin 8) (256 * i + r.val) (256 * (i - 1)) (⟨e.val % 64, by omega⟩ : Fin 64) := by
  have hr := r.isLt
  show acc Q K V _ (256 * i + r.val) (256 * ((256 * i + r.val) / 256 - 1)) _ = _
  rw [show (256 * i + r.val) / 256 = i by omega]
  rfl
theorem nearC_at {i : ℕ} (hi : i < 64) (r : Fin 256) (h : Fin 8) :
    nearC Q K (ix2 ⟨256 * i + r.val, in256 hi r⟩ h) = rest Q K h (256 * i + r.val) (256 * (i - 1)) := by
  have hr := r.isLt
  show rest Q K h (256 * i + r.val) (256 * ((256 * i + r.val) / 256 - 1)) = _
  rw [show (256 * i + r.val) / 256 = i by omega]

/-- A point takes its row one block further. -/
theorem rowStep0 (W : Valuation τ sig (Elt Ideal)) (c : Dev nD) (hI : Ins Q K V W) (t : Fin grid0.N) (s : St Ideal)
    (hs : Row Q K V (lit0 ⟨t.val, t.isLt.trans_eq N_0⟩).toNat ((lit1 ⟨t.val, t.isLt.trans_eq N_0⟩).toNat + 1) s) :
    Row Q K V (lit0 ⟨t.val, t.isLt.trans_eq N_0⟩).toNat (lit1 ⟨t.val, t.isLt.trans_eq N_0⟩).toNat
      (comp (lit0 ⟨t.val, t.isLt.trans_eq N_0⟩) (lit1 ⟨t.val, t.isLt.trans_eq N_0⟩) (bk0 W c 0 t) (bk0 W c 1 t) (bk0 W c 2 t) (bk0 W c 3 t) s) :=
  row_step Q K V _ _ (lit0_lt _) (lit1_lt _) _ _ (word_nat _) (word_nat _) _ _ _ _ s
    (fun h r d => (blk0_0 W c t h r d).trans ((congrFun hI.q _).trans (nat3_at Q h _ _ d).symm))
    (fun h r d => (blk0_1 W c t h r d).trans ((congrFun hI.k _).trans (nat3_at K h _ _ d).symm))
    (fun h r d => (blk0_2 W c t h r d).trans ((congrFun hI.v _).trans (nat3_at V h _ _ d).symm))
    (fun r s => (blk0_3 W c t r s).trans (hI.T r s)) hs

/-- A point takes its row one block further. -/
theorem rowStep1 (W : Valuation τ sig (Elt Ideal)) (c : Dev nD) (hI : Ins Q K V W) (t : Fin grid1.N) (s : St Ideal)
    (hs : Row Q K V (lit4 ⟨t.val, t.isLt.trans_eq N_1⟩).toNat ((lit5 ⟨t.val, t.isLt.trans_eq N_1⟩).toNat + 1) s) :
    Row Q K V (lit4 ⟨t.val, t.isLt.trans_eq N_1⟩).toNat (lit5 ⟨t.val, t.isLt.trans_eq N_1⟩).toNat
      (comp (lit4 ⟨t.val, t.isLt.trans_eq N_1⟩) (lit5 ⟨t.val, t.isLt.trans_eq N_1⟩) (bk1 W c 0 t) (bk1 W c 1 t) (bk1 W c 2 t) (bk1 W c 3 t) s) :=
  row_step Q K V _ _ (lit4_lt _) (lit5_lt _) _ _ (word_nat _) (word_nat _) _ _ _ _ s
    (fun h r d => (blk1_0 W c t h r d).trans ((congrFun hI.q _).trans (nat3_at Q h _ _ d).symm))
    (fun h r d => (blk1_1 W c t h r d).trans ((congrFun hI.k _).trans (nat3_at K h _ _ d).symm))
    (fun h r d => (blk1_2 W c t h r d).trans ((congrFun hI.v _).trans (nat3_at V h _ _ d).symm))
    (fun r s => (blk1_3 W c t r s).trans (hI.T r s)) hs

/-- The rows of the near region, point by point. -/
theorem near_rows (W : Valuation τ sig (Elt Ideal)) (c : Dev nD) (hI : Ins Q K V W) (n : ℕ) :
    ∀ (hn : n < 127), Row Q K V (lit0 ⟨n, hn⟩).toNat (lit1 ⟨n, hn⟩).toNat (st0 W c (n + 1)) := by
  induction n using Nat.strong_induction_on with
  | _ n ih =>
    intro hn
    have hN : n < grid0.N := hn.trans_eq N_0.symm
    rw [show st0 W c (n + 1) = _ from dif_pos hN]
    unfold stepAt
    refine rowStep0 Q K V W c hI ⟨n, hN⟩ _ ?_
    by_cases hf : lit2 ⟨n, hn⟩ = 1#32
    · rw [if_pos hf, near_first _ hf]
      exact row_init Q K V _
    · rw [if_neg hf]
      obtain ⟨h0, e0, e1⟩ := near_next _ hf
      have h0' : 0 < n := h0
      have hp := ih (n - 1) (by omega) (by omega)
      rw [show n - 1 + 1 = n by omega] at hp
      have e0' : lit0 ⟨n - 1, by omega⟩ = lit0 ⟨n, hn⟩ := e0
      have e1' : (lit1 ⟨n - 1, by omega⟩).toNat = (lit1 ⟨n, hn⟩).toNat + 1 := e1
      rw [e0', e1'] at hp
      exact hp

theorem far_init (W : Valuation τ sig (Elt Ideal)) (c : Dev nD) (t : Fin grid1.N)
    (hA : (show S16384x512.Idx → EReal from W (Proc.devRef .tc main_v8_0)) = nearA Q K V)
    (hC : (show S16384x8.Idx → EReal from W (Proc.devRef .tc main_v8_1)) = nearC Q K) :
    Row Q K V (lit4 ⟨t.val, t.isLt.trans_eq N_1⟩).toNat ((lit4 ⟨t.val, t.isLt.trans_eq N_1⟩).toNat - 1) (farInit (F := Ideal) (bk1 W c 4 t) (bk1 W c 5 t)) where
  C h r := by
    show (show S256x8.Idx → EReal from bk1 W c 5 t) (ValueIdx.ix2 r h) = _
    rw [vix2]
    exact (blk1_5 W c t r h).trans ((congrFun hC _).trans (nearC_at Q K (lit4_lt _) r h))
  A h r d := by
    have hh := h.isLt
    have hd := d.isLt
    show (show S256x512.Idx → EReal from bk1 W c 4 t) (ValueIdx.ix2 r (⟨64 * h.val + d.val, by omega⟩ : Fin 512)) = _
    rw [vix2]
    refine (blk1_4 W c t r _).trans ((congrFun hA _).trans ((nearA_at Q K V (lit4_lt _) r _).trans ?_))
    rw [show (⟨(⟨64 * h.val + d.val, by omega⟩ : Fin 512).val / 64, by simp only; omega⟩ : Fin 8) = h from Fin.ext (by simp only; omega),
      show (⟨(⟨64 * h.val + d.val, by omega⟩ : Fin 512).val % 64, by omega⟩ : Fin 64) = d from Fin.ext (by simp only; omega)]
  D := by
    dsimp only [farInit]
    rw [hD_at]

/-- The rows of the far region, point by point. -/
theorem far_rows (W : Valuation τ sig (Elt Ideal)) (c : Dev nD) (hI : Ins Q K V W)
    (hA : (show S16384x512.Idx → EReal from W (Proc.devRef .tc main_v8_0)) = nearA Q K V)
    (hC : (show S16384x8.Idx → EReal from W (Proc.devRef .tc main_v8_1)) = nearC Q K) (n : ℕ) :
    ∀ (hn : n < 1953), Row Q K V (lit4 ⟨n, hn⟩).toNat (lit5 ⟨n, hn⟩).toNat (st1 W c (n + 1)) := by
  induction n using Nat.strong_induction_on with
  | _ n ih =>
    intro hn
    have hN : n < grid1.N := hn.trans_eq N_1.symm
    rw [show st1 W c (n + 1) = _ from dif_pos hN]
    unfold stepAt
    refine rowStep1 Q K V W c hI ⟨n, hN⟩ _ ?_
    by_cases hf : lit6 ⟨n, hn⟩ = 1#32
    · rw [if_pos hf]
      have e := far_first _ hf
      have hi := far_init Q K V W c ⟨n, hN⟩ hA hC
      rw [show (lit4 ⟨n, hn⟩).toNat - 1 = (lit5 ⟨n, hn⟩).toNat + 1 by omega] at hi
      exact hi
    · rw [if_neg hf]
      obtain ⟨h0, e0, e1⟩ := far_next _ hf
      have h0' : 0 < n := h0
      have hp := ih (n - 1) (by omega) (by omega)
      rw [show n - 1 + 1 = n by omega] at hp
      have e0' : lit4 ⟨n - 1, by omega⟩ = lit4 ⟨n, hn⟩ := e0
      have e1' : (lit5 ⟨n - 1, by omega⟩).toNat = (lit5 ⟨n, hn⟩).toNat + 1 := e1
      rw [e0', e1'] at hp
      exact hp

theorem near_acc (W : Valuation τ sig (Elt Ideal)) (c : Dev nD) (hI : Ins Q K V W) :
    (show S16384x512.Idx → EReal from (dat0 W c).arrAt 4 (cfg0 (adm0 (F := Ideal))).N) = nearA Q K V := by
  refine (dat0 W c).arrAt_eq_of_cover 4 (nearA Q K V) (fun t hf => ?_) (fun y => ?_)
  · rw [flush0_4] at hf
    have hl := of_decide_eq_true hf
    have hR := near_rows Q K V W c hI t.val (t.isLt.trans_eq N_0)
    rw [near_last _ hl] at hR
    funext y
    obtain ⟨r, e, rfl⟩ : ∃ (r : Fin 256) (e : Fin 512), y = (show S256x512.Idx from ix2 r e) := ⟨y 0, y 1, eq_ix2 (show S256x512.Idx from y)⟩
    refine Eq.trans ?_ (congrArg (nearA Q K V) (emb0_4 t r e)).symm
    refine Eq.trans ?_ (nearA_at Q K V (lit0_lt _) r e).symm
    show (st0 W c (t.val + 1)).A (ValueIdx.ix3 (⟨e.val / 64, _⟩ : Fin 8) r (⟨e.val % 64, _⟩ : Fin 64)) = _
    rw [vix3, hR.A]
  · obtain ⟨a, e, rfl⟩ : ∃ (a : Fin 16384) (e : Fin 512), y = (show S16384x512.Idx from ix2 a e) := ⟨y 0, y 1, eq_ix2 (show S16384x512.Idx from y)⟩
    have ha := a.isLt
    obtain ⟨hl, hi⟩ := near_cover ⟨a.val / 256, by omega⟩
    refine ⟨⟨2 * (a.val / 256), lt_of_lt_of_eq (by omega) N_0.symm⟩, ?_, ?_⟩
    · rw [flush0_4]
      exact decide_eq_true hl
    · have he := emb0_4 ⟨2 * (a.val / 256), lt_of_lt_of_eq (by omega) N_0.symm⟩ (⟨a.val % 256, by omega⟩ : Fin 256) e
      have hp : (ix2 (⟨256 * (lit0 ⟨2 * (a.val / 256), by omega⟩).toNat + a.val % 256, in256 (lit0_lt _) ⟨a.val % 256, by omega⟩⟩ : Fin 16384) e : S16384x512.Idx) = ix2 a e := by
        refine congrArg (fun x : Fin 16384 => (ix2 x e : S16384x512.Idx)) (Fin.ext ?_)
        show 256 * (lit0 ⟨2 * (a.val / 256), _⟩).toNat + a.val % 256 = a.val
        rw [hi]
        show 256 * (a.val / 256) + a.val % 256 = a.val
        omega
      exact (he.trans hp) ▸ View.emb_mem_set _ _

theorem near_carry (W : Valuation τ sig (Elt Ideal)) (c : Dev nD) (hI : Ins Q K V W) :
    (show S16384x8.Idx → EReal from (dat0 W c).arrAt 5 (cfg0 (adm0 (F := Ideal))).N) = nearC Q K := by
  refine (dat0 W c).arrAt_eq_of_cover 5 (nearC Q K) (fun t hf => ?_) (fun y => ?_)
  · rw [flush0_5] at hf
    have hl := of_decide_eq_true hf
    have hR := near_rows Q K V W c hI t.val (t.isLt.trans_eq N_0)
    rw [near_last _ hl] at hR
    funext y
    obtain ⟨r, e, rfl⟩ : ∃ (r : Fin 256) (e : Fin 8), y = (show S256x8.Idx from ix2 r e) := ⟨y 0, y 1, eq_ix2 (show S256x8.Idx from y)⟩
    refine Eq.trans ?_ (congrArg (nearC Q K) (emb0_5 t r e)).symm
    refine Eq.trans ?_ (nearC_at Q K (lit0_lt _) r e).symm
    show (st0 W c (t.val + 1)).C (ValueIdx.ix3 e r 0) = _
    rw [vix3, hR.C]
  · obtain ⟨a, e, rfl⟩ : ∃ (a : Fin 16384) (e : Fin 8), y = (show S16384x8.Idx from ix2 a e) := ⟨y 0, y 1, eq_ix2 (show S16384x8.Idx from y)⟩
    have ha := a.isLt
    obtain ⟨hl, hi⟩ := near_cover ⟨a.val / 256, by omega⟩
    refine ⟨⟨2 * (a.val / 256), lt_of_lt_of_eq (by omega) N_0.symm⟩, ?_, ?_⟩
    · rw [flush0_5]
      exact decide_eq_true hl
    · have he := emb0_5 ⟨2 * (a.val / 256), lt_of_lt_of_eq (by omega) N_0.symm⟩ (⟨a.val % 256, by omega⟩ : Fin 256) e
      have hp : (ix2 (⟨256 * (lit0 ⟨2 * (a.val / 256), by omega⟩).toNat + a.val % 256, in256 (lit0_lt _) ⟨a.val % 256, by omega⟩⟩ : Fin 16384) e : S16384x8.Idx) = ix2 a e := by
        refine congrArg (fun x : Fin 16384 => (ix2 x e : S16384x8.Idx)) (Fin.ext ?_)
        show 256 * (lit0 ⟨2 * (a.val / 256), _⟩).toNat + a.val % 256 = a.val
        rw [hi]
        show 256 * (a.val / 256) + a.val % 256 = a.val
        omega
      exact (he.trans hp) ▸ View.emb_mem_set _ _

theorem far_acc (W : Valuation τ sig (Elt Ideal)) (c : Dev nD) (hI : Ins Q K V W)
    (hA : (show S16384x512.Idx → EReal from W (Proc.devRef .tc main_v8_0)) = nearA Q K V)
    (hC : (show S16384x8.Idx → EReal from W (Proc.devRef .tc main_v8_1)) = nearC Q K)
    (h9 : (show S16384x512.Idx → EReal from W (Proc.devRef .tc main_v9_0)) = nearA Q K V) :
    (show S16384x512.Idx → EReal from (dat1 W c).arrAt 6 (cfg1 (adm1 (F := Ideal))).N) = farA Q K V := by
  funext y
  refine ((dat1 W c).arrAt_eq_piecewise 6 (farA Q K V) (fun t hf => ?_) y).trans ?_
  · rw [flush1_6] at hf
    have hl := of_decide_eq_true hf
    have hR := far_rows Q K V W c hI hA hC t.val (t.isLt.trans_eq N_1)
    rw [far_last _ hl] at hR
    funext y
    obtain ⟨r, e, rfl⟩ : ∃ (r : Fin 256) (e : Fin 512), y = (show S256x512.Idx from ix2 r e) := ⟨y 0, y 1, eq_ix2 (show S256x512.Idx from y)⟩
    refine Eq.trans ?_ (congrArg (farA Q K V) (emb1_6 t r e)).symm
    show (st1 W c (t.val + 1)).A (ValueIdx.ix3 (⟨e.val / 64, _⟩ : Fin 8) r (⟨e.val % 64, _⟩ : Fin 64)) = _
    rw [vix3, hR.A]
    rfl
  · split
    · rfl
    · rename_i hn
      refine (congrFun h9 y).trans ?_
      obtain ⟨a, e, rfl⟩ : ∃ (a : Fin 16384) (e : Fin 512), y = (show S16384x512.Idx from ix2 a e) := ⟨y 0, y 1, eq_ix2 (show S16384x512.Idx from y)⟩
      have ha := a.isLt
      have h2 : a.val / 256 < 2 := by
        by_contra h2
        refine hn ?_
        have hb : (a.val / 256 - 2 + 2) * (a.val / 256 - 2 + 1) ≤ 63 * 62 := Nat.mul_le_mul (by omega) (by omega)
        obtain ⟨hl, hi⟩ := far_cover ⟨a.val / 256 - 2, by omega⟩
        refine ⟨⟨(a.val / 256 - 2 + 2) * (a.val / 256 - 2 + 1) / 2 - 1, lt_of_lt_of_eq (by omega) N_1.symm⟩, ?_, ?_⟩
        · rw [flush1_6]
          exact decide_eq_true hl
        · have he := emb1_6 ⟨(a.val / 256 - 2 + 2) * (a.val / 256 - 2 + 1) / 2 - 1, lt_of_lt_of_eq (by omega) N_1.symm⟩ (⟨a.val % 256, by omega⟩ : Fin 256) e
          have hp : (ix2 (⟨256 * (lit4 ⟨(a.val / 256 - 2 + 2) * (a.val / 256 - 2 + 1) / 2 - 1, by omega⟩).toNat + a.val % 256, in256 (lit4_lt _) ⟨a.val % 256, by omega⟩⟩ : Fin 16384) e : S16384x512.Idx) = ix2 a e := by
            refine congrArg (fun x : Fin 16384 => (ix2 x e : S16384x512.Idx)) (Fin.ext ?_)
            show 256 * (lit4 ⟨(a.val / 256 - 2 + 2) * (a.val / 256 - 2 + 1) / 2 - 1, _⟩).toNat + a.val % 256 = a.val
            rw [hi]
            show 256 * (a.val / 256 - 2 + 2) + a.val % 256 = a.val
            omega
          exact (he.trans hp) ▸ View.emb_mem_set _ _
      show acc Q K V _ a.val (256 * (a.val / 256 - 1)) _ = acc Q K V _ a.val 0 _
      rw [show a.val / 256 - 1 = 0 by omega]

end

end Cert.KernelIdeal.Stick

end
-- ==== Proof.ValRun.lean ====
module

public import proofs.«01_k».proof.Proof.ValArr
public import proofs.«01_k».proof.Proof.Run

@[expose] public section

set_option maxRecDepth 16384

noncomputable section

namespace Cert.KernelIdeal.Stick

open Cert.KernelIdeal Cert.KernelIdeal.Gen
open Idealize.ShloMosaic Idealize.ShloMosaic.TcCoe Finset
open Idealize.ShloMosaic.Pipeline (Dat)

/-! What the whole program leaves in its result. -/

section

variable (Q K V : S8x16384x64.Idx → EReal)
variable (m : (ℓ : Loc nD τ sig) → Buf (Elt Ideal) ℓ) (c : Dev nD)

theorem word_lt (a b : ℕ) (ha : a < 256) (hb : b < 256) :
    (IntOp.cmpi .sgt (BitVec.ofNat 32 a) (BitVec.ofNat 32 b) = 1#1) ↔ b < a := by
  have n : ∀ a : ℕ, a < 256 → (BitVec.ofNat 32 a).toInt = (a : ℤ) := by
    intro a ha
    rw [BitVec.toInt_eq_toNat_of_lt (by rw [BitVec.toNat_ofNat]; omega), BitVec.toNat_ofNat, Nat.mod_eq_of_lt (by omega)]
  show BitVec.ofBool (BitVec.slt (BitVec.ofNat 32 b) (BitVec.ofNat 32 a)) = 1#1 ↔ _
  rw [show (BitVec.ofBool (BitVec.slt (BitVec.ofNat 32 b) (BitVec.ofNat 32 a)) = 1#1)
    ↔ BitVec.slt (BitVec.ofNat 32 b) (BitVec.ofNat 32 a) = true by
      cases BitVec.slt (BitVec.ofNat 32 b) (BitVec.ofNat 32 a) <;> decide]
  rw [BitVec.slt_iff_toInt_lt, n _ ha, n _ hb]
  omega

theorem eq_zero_of_ne_one {x : BitVec 1} (h : ¬ x = 1#1) : x = 0#1 := by
  revert h; revert x; decide

/-- The triangle the host makes. -/
theorem tri_at (r s : Fin 256) :
    (show S256x256.Idx → EReal from V1 m c (Proc.devRef .tc main_v7)) (ix2 r s) = if s.val < r.val then 1 else 0 := by
  show (show S256x256.Idx → EReal from V1 m c main_v7) (ix2 r s) = _
  after_results
  pointwise
  have hw := word_lt r.val s.val r.isLt s.isLt
  by_cases hlt : s.val < r.val
  · rw [if_pos hlt, hw.mpr hlt]
    exact Nat.cast_one
  · rw [if_neg hlt, eq_zero_of_ne_one fun hc => hlt (hw.mp hc)]
    exact Nat.cast_zero

structure Start : Prop where
  q : (show S8x16384x64.Idx → EReal from m ((c.tc : Thread nD τ).loc main_arg0)) = Q
  k : (show S8x16384x64.Idx → EReal from m ((c.tc : Thread nD τ).loc main_arg1)) = K
  v : (show S8x16384x64.Idx → EReal from m ((c.tc : Thread nD τ).loc main_arg2)) = V

theorem ins_1 (h : Start Q K V m c) : Ins Q K V (V1 m c) where
  q := (V1_of m c main_arg0 (by decide)).trans h.q
  k := (V1_of m c main_arg1 (by decide)).trans h.k
  v := (V1_of m c main_arg2 (by decide)).trans h.v
  T := tri_at m c

theorem ins_3 (h : Start Q K V m c) : Ins Q K V (V3 m (outs1 m) c) where
  q := (V3_of m (outs1 m) c main_arg0 (by decide)).trans ((V2_of m (outs1 m) c main_arg0 (by decide)).trans (ins_1 Q K V m c h).q)
  k := (V3_of m (outs1 m) c main_arg1 (by decide)).trans ((V2_of m (outs1 m) c main_arg1 (by decide)).trans (ins_1 Q K V m c h).k)
  v := (V3_of m (outs1 m) c main_arg2 (by decide)).trans ((V2_of m (outs1 m) c main_arg2 (by decide)).trans (ins_1 Q K V m c h).v)
  T r s := (congrFun ((V3_of m (outs1 m) c main_v7 (by decide)).trans (V2_of m (outs1 m) c main_v7 (by decide))) (ix2 r s)).trans (tri_at m c r s)

theorem mid_0 (h : Start Q K V m c) : (show S16384x512.Idx → EReal from V2 m (outs1 m) c (Proc.devRef .tc main_v8_0)) = nearA Q K V := by
  have e : V2 m (outs1 m) c (Proc.devRef .tc main_v8_0) = outs1 m 2 main_v8_0 c :=
    (Function.update_of_ne (StableHlo.devRef_ne_of_ne (by decide)) _ _).trans (Function.update_self _ _ _)
  exact e.trans ((Pipeline.afterRegion_arr (dat0 (V1 m c) c) (V1 m c) (launch0 (F := Ideal)).win.arr_inj 4).trans (near_acc Q K V (V1 m c) c (ins_1 Q K V m c h)))

theorem mid_1 (h : Start Q K V m c) : (show S16384x8.Idx → EReal from V2 m (outs1 m) c (Proc.devRef .tc main_v8_1)) = nearC Q K := by
  have e : V2 m (outs1 m) c (Proc.devRef .tc main_v8_1) = outs1 m 2 main_v8_1 c := Function.update_self _ _ _
  exact e.trans ((Pipeline.afterRegion_arr (dat0 (V1 m c) c) (V1 m c) (launch0 (F := Ideal)).win.arr_inj 5).trans (near_carry Q K V (V1 m c) c (ins_1 Q K V m c h)))

theorem copy_0 : V3 m (outs1 m) c main_v9_0 = V2 m (outs1 m) c main_v8_0 := by
  after_results
  rfl

/-- The result holds the whole sums. -/
theorem result (h : Start Q K V m c) : (show S16384x512.Idx → EReal from V4 m (outs m) c (Proc.devRef .tc main_v9_0)) = farA Q K V := by
  have e : V4 m (outs m) c (Proc.devRef .tc main_v9_0) = outs m 4 main_v9_0 c :=
    (Function.update_of_ne (StableHlo.devRef_ne_of_ne (by decide)) _ _).trans (Function.update_self _ _ _)
  refine e.trans ((Pipeline.afterRegion_arr (dat1 (V3 m (outs1 m) c) c) (V3 m (outs1 m) c) (launch1 (F := Ideal)).win.arr_inj 6).trans
    (far_acc Q K V (V3 m (outs1 m) c) c (ins_3 Q K V m c h) ?_ ?_ ?_))
  · exact (V3_of m (outs1 m) c main_v8_0 (by decide)).trans (mid_0 Q K V m c h)
  · exact (V3_of m (outs1 m) c main_v8_1 (by decide)).trans (mid_1 Q K V m c h)
  · exact (copy_0 m c).trans (mid_0 Q K V m c h)

end

end Cert.KernelIdeal.Stick

end
-- ==== Proof.ValSum.lean ====
module

public import proofs.«01_k».proof.Proof.ValRow
public import proofs.«01_k».proof.Proof.Gen.ReferenceIdeal.Read

@[expose] public section

set_option maxRecDepth 16384

noncomputable section

namespace Cert.ReferenceIdeal.Stick

open Cert.ReferenceIdeal Cert.ReferenceIdeal.Gen
open Idealize.ShloMosaic Finset

/-! The reference's running sum from the end, and its scalar arithmetic. -/

/-- A fold of additions is a sum. -/
theorem foldl_sum {n : ℕ} (f : Fin n → EReal) (l : List (Fin n)) (v : EReal) :
    l.foldl (fun r i => r + f i) v = v + (l.map f).sum := by
  induction l generalizing v with
  | nil => simp
  | cons a l ih => rw [List.foldl_cons, ih, List.map_cons, List.sum_cons, add_assoc]

/-- A window sum is the initial value and the sum of the positions. -/
theorem window_sum {s t u : Shape} (window strides lo hi : Fin s.rank → ℕ) (x : FVec Ideal s .f32) (init : FVec Ideal u .f32)
    (h : s.ReduceWindows window strides lo hi t) (hu : 0 < u.numel) (j : t.Idx) :
    Host.reduceWindowAdd (F := Ideal) window strides lo hi x init h hu j = init (Shape.Idx.first hu)
      + ∑ n : Fin (⟨s.rank, window⟩ : Shape).numel,
        (if hin : ∀ a : Fin s.rank, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else init (Shape.Idx.first hu)) := by
  rw [Fin.sum_univ_def, ← foldl_sum]
  show Host.reduceWindow (α := EReal) (· + ·) window strides lo hi x (fun _ : (⟨0, ![]⟩ : Shape).Idx => init (Shape.Idx.first hu)) h (by decide) j = _
  unfold Host.reduceWindow
  refine congrArg (fun g : EReal → Fin (⟨s.rank, window⟩ : Shape).numel → EReal => List.foldl g (init (Shape.Idx.first hu)) (List.finRange (⟨s.rank, window⟩ : Shape).numel))
    (funext fun v => funext fun n => congrArg (fun y => v + y) ?_)
  exact dite_congr rfl (fun _ => rfl) (fun _ => rfl)

/-- The window of one head, one row and every column. -/
abbrev Win : Shape := ⟨3, ![1, 1, 16384]⟩

theorem win_numel : Win.numel = 16384 := (Fin.prod_univ_three (![1, 1, 16384] : Fin 3 → ℕ)).trans (Nat.mul_comm (1 * 1) 16384 |>.trans (Nat.mul_one _))

theorem win_0 (n : Fin Win.numel) : (Win.rowMajor.symm n 0).val = 0 := by
  have h : (Win.rowMajor.symm n 0).val < 1 := (Win.rowMajor.symm n 0).isLt
  omega
theorem win_1 (n : Fin Win.numel) : (Win.rowMajor.symm n 1).val = 0 := by
  have h : (Win.rowMajor.symm n 1).val < 1 := (Win.rowMajor.symm n 1).isLt
  omega
theorem win_2 (n : Fin Win.numel) : (Win.rowMajor.symm n 2).val = n.val := by
  have h := Shape.rowMajor_val_three (Win.rowMajor.symm n)
  rw [Equiv.apply_symm_apply, win_0, win_1] at h
  rw [h]
  simp

/-- The sum over a window that runs off the end: what is there from the column on. -/
theorem sum_from (x : FVec Ideal S8x16384x16384 .f32) (init : FVec Ideal S_ .f32) (hi : ∀ i, init i = 0)
    (hr : S8x16384x16384.ReduceWindows ![1, 1, 16384] ![1, 1, 1] ![0, 0, 0] ![0, 0, 16383] S8x16384x16384) (hu : 0 < S_.numel)
    (h : Fin 8) (r c : Fin 16384) (f : ℕ → EReal) (hf : ∀ s : Fin 16384, x (ix3 h r s) = f s.val) :
    Host.reduceWindowAdd (F := Ideal) ![1, 1, 16384] ![1, 1, 1] ![0, 0, 0] ![0, 0, 16383] x init hr hu (ix3 h r c)
      = ∑ s ∈ Ico c.val 16384, f s := by
  have hv : init (Shape.Idx.first hu) = 0 := hi _
  have step : ∀ n : Fin Win.numel,
      (if hin : ∀ a : Fin 3, (![0, 0, 0] : Fin 3 → ℕ) a ≤ (ix3 h r c a).val * (![1, 1, 1] : Fin 3 → ℕ) a + (Win.rowMajor.symm n a).val
          ∧ (ix3 h r c a).val * (![1, 1, 1] : Fin 3 → ℕ) a + (Win.rowMajor.symm n a).val - (![0, 0, 0] : Fin 3 → ℕ) a < S8x16384x16384.size a
        then x (fun a => ⟨(ix3 h r c a).val * (![1, 1, 1] : Fin 3 → ℕ) a + (Win.rowMajor.symm n a).val - (![0, 0, 0] : Fin 3 → ℕ) a, (hin a).2⟩)
        else init (Shape.Idx.first hu)) = (if c.val + n.val < 16384 then f (c.val + n.val) else 0 : EReal) := by
    intro n
    split
    · next hin =>
      have h2 : c.val * 1 + (Win.rowMajor.symm n 2).val - 0 < 16384 := (hin 2).2
      rw [win_2] at h2
      rw [if_pos (by omega)]
      refine Eq.trans (congrArg x (funext fun a => Fin.ext ?_)) (hf ⟨c.val + n.val, by omega⟩)
      match a with
      | ⟨0, _⟩ => show h.val * 1 + (Win.rowMajor.symm n 0).val - 0 = h.val; rw [win_0]; omega
      | ⟨1, _⟩ => show r.val * 1 + (Win.rowMajor.symm n 1).val - 0 = r.val; rw [win_1]; omega
      | ⟨2, _⟩ => show c.val * 1 + (Win.rowMajor.symm n 2).val - 0 = c.val + n.val; rw [win_2]; omega
    · next hin =>
      rw [if_neg fun hlt => hin fun a => by
        match a with
        | ⟨0, _⟩ =>
          show 0 ≤ h.val * 1 + (Win.rowMajor.symm n 0).val ∧ h.val * 1 + (Win.rowMajor.symm n 0).val - 0 < 8
          rw [win_0]; have := h.isLt; omega
        | ⟨1, _⟩ =>
          show 0 ≤ r.val * 1 + (Win.rowMajor.symm n 1).val ∧ r.val * 1 + (Win.rowMajor.symm n 1).val - 0 < 16384
          rw [win_1]; have := r.isLt; omega
        | ⟨2, _⟩ =>
          show 0 ≤ c.val * 1 + (Win.rowMajor.symm n 2).val ∧ c.val * 1 + (Win.rowMajor.symm n 2).val - 0 < 16384
          rw [win_2]; omega, hv]
  refine (window_sum _ _ _ _ x init hr hu (ix3 h r c)).trans ?_
  rw [hv, zero_add]
  refine (Finset.sum_congr rfl fun n _ => ?_ : _ = ∑ n : Fin Win.numel, (if c.val + n.val < 16384 then f (c.val + n.val) else 0 : EReal)).trans ?_
  · rw [← step n, hv]
    rfl
  rw [Fin.sum_univ_eq_sum_range (fun n => if c.val + n < 16384 then f (c.val + n) else 0), win_numel, ← Finset.sum_filter,
    Finset.sum_Ico_eq_sum_range]
  refine Finset.sum_congr ?_ fun _ _ => rfl
  ext s
  simp only [Finset.mem_filter, Finset.mem_range]
  omega

/-- The softplus the reference computes, at a score. -/
theorem soft_host (x y : EReal) (hy : y = x) :
    Scalar.select (FloatOps.cmpf (F := Ideal) (φ := .f32) .une (FloatOps.subf (F := Ideal) (φ := .f32) y (FloatOps.ofBits .f32 0x00000000#32)) (FloatOps.subf (F := Ideal) (φ := .f32) y (FloatOps.ofBits .f32 0x00000000#32)))
      (FloatOps.addf (F := Ideal) (φ := .f32) y (FloatOps.ofBits .f32 0x00000000#32))
      (FloatOps.addf (F := Ideal) (φ := .f32) (FloatOps.maximumf (F := Ideal) (φ := .f32) y (FloatOps.ofBits .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) y (FloatOps.ofBits .f32 0x00000000#32)))))))
      = Cert.KernelIdeal.Stick.spl x := by
  subst hy
  have h0 : (FloatOps.ofBits (F := Ideal) .f32 0x00000000#32 : EReal) = 0 := Ideal.ofBits_zero_f32
  rw [h0]
  show (if (BitVec.ofBool (decide (y - 0 ≠ y - 0))) = 1#1 then y + 0 else max y 0
    + Ideal.log1p (Ideal.exp (-(max (y - 0) (-(y - 0)))))) = _
  rw [if_neg (by simp), sub_zero]
  rfl

end Cert.ReferenceIdeal.Stick

end
-- ==== Proof.ValRef.lean ====
module

public import proofs.«01_k».proof.Proof.ValSum
public import proofs.«01_k».proof.Proof.ValArr

@[expose] public section

set_option maxRecDepth 16384

noncomputable section

namespace Cert.ReferenceIdeal.Stick

open Cert.ReferenceIdeal Cert.ReferenceIdeal.Gen Cert.ReferenceIdeal.Read
open Cert.KernelIdeal.Stick (nat3 nat3_at spl two_ways zr lg rest wr acc farA sum_tile)
open Idealize.ShloMosaic Finset

/-! The reference, read at an index, is the weighted sum. -/

/-- An array as an argument. -/
def arr (Q : S8x16384x64.Idx → EReal) : (⟨S8x16384x64, .bf16⟩ : BufTy).Contents (Elt Ideal) := Q

theorem slt_nat (a b : ℕ) (ha : a < 16384) (hb : b < 16384) :
    IntOp.cmpi .slt (BitVec.ofNat 32 a) (BitVec.ofNat 32 b) = 1#1 ↔ a < b := by
  have n : ∀ a : ℕ, a < 16384 → (BitVec.ofNat 32 a).toInt = (a : ℤ) := by
    intro a ha
    rw [BitVec.toInt_eq_toNat_of_lt (by rw [BitVec.toNat_ofNat]; omega), BitVec.toNat_ofNat, Nat.mod_eq_of_lt (by omega)]
  show BitVec.ofBool (BitVec.slt _ _) = 1#1 ↔ _
  rw [show (BitVec.ofBool (BitVec.slt (BitVec.ofNat 32 a) (BitVec.ofNat 32 b)) = 1#1)
    ↔ BitVec.slt (BitVec.ofNat 32 a) (BitVec.ofNat 32 b) = true by
      cases BitVec.slt (BitVec.ofNat 32 a) (BitVec.ofNat 32 b) <;> decide]
  rw [BitVec.slt_iff_toInt_lt, n _ ha, n _ hb]
  omega

theorem mask_at (i : S16384x16384.Idx) (hr : (i 0).val < 16384) (hs : (i 1).val < 16384) :
    val_main_v9 (F := Ideal) i = 1#1 ↔ (i 1).val < (i 0).val := by
  rw [val_main_v9_apply, val_main_v7_apply, val_main_v8_apply, val_main_v5_apply, val_main_v6_apply, val_main_v3_apply, val_main_v3_apply]
  exact slt_nat _ _ hs hr

section

variable (Q K V : S8x16384x64.Idx → EReal) (h : Fin 8) (r s : Fin 16384)

theorem z_at : val_main_v4 (F := Ideal) (arr Q) (arr K) (ix3 h r s) = zr Q K h r.val s.val := by
  rw [val_main_v4_apply, zr]
  refine Finset.sum_congr rfl fun d _ => ?_
  rw [nat3_at Q h _ r.isLt, nat3_at K h _ s.isLt]
  have e1 : lidx_main_v4 (ix3 h r s) d = ix3 h r d := funext fun a => match a with
    | ⟨0, _⟩ => rfl
    | ⟨1, _⟩ => rfl
    | ⟨2, _⟩ => rfl
  have e2 : ridx_main_v4 (ix3 h r s) d = ix3 h s d := funext fun a => match a with
    | ⟨0, _⟩ => rfl
    | ⟨1, _⟩ => rfl
    | ⟨2, _⟩ => rfl
  rw [e1, e2]
  rfl

theorem lsm_at : val_main_v12 (F := Ideal) (arr Q) (arr K) (ix3 h r s) = -(spl (zr Q K h r.val s.val)) := by
  have hy : val_main_call0_v0 (F := Ideal) (arr Q) (arr K) (ix3 h r s) = zr Q K h r.val s.val := by
    rw [val_main_call0_v0_apply, val_main_v11_apply, z_at]
    show -(-(zr Q K h r.val s.val)) = _
    rw [neg_neg]
  have e := soft_host _ _ hy
  rw [val_main_v12_apply, ← e]
  rfl

theorem ls_at : val_main_v16 (F := Ideal) (arr Q) (arr K) (ix3 h r s) = -(spl (-(zr Q K h r.val s.val))) := by
  have hy : val_main_call3_v0 (F := Ideal) (arr Q) (arr K) (ix3 h r s) = -(zr Q K h r.val s.val) := by
    rw [val_main_call3_v0_apply, z_at]
    rfl
  have e := soft_host _ _ hy
  rw [val_main_v16_apply, ← e]
  rfl

theorem select_at {α : Type} (m : BitVec 1) (a b : α) : Scalar.select m a b = if m = 1#1 then a else b := rfl

theorem lg_at : val_main_v13 (F := Ideal) (arr Q) (arr K) (ix3 h r s) = lg Q K h r.val s.val := by
  rw [val_main_v13_apply, select_at, val_main_call1_v1_apply, val_main_v10_apply, lsm_at, lg]
  have hm := mask_at (idx_main_v10 (idx_main_call1_v1 (ix3 h r s))) r.isLt s.isLt
  by_cases hlt : s.val < r.val
  · rw [if_pos (hm.mpr hlt), if_pos hlt]
  · rw [if_neg fun hc => hlt (hm.mp hc), if_neg hlt]
    exact Ideal.ofBits_zero_f32

theorem sum_at : val_main_v14 (F := Ideal) (arr Q) (arr K) (ix3 h r s) = rest Q K h r.val s.val :=
  sum_from _ _ (fun _ => Ideal.ofBits_zero_f32) _ _ h r s (lg Q K h r.val) fun c => lg_at Q K h r c

theorem rest_succ : rest Q K h r.val s.val = lg Q K h r.val s.val + rest Q K h r.val (s.val + 1) := by
  unfold rest
  rw [Finset.sum_eq_sum_Ico_succ_bot s.isLt]

theorem w_at : val_main_v19 (F := Ideal) (arr Q) (arr K) (ix3 h r s) = wr Q K h r.val s.val := by
  rw [val_main_v19_apply, select_at, val_main_call4_v1_apply, val_main_v10_apply, wr]
  have hm := mask_at (idx_main_v10 (idx_main_call4_v1 (ix3 h r s))) r.isLt s.isLt
  by_cases hlt : s.val < r.val
  · rw [if_pos (hm.mpr hlt), if_pos hlt, val_main_v18_apply, val_main_v17_apply, ls_at, val_main_v15_apply, sum_at, lg_at, rest_succ Q K h r s, lg, if_pos hlt,
      ← two_ways]
    rfl
  · rw [if_neg fun hc => hlt (hm.mp hc), if_neg hlt]
    exact Ideal.ofBits_zero_f32

/-- What the reference computes. -/
theorem out_at : val_main_v22 (F := Ideal) (arr Q) (arr K) (show (⟨S8x16384x64, .bf16⟩ : BufTy).Contents (Elt Ideal) from V) = farA Q K V := by
  funext y
  obtain ⟨a, e, rfl⟩ : ∃ (a : Fin 16384) (e : Fin 512), y = (show S16384x512.Idx from ix2 a e) := ⟨y 0, y 1, eq_ix2 (show S16384x512.Idx from y)⟩
  have ha := a.isLt
  have he := e.isLt
  rw [val_main_v22_apply, val_main_v21_apply, val_main_v20_apply]
  show _ = acc Q K V (⟨e.val / 64, _⟩ : Fin 8) a.val 0 (⟨e.val % 64, _⟩ : Fin 64)
  unfold acc
  have hs := sum_tile 16384 0 fun s => wr Q K (⟨e.val / 64, by omega⟩ : Fin 8) a.val s * nat3 V (⟨e.val / 64, by omega⟩ : Fin 8) s (⟨e.val % 64, by omega⟩ : Fin 64)
  rw [Nat.zero_add] at hs
  refine Eq.trans (Finset.sum_congr rfl fun k _ => ?_) hs
  have e1 : lidx_main_v20 (idx_main_v21 (idx_main_v22 (ix2 a e))) k = ix3 (⟨e.val / 64, by omega⟩ : Fin 8) k (⟨e.val % 64, by omega⟩ : Fin 64) :=
    funext fun x => match x with
    | ⟨0, _⟩ => Fin.ext (by show (a.val * 512 + e.val) / 64 % 8 = e.val / 64; omega)
    | ⟨1, _⟩ => rfl
    | ⟨2, _⟩ => Fin.ext (by show (a.val * 512 + e.val) % 64 = e.val % 64; omega)
  have e2 : ridx_main_v20 (idx_main_v21 (idx_main_v22 (ix2 a e))) k = ix3 (⟨e.val / 64, by omega⟩ : Fin 8) a k :=
    funext fun x => match x with
    | ⟨0, _⟩ => Fin.ext (by show (a.val * 512 + e.val) / 64 % 8 = e.val / 64; omega)
    | ⟨1, _⟩ => Fin.ext (by show (a.val * 512 + e.val) / 512 = a.val; omega)
    | ⟨2, _⟩ => rfl
  rw [e1, e2, w_at, Nat.zero_add, nat3_at V _ _ k.isLt]
  exact mul_comm _ _

end

end Cert.ReferenceIdeal.Stick

end
-- ==== Proof.Algebraic.lean ====
module

public import proofs.«01_k».proof.Defs
public import proofs.«01_k».proof.Proof.ValRun
public import proofs.«01_k».proof.Proof.ValRef
public import Idealize.ShloMosaic.Lib.Claim

@[expose] public section

set_option maxRecDepth 16384

noncomputable section

namespace Cert.Proof

open Idealize.ShloMosaic Idealize.SL.Sem

theorem congr3 {α β γ δ : Type} (f : α → β → γ → δ) {a a' : α} {b b' : β} {c c' : γ} (ha : a = a') (hb : b = b') (hc : c = c') :
    f a b c = f a' b' c' := by rw [ha, hb, hc]

/-- The kernel computes the reference's sums, of any queries, keys and values. -/
theorem algebraic : Cert.algebraic_KernelIdeal_ReferenceIdeal (hKernelIdeal := Cert.KernelIdeal.Gen.facts)
    (hReferenceIdeal := Cert.ReferenceIdeal.Gen.facts) := by
  intro m g m' g' _ hargs
  have hst : ∀ c : Dev Cert.KernelIdeal.nD, ∃ Q K V : Cert.KernelIdeal.S8x16384x64.Idx → EReal,
      Cert.KernelIdeal.Stick.Start Q K V m c := fun c => ⟨_, _, _, ⟨rfl, rfl, rfl⟩⟩
  choose Q K V hs using hst
  refine ⟨fun c => Cert.KernelIdeal.Stick.farA (Q c) (K c) (V c), ?_, ?_⟩
  · refine (θ_run _ _ _).mono (fun r h c => ⟨(h.1 c).2.trans (Cert.KernelIdeal.Stick.result (Q c) (K c) (V c) m c (hs c)), (h.1 c).1⟩)
      (Cert.KernelIdeal.Stick.run_all m g)
  · refine (θ_run _ _ _).mono (fun r h c => ⟨(h c).1.trans ?_, (h c).2⟩) (Cert.ReferenceIdeal.Value.run m' g')
    rw [Cert.ReferenceIdeal.Read.val_main_v22_eq, (hargs c).1, (hargs c).2.1, (hargs c).2.2]
    exact (congr3 (Cert.ReferenceIdeal.Read.val_main_v22 (F := Ideal)) (hs c).q (hs c).k (hs c).v).trans
      (Cert.ReferenceIdeal.Stick.out_at (Q c) (K c) (V c))

end Cert.Proof

end
-- ==== Proof.ProjFrames.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Claim

@[expose] public section

noncomputable section

namespace Cert.Proof

open Idealize.ShloMosaic Idealize.SL.Sem

/-- The projection, at the machine's floats, runs and leaves its arguments and every counter as they were. -/
theorem quiescent_Kernel2 : Cert.quiescent_Kernel2 (hKernel2 := Cert.Kernel2.Gen.facts) :=
  fun m ρ _ => Cert.Kernel2.Gen.frame m ρ

/-- The same of the projection at the exact reading. -/
theorem quiescent_Kernel2Ideal : Cert.quiescent_Kernel2Ideal (hKernel2Ideal := Cert.Kernel2Ideal.Gen.facts) :=
  fun m ρ _ => Cert.Kernel2Ideal.Gen.frame m ρ

set_option maxRecDepth 16384 in
set_option maxHeartbeats 4000000 in
/-- The plain projection runs and leaves its arguments and every counter as they were. -/
theorem quiescent_Reference2Ideal : Cert.quiescent_Reference2Ideal (hReference2Ideal := Cert.Reference2Ideal.Gen.facts) := by
  intro m g _
  exact (θ_run _ _ _).mono (fun r h => ⟨fun c => (h c).2.2.2.2.2,
    Idealize.ShloMosaic.sem_eq_zero_of_no_sems (by decide) r.2⟩) (Cert.Reference2Ideal.Value.run m g)

/-- No operation of the projection is replaced. -/
theorem preserves_Kernel2_Kernel2Ideal : Cert.preserves_Kernel2_Kernel2Ideal := trivial

end Cert.Proof

end
-- ==== Proof.ProjArr.lean ====
module

public import proofs.«01_k».proof.Proof.Gen.Kernel2Ideal.Value
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Finset
open Idealize.ShloMosaic.Pipeline (Dat)

/-! Where a block's element sits in its array. -/

theorem in512 (t : Fin cfg0.N) (r : Fin 512) : 512 * t.val + r.val < 16384 := by
  have h : t.val < 32 := t.isLt
  have := r.isLt
  omega

variable (m : (ℓ : Loc nD τ sig) → Buf (Elt Ideal) ℓ) (c : Dev nD)

theorem blk0 (t : Fin cfg0.N) (r : Fin 512) (k : Fin 1024) :
    (show S512x1024.Idx → EReal from iblk m c 0 t) (ix2 r k)
      = (show S16384x1024.Idx → EReal from V m c main_arg0) (ix2 ⟨512 * t.val + r.val, in512 t r⟩ k) := by
  refine congrArg (show S16384x1024.Idx → EReal from V m c main_arg0) (funext fun a => Fin.ext ?_)
  refine (Pipeline.Window.rect_emb_val (cfg0.win 0) t (show S512x1024.Idx from ix2 r k) a).trans ?_
  have hx : (cfg0.win 0).index t = ![t.val, 0] := (by decide +kernel : ∀ t : Fin grid0.N, win0_0.index t = ![t.val, 0]) t
  rw [hx]
  match a with
  | ⟨0, _⟩ => exact (show t.val * 512 + r.val = 512 * t.val + r.val by omega)
  | ⟨1, _⟩ => exact (show 0 * 1024 + k.val = k.val by omega)

theorem blk1 (t : Fin cfg0.N) (k : Fin 1024) (n : Fin 5504) :
    (show S1024x5504.Idx → EReal from iblk m c 1 t) (ix2 k n)
      = (show S1024x5504.Idx → EReal from V m c main_v17) (ix2 k n) := by
  refine congrArg (show S1024x5504.Idx → EReal from V m c main_v17) (funext fun a => Fin.ext ?_)
  refine (Pipeline.Window.rect_emb_val (cfg0.win 1) t (show S1024x5504.Idx from ix2 k n) a).trans ?_
  have hx : (cfg0.win 1).index t = ![0, 0] := (by decide +kernel : ∀ t : Fin grid0.N, win0_1.index t = ![0, 0]) t
  rw [hx]
  match a with
  | ⟨0, _⟩ => exact (show 0 * 1024 + k.val = k.val by omega)
  | ⟨1, _⟩ => exact (show 0 * 5504 + n.val = n.val by omega)

theorem blk2 (t : Fin cfg0.N) (p : Fin 9) (r : Fin 512) (l : Fin 128) :
    (show S9x512x128.Idx → EReal from iblk m c 2 t) (ix3 p r l)
      = (show S9x16384x128.Idx → EReal from V m c main_v116) (ix3 p ⟨512 * t.val + r.val, in512 t r⟩ l) := by
  refine congrArg (show S9x16384x128.Idx → EReal from V m c main_v116) (funext fun a => Fin.ext ?_)
  refine (Pipeline.Window.rect_emb_val (cfg0.win 2) t (show S9x512x128.Idx from ix3 p r l) a).trans ?_
  have hx : (cfg0.win 2).index t = ![0, t.val, 0] := (by decide +kernel : ∀ t : Fin grid0.N, win0_2.index t = ![0, t.val, 0]) t
  rw [hx]
  match a with
  | ⟨0, _⟩ => exact (show 0 * 9 + p.val = p.val by omega)
  | ⟨1, _⟩ => exact (show t.val * 512 + r.val = 512 * t.val + r.val by omega)
  | ⟨2, _⟩ => exact (show 0 * 128 + l.val = l.val by omega)

theorem emb4 (t : Fin cfg0.N) (r : Fin 512) (e : Fin 512) :
    (((cfg0.win 4).blk t).view.emb (show S512x512.Idx from ix2 r e) : S16384x512.Idx) = ix2 (⟨512 * t.val + r.val, in512 t r⟩ : Fin 16384) e := by
  refine funext fun a => Fin.ext ?_
  refine (Pipeline.Window.rect_emb_val (cfg0.win 4) t (show S512x512.Idx from ix2 r e) a).trans ?_
  have hx : (cfg0.win 4).index t = ![t.val, 0] := (by decide +kernel : ∀ t : Fin grid0.N, win0_4.index t = ![t.val, 0]) t
  rw [hx]
  match a with
  | ⟨0, _⟩ => exact (show t.val * 512 + r.val = 512 * t.val + r.val by omega)
  | ⟨1, _⟩ => exact (show 0 * 512 + e.val = e.val by omega)

/-- The array is what its row blocks are. -/
theorem arr4 (target : S16384x512.Idx → EReal)
    (h : ∀ (t : Fin cfg0.N) (r : Fin 512) (e : Fin 512), out0_4 (iblk m c 0 t) (iblk m c 1 t) (iblk m c 2 t) (ix2 r e)
      = target (ix2 ⟨512 * t.val + r.val, in512 t r⟩ e)) :
    (dats m 0 c).arrAt 4 cfg0.N = target := by
  refine (dats m 0 c).arrAt_eq_of_cover 4 target (fun t hf => ?_) (fun y => ?_)
  · rw [Value.flushed4]
    funext y
    obtain ⟨r, e, rfl⟩ : ∃ (r : Fin 512) (e : Fin 512), y = ix2 r e := ⟨y 0, y 1, eq_ix2 (n0 := 512) (n1 := 512) y⟩
    refine Eq.trans ?_ (congrArg target (emb4 t r e)).symm
    exact h t r e
  · have hy : (y 0).val < 16384 := (y 0).isLt
    let t : Fin cfg0.N := ⟨(y 0).val / 512, by show (y 0).val / 512 < 32; omega⟩
    refine ⟨t, flush0_4 t, ?_⟩
    have e := emb4 t ⟨(y 0).val % 512, by omega⟩ (show Fin 512 from y 1)
    have e2 : (ix2 (⟨512 * t.val + (y 0).val % 512, in512 t ⟨(y 0).val % 512, by omega⟩⟩ : Fin 16384) (show Fin 512 from y 1) : S16384x512.Idx) = y := by
      refine funext fun a => Fin.ext ?_
      match a with
      | ⟨0, _⟩ => exact (show 512 * ((y 0).val / 512) + (y 0).val % 512 = (y 0).val by omega)
      | ⟨1, _⟩ => rfl
    rw [← e2, ← e]
    exact View.emb_mem_set _ _

theorem emb6 (t : Fin cfg0.N) (r : Fin 512) (e : Fin 512) :
    (((cfg0.win 6).blk t).view.emb (show S512x512.Idx from ix2 r e) : S16384x512.Idx) = ix2 (⟨512 * t.val + r.val, in512 t r⟩ : Fin 16384) e := by
  refine funext fun a => Fin.ext ?_
  refine (Pipeline.Window.rect_emb_val (cfg0.win 6) t (show S512x512.Idx from ix2 r e) a).trans ?_
  have hx : (cfg0.win 6).index t = ![t.val, 0] := (by decide +kernel : ∀ t : Fin grid0.N, win0_6.index t = ![t.val, 0]) t
  rw [hx]
  match a with
  | ⟨0, _⟩ => exact (show t.val * 512 + r.val = 512 * t.val + r.val by omega)
  | ⟨1, _⟩ => exact (show 0 * 512 + e.val = e.val by omega)

/-- The array is what its row blocks are. -/
theorem arr6 (target : S16384x512.Idx → EReal)
    (h : ∀ (t : Fin cfg0.N) (r : Fin 512) (e : Fin 512), out0_6 (iblk m c 0 t) (iblk m c 1 t) (iblk m c 2 t) (ix2 r e)
      = target (ix2 ⟨512 * t.val + r.val, in512 t r⟩ e)) :
    (dats m 0 c).arrAt 6 cfg0.N = target := by
  refine (dats m 0 c).arrAt_eq_of_cover 6 target (fun t hf => ?_) (fun y => ?_)
  · rw [Value.flushed6]
    funext y
    obtain ⟨r, e, rfl⟩ : ∃ (r : Fin 512) (e : Fin 512), y = ix2 r e := ⟨y 0, y 1, eq_ix2 (n0 := 512) (n1 := 512) y⟩
    refine Eq.trans ?_ (congrArg target (emb6 t r e)).symm
    exact h t r e
  · have hy : (y 0).val < 16384 := (y 0).isLt
    let t : Fin cfg0.N := ⟨(y 0).val / 512, by show (y 0).val / 512 < 32; omega⟩
    refine ⟨t, flush0_6 t, ?_⟩
    have e := emb6 t ⟨(y 0).val % 512, by omega⟩ (show Fin 512 from y 1)
    have e2 : (ix2 (⟨512 * t.val + (y 0).val % 512, in512 t ⟨(y 0).val % 512, by omega⟩⟩ : Fin 16384) (show Fin 512 from y 1) : S16384x512.Idx) = y := by
      refine funext fun a => Fin.ext ?_
      match a with
      | ⟨0, _⟩ => exact (show 512 * ((y 0).val / 512) + (y 0).val % 512 = (y 0).val by omega)
      | ⟨1, _⟩ => rfl
    rw [← e2, ← e]
    exact View.emb_mem_set _ _

theorem emb9 (t : Fin cfg0.N) (r : Fin 512) (e : Fin 32) :
    (((cfg0.win 9).blk t).view.emb (show S512x32.Idx from ix2 r e) : S16384x32.Idx) = ix2 (⟨512 * t.val + r.val, in512 t r⟩ : Fin 16384) e := by
  refine funext fun a => Fin.ext ?_
  refine (Pipeline.Window.rect_emb_val (cfg0.win 9) t (show S512x32.Idx from ix2 r e) a).trans ?_
  have hx : (cfg0.win 9).index t = ![t.val, 0] := (by decide +kernel : ∀ t : Fin grid0.N, win0_9.index t = ![t.val, 0]) t
  rw [hx]
  match a with
  | ⟨0, _⟩ => exact (show t.val * 512 + r.val = 512 * t.val + r.val by omega)
  | ⟨1, _⟩ => exact (show 0 * 32 + e.val = e.val by omega)

/-- The array is what its row blocks are. -/
theorem arr9 (target : S16384x32.Idx → EReal)
    (h : ∀ (t : Fin cfg0.N) (r : Fin 512) (e : Fin 32), out0_9 (iblk m c 0 t) (iblk m c 1 t) (iblk m c 2 t) (ix2 r e)
      = target (ix2 ⟨512 * t.val + r.val, in512 t r⟩ e)) :
    (dats m 0 c).arrAt 9 cfg0.N = target := by
  refine (dats m 0 c).arrAt_eq_of_cover 9 target (fun t hf => ?_) (fun y => ?_)
  · rw [Value.flushed9]
    funext y
    obtain ⟨r, e, rfl⟩ : ∃ (r : Fin 512) (e : Fin 32), y = ix2 r e := ⟨y 0, y 1, eq_ix2 (n0 := 512) (n1 := 32) y⟩
    refine Eq.trans ?_ (congrArg target (emb9 t r e)).symm
    exact h t r e
  · have hy : (y 0).val < 16384 := (y 0).isLt
    let t : Fin cfg0.N := ⟨(y 0).val / 512, by show (y 0).val / 512 < 32; omega⟩
    refine ⟨t, flush0_9 t, ?_⟩
    have e := emb9 t ⟨(y 0).val % 512, by omega⟩ (show Fin 32 from y 1)
    have e2 : (ix2 (⟨512 * t.val + (y 0).val % 512, in512 t ⟨(y 0).val % 512, by omega⟩⟩ : Fin 16384) (show Fin 32 from y 1) : S16384x32.Idx) = y := by
      refine funext fun a => Fin.ext ?_
      match a with
      | ⟨0, _⟩ => exact (show 512 * ((y 0).val / 512) + (y 0).val % 512 = (y 0).val by omega)
      | ⟨1, _⟩ => rfl
    rw [← e2, ← e]
    exact View.emb_mem_set _ _

theorem emb13 (t : Fin cfg0.N) (r : Fin 512) (e : Fin 512) :
    (((cfg0.win 13).blk t).view.emb (show S512x512.Idx from ix2 r e) : S16384x512.Idx) = ix2 (⟨512 * t.val + r.val, in512 t r⟩ : Fin 16384) e := by
  refine funext fun a => Fin.ext ?_
  refine (Pipeline.Window.rect_emb_val (cfg0.win 13) t (show S512x512.Idx from ix2 r e) a).trans ?_
  have hx : (cfg0.win 13).index t = ![t.val, 0] := (by decide +kernel : ∀ t : Fin grid0.N, win0_13.index t = ![t.val, 0]) t
  rw [hx]
  match a with
  | ⟨0, _⟩ => exact (show t.val * 512 + r.val = 512 * t.val + r.val by omega)
  | ⟨1, _⟩ => exact (show 0 * 512 + e.val = e.val by omega)

/-- The array is what its row blocks are. -/
theorem arr13 (target : S16384x512.Idx → EReal)
    (h : ∀ (t : Fin cfg0.N) (r : Fin 512) (e : Fin 512), out0_13 (iblk m c 0 t) (iblk m c 1 t) (iblk m c 2 t) (ix2 r e)
      = target (ix2 ⟨512 * t.val + r.val, in512 t r⟩ e)) :
    (dats m 0 c).arrAt 13 cfg0.N = target := by
  refine (dats m 0 c).arrAt_eq_of_cover 13 target (fun t hf => ?_) (fun y => ?_)
  · rw [Value.flushed13]
    funext y
    obtain ⟨r, e, rfl⟩ : ∃ (r : Fin 512) (e : Fin 512), y = ix2 r e := ⟨y 0, y 1, eq_ix2 (n0 := 512) (n1 := 512) y⟩
    refine Eq.trans ?_ (congrArg target (emb13 t r e)).symm
    exact h t r e
  · have hy : (y 0).val < 16384 := (y 0).isLt
    let t : Fin cfg0.N := ⟨(y 0).val / 512, by show (y 0).val / 512 < 32; omega⟩
    refine ⟨t, flush0_13 t, ?_⟩
    have e := emb13 t ⟨(y 0).val % 512, by omega⟩ (show Fin 512 from y 1)
    have e2 : (ix2 (⟨512 * t.val + (y 0).val % 512, in512 t ⟨(y 0).val % 512, by omega⟩⟩ : Fin 16384) (show Fin 512 from y 1) : S16384x512.Idx) = y := by
      refine funext fun a => Fin.ext ?_
      match a with
      | ⟨0, _⟩ => exact (show 512 * ((y 0).val / 512) + (y 0).val % 512 = (y 0).val by omega)
      | ⟨1, _⟩ => rfl
    rw [← e2, ← e]
    exact View.emb_mem_set _ _

theorem emb15 (t : Fin cfg0.N) (r : Fin 512) (e : Fin 512) :
    (((cfg0.win 15).blk t).view.emb (show S512x512.Idx from ix2 r e) : S16384x512.Idx) = ix2 (⟨512 * t.val + r.val, in512 t r⟩ : Fin 16384) e := by
  refine funext fun a => Fin.ext ?_
  refine (Pipeline.Window.rect_emb_val (cfg0.win 15) t (show S512x512.Idx from ix2 r e) a).trans ?_
  have hx : (cfg0.win 15).index t = ![t.val, 0] := (by decide +kernel : ∀ t : Fin grid0.N, win0_15.index t = ![t.val, 0]) t
  rw [hx]
  match a with
  | ⟨0, _⟩ => exact (show t.val * 512 + r.val = 512 * t.val + r.val by omega)
  | ⟨1, _⟩ => exact (show 0 * 512 + e.val = e.val by omega)

/-- The array is what its row blocks are. -/
theorem arr15 (target : S16384x512.Idx → EReal)
    (h : ∀ (t : Fin cfg0.N) (r : Fin 512) (e : Fin 512), out0_15 (iblk m c 0 t) (iblk m c 1 t) (iblk m c 2 t) (ix2 r e)
      = target (ix2 ⟨512 * t.val + r.val, in512 t r⟩ e)) :
    (dats m 0 c).arrAt 15 cfg0.N = target := by
  refine (dats m 0 c).arrAt_eq_of_cover 15 target (fun t hf => ?_) (fun y => ?_)
  · rw [Value.flushed15]
    funext y
    obtain ⟨r, e, rfl⟩ : ∃ (r : Fin 512) (e : Fin 512), y = ix2 r e := ⟨y 0, y 1, eq_ix2 (n0 := 512) (n1 := 512) y⟩
    refine Eq.trans ?_ (congrArg target (emb15 t r e)).symm
    exact h t r e
  · have hy : (y 0).val < 16384 := (y 0).isLt
    let t : Fin cfg0.N := ⟨(y 0).val / 512, by show (y 0).val / 512 < 32; omega⟩
    refine ⟨t, flush0_15 t, ?_⟩
    have e := emb15 t ⟨(y 0).val % 512, by omega⟩ (show Fin 512 from y 1)
    have e2 : (ix2 (⟨512 * t.val + (y 0).val % 512, in512 t ⟨(y 0).val % 512, by omega⟩⟩ : Fin 16384) (show Fin 512 from y 1) : S16384x512.Idx) = y := by
      refine funext fun a => Fin.ext ?_
      match a with
      | ⟨0, _⟩ => exact (show 512 * ((y 0).val / 512) + (y 0).val % 512 = (y 0).val by omega)
      | ⟨1, _⟩ => rfl
    rw [← e2, ← e]
    exact View.emb_mem_set _ _

end Cert.Kernel2Ideal.Proj

end
-- ==== Proof.ProjOut.lean ====
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen
open Idealize.ShloMosaic Finset

/-! What one row block of the projection computes, read at an index. -/

/-- A row of the block against a column of the weights. -/
def prod (x : S512x1024.Idx → EReal) (w : S1024x5504.Idx → EReal) (r : Fin 512) (n : Fin 5504) : EReal :=
  ∑ k : Fin 1024, x (ix2 r k) * w (ix2 k n)

variable (x0 : Vec Ideal S512x1024 .f32) (x1 : Vec Ideal S1024x5504 .bf16) (x2 : Vec Ideal S9x512x128 .f32)

theorem row_at (r : Fin 512) (k : Fin 1024) : k0_pay91 x0 x1 x2 (ix2 r k) = x0 (ix2 r k) := by
  unfold k0_pay91
  have e : View.ld x0 r0_0 = x0 := View.ld_unit_lit _ _ (fun a => by match a with | ⟨0, _⟩ => rfl | ⟨1, _⟩ => rfl)
  rw [e]
  pointwise [k0_pay1]

theorem wide6_at (x : FVec Ideal S512x1024 .bf16) (w : Vec Ideal S1024x512 .bf16) (r e : Fin 512) :
    k0_pay31 x w (ix2 r e) = ∑ k : Fin 1024, x (ix2 r k) * w (ix2 k e) := by
  pointwise [k0_pay31]

theorem out6_at (r e : Fin 512) :
    out0_6 x0 x1 x2 (ix2 r e) = prod x0 x1 r ⟨1024 + e.val, by omega⟩ := by
  unfold out0_6
  rw [View.canon_cons_unit_lit _ _ _ (fun a => by match a with | ⟨0, _⟩ => rfl | ⟨1, _⟩ => rfl)]
  refine (wide6_at _ _ r e).trans (Finset.sum_congr rfl fun k _ => ?_)
  rw [row_at]
  refine congrArg (fun y => x0 (ix2 r k) * y) (congrArg x1 (funext fun a => Fin.ext ?_))
  match a with
  | ⟨0, _⟩ => exact (show 0 + 1 * k.val = k.val by omega)
  | ⟨1, _⟩ => exact (show 1024 + 1 * e.val = 1024 + e.val by omega)

theorem wide13_at (x : FVec Ideal S512x1024 .bf16) (w : Vec Ideal S1024x512 .bf16) (r e : Fin 512) :
    k0_pay69 x w (ix2 r e) = ∑ k : Fin 1024, x (ix2 r k) * w (ix2 k e) := by
  pointwise [k0_pay69]

theorem out13_at (r e : Fin 512) :
    out0_13 x0 x1 x2 (ix2 r e) = prod x0 x1 r ⟨2432 + e.val, by omega⟩ := by
  unfold out0_13
  rw [View.canon_cons_unit_lit _ _ _ (fun a => by match a with | ⟨0, _⟩ => rfl | ⟨1, _⟩ => rfl)]
  refine (wide13_at _ _ r e).trans (Finset.sum_congr rfl fun k _ => ?_)
  rw [row_at]
  refine congrArg (fun y => x0 (ix2 r k) * y) (congrArg x1 (funext fun a => Fin.ext ?_))
  match a with
  | ⟨0, _⟩ => exact (show 0 + 1 * k.val = k.val by omega)
  | ⟨1, _⟩ => exact (show 2432 + 1 * e.val = 2432 + e.val by omega)

theorem wide15_at (x : FVec Ideal S512x1024 .bf16) (w : Vec Ideal S1024x512 .bf16) (r e : Fin 512) :
    k0_pay79 x w (ix2 r e) = ∑ k : Fin 1024, x (ix2 r k) * w (ix2 k e) := by
  pointwise [k0_pay79]

theorem out15_at (r e : Fin 512) :
    out0_15 x0 x1 x2 (ix2 r e) = prod x0 x1 r ⟨2944 + e.val, by omega⟩ := by
  unfold out0_15
  rw [View.canon_cons_unit_lit _ _ _ (fun a => by match a with | ⟨0, _⟩ => rfl | ⟨1, _⟩ => rfl)]
  refine (wide15_at _ _ r e).trans (Finset.sum_congr rfl fun k _ => ?_)
  rw [row_at]
  refine congrArg (fun y => x0 (ix2 r k) * y) (congrArg x1 (funext fun a => Fin.ext ?_))
  match a with
  | ⟨0, _⟩ => exact (show 0 + 1 * k.val = k.val by omega)
  | ⟨1, _⟩ => exact (show 2944 + 1 * e.val = 2944 + e.val by omega)

/-- A column turned through by its tables. -/
def turn (z : Fin 128 → EReal) (c sa sb : Fin 128 → EReal) (up down : ℕ) (l : Fin 128) : EReal :=
  z l * c l + z ⟨(l.val + 128 - up) % 128, Nat.mod_lt _ (by omega)⟩ * sa l + z ⟨(l.val + 128 - down) % 128, Nat.mod_lt _ (by omega)⟩ * sb l

theorem pay17_at (x : FVec Ideal S512x1024 .bf16) (w : Vec Ideal S1024x512 .bf16) (r e : Fin 512) :
    k0_pay17 x w (ix2 r e) = ∑ k : Fin 1024, x (ix2 r k) * w (ix2 k e) := by
  pointwise [k0_pay17]

theorem pay18_at (x : FVec Ideal S512x1024 .bf16) (w : Vec Ideal S1024x512 .bf16) (t0 t1 t2 : Vec Ideal S1x512x128 .f32) (r : Fin 512) (l : Fin 128) :
    k0_pay18 x w t0 t1 t2 (ix2 r l) = turn (fun l => k0_pay17 x w (ix2 r ⟨0 + l.val, by omega⟩)) (fun l => t0 (ix3 0 r l)) (fun l => t1 (ix3 0 r l)) (fun l => t2 (ix3 0 r l)) 120 8 l := by
  unfold k0_pay18
  generalize k0_pay17 x w = z
  unfold turn
  pointwise

theorem pay19_at (x : FVec Ideal S512x1024 .bf16) (w : Vec Ideal S1024x512 .bf16) (t0 t1 t2 : Vec Ideal S1x512x128 .f32) (r : Fin 512) (l : Fin 128) :
    k0_pay19 x w t0 t1 t2 (ix2 r l) = turn (fun l => k0_pay17 x w (ix2 r ⟨128 + l.val, by omega⟩)) (fun l => t0 (ix3 0 r l)) (fun l => t1 (ix3 0 r l)) (fun l => t2 (ix3 0 r l)) 120 8 l := by
  unfold k0_pay19
  generalize k0_pay17 x w = z
  unfold turn
  pointwise

theorem pay20_0 (z : FVec Ideal S512x512 .f32) (a0 a1 : FVec Ideal S512x128 .f32) (t0 t1 t2 t3 t4 t5 : Vec Ideal S1x512x128 .f32) (r : Fin 512) (l : Fin 128) :
    k0_pay20 z a0 a1 t0 t1 t2 t3 t4 t5 (ix2 r ⟨0 + l.val, by omega⟩) = a0 (ix2 r l) := by
  unfold k0_pay20
  pointwise

theorem pay20_1 (z : FVec Ideal S512x512 .f32) (a0 a1 : FVec Ideal S512x128 .f32) (t0 t1 t2 t3 t4 t5 : Vec Ideal S1x512x128 .f32) (r : Fin 512) (l : Fin 128) :
    k0_pay20 z a0 a1 t0 t1 t2 t3 t4 t5 (ix2 r ⟨128 + l.val, by omega⟩) = a1 (ix2 r l) := by
  unfold k0_pay20
  pointwise

theorem pay20_2 (z : FVec Ideal S512x512 .f32) (a0 a1 : FVec Ideal S512x128 .f32) (t0 t1 t2 t3 t4 t5 : Vec Ideal S1x512x128 .f32) (r : Fin 512) (l : Fin 128) :
    k0_pay20 z a0 a1 t0 t1 t2 t3 t4 t5 (ix2 r ⟨256 + l.val, by omega⟩) = turn (fun l => z (ix2 r ⟨256 + l.val, by omega⟩)) (fun l => t0 (ix3 0 r l)) (fun l => t1 (ix3 0 r l)) (fun l => t2 (ix3 0 r l)) 120 8 l := by
  have e : 256 + l.val - 128 - 128 = l.val := by omega
  unfold k0_pay20
  unfold turn
  pointwise
  rw [dif_neg (show ¬ 256 + l.val < 128 by omega), dif_neg (show ¬ 256 + l.val - 128 < 128 by omega), dif_pos (show 256 + l.val - 128 - 128 < 128 by omega)]
  simp only [e]

theorem pay20_3 (z : FVec Ideal S512x512 .f32) (a0 a1 : FVec Ideal S512x128 .f32) (t0 t1 t2 t3 t4 t5 : Vec Ideal S1x512x128 .f32) (r : Fin 512) (l : Fin 128) :
    k0_pay20 z a0 a1 t0 t1 t2 t3 t4 t5 (ix2 r ⟨384 + l.val, by omega⟩) = turn (fun l => z (ix2 r ⟨384 + l.val, by omega⟩)) (fun l => t3 (ix3 0 r l)) (fun l => t4 (ix3 0 r l)) (fun l => t5 (ix3 0 r l)) 120 8 l := by
  have e : 384 + l.val - 128 - 128 - 128 = l.val := by omega
  unfold k0_pay20
  unfold turn
  pointwise
  rw [dif_neg (show ¬ 384 + l.val < 128 by omega), dif_neg (show ¬ 384 + l.val - 128 < 128 by omega), dif_neg (show ¬ 384 + l.val - 128 - 128 < 128 by omega)]
  simp only [e]

theorem pay53_at (x : FVec Ideal S512x1024 .bf16) (w : Vec Ideal S1024x128 .bf16) (r : Fin 512) (e : Fin 128) :
    k0_pay53 x w (ix2 r e) = ∑ k : Fin 1024, x (ix2 r k) * w (ix2 k e) := by
  pointwise [k0_pay53]

theorem pay56_at (x : FVec Ideal S512x1024 .bf16) (w : Vec Ideal S1024x128 .bf16) (t0 t1 t2 : Vec Ideal S1x512x128 .f32) (r : Fin 512) (e : Fin 32) :
    k0_pay56 (k0_pay53 x w) (k0_pay54 x w t0 t1) 4#32 t2 (ix2 r e) = turn (fun l => k0_pay53 x w (ix2 r l)) (fun l => t0 (ix3 0 r l)) (fun l => t1 (ix3 0 r l)) (fun l => t2 (ix3 0 r l)) 124 4 ⟨e.val, by omega⟩ := by
  unfold k0_pay56 k0_pay55 k0_pay54
  generalize k0_pay53 x w = z
  unfold turn
  pointwise

/-- A row of the block as the turning of its columns' products. -/
def ropeAt (x : S512x1024.Idx → EReal) (w : S1024x5504.Idx → EReal) (t : S9x512x128.Idx → EReal) (p : ℕ) (hp : p + 3 ≤ 9)
    (up down off : ℕ) (ho : off + 128 ≤ 5504) (r : Fin 512) (l : Fin 128) : EReal :=
  turn (fun l => prod x w r ⟨off + l.val, by omega⟩) (fun l => t (ix3 ⟨p, by omega⟩ r l)) (fun l => t (ix3 ⟨p + 1, by omega⟩ r l))
    (fun l => t (ix3 ⟨p + 2, by omega⟩ r l)) up down l

theorem turn_congr {z z' c c' sa sa' sb sb' : Fin 128 → EReal} {up down : ℕ} {l : Fin 128} (hz : ∀ l, z l = z' l)
    (hc : ∀ l, c l = c' l) (ha : ∀ l, sa l = sa' l) (hb : ∀ l, sb l = sb' l) :
    turn z c sa sb up down l = turn z' c' sa' sb' up down l := by
  rw [funext hz, funext hc, funext ha, funext hb]

theorem tab0_at (r : Fin 512) (l : Fin 128) : View.ld x2 r0_2 (ix3 0 r l) = x2 (ix3 0 r l) := by
  refine congrArg x2 (funext fun a => Fin.ext ?_)
  match a with
  | ⟨0, _⟩ => exact (show 0 + 1 * 0 = 0 by omega)
  | ⟨1, _⟩ => exact (show 0 + 1 * r.val = r.val by omega)
  | ⟨2, _⟩ => exact (show 0 + 1 * l.val = l.val by omega)

theorem tab1_at (r : Fin 512) (l : Fin 128) : View.ld x2 r0_3 (ix3 0 r l) = x2 (ix3 1 r l) := by
  refine congrArg x2 (funext fun a => Fin.ext ?_)
  match a with
  | ⟨0, _⟩ => exact (show 1 + 1 * 0 = 1 by omega)
  | ⟨1, _⟩ => exact (show 0 + 1 * r.val = r.val by omega)
  | ⟨2, _⟩ => exact (show 0 + 1 * l.val = l.val by omega)

theorem tab2_at (r : Fin 512) (l : Fin 128) : View.ld x2 r0_4 (ix3 0 r l) = x2 (ix3 2 r l) := by
  refine congrArg x2 (funext fun a => Fin.ext ?_)
  match a with
  | ⟨0, _⟩ => exact (show 2 + 1 * 0 = 2 by omega)
  | ⟨1, _⟩ => exact (show 0 + 1 * r.val = r.val by omega)
  | ⟨2, _⟩ => exact (show 0 + 1 * l.val = l.val by omega)

theorem tab6_at (r : Fin 512) (l : Fin 128) : View.ld x2 r0_29 (ix3 0 r l) = x2 (ix3 6 r l) := by
  refine congrArg x2 (funext fun a => Fin.ext ?_)
  match a with
  | ⟨0, _⟩ => exact (show 6 + 1 * 0 = 6 by omega)
  | ⟨1, _⟩ => exact (show 0 + 1 * r.val = r.val by omega)
  | ⟨2, _⟩ => exact (show 0 + 1 * l.val = l.val by omega)

theorem tab7_at (r : Fin 512) (l : Fin 128) : View.ld x2 r0_30 (ix3 0 r l) = x2 (ix3 7 r l) := by
  refine congrArg x2 (funext fun a => Fin.ext ?_)
  match a with
  | ⟨0, _⟩ => exact (show 7 + 1 * 0 = 7 by omega)
  | ⟨1, _⟩ => exact (show 0 + 1 * r.val = r.val by omega)
  | ⟨2, _⟩ => exact (show 0 + 1 * l.val = l.val by omega)

theorem tab8_at (r : Fin 512) (l : Fin 128) : View.ld x2 r0_31 (ix3 0 r l) = x2 (ix3 8 r l) := by
  refine congrArg x2 (funext fun a => Fin.ext ?_)
  match a with
  | ⟨0, _⟩ => exact (show 8 + 1 * 0 = 8 by omega)
  | ⟨1, _⟩ => exact (show 0 + 1 * r.val = r.val by omega)
  | ⟨2, _⟩ => exact (show 0 + 1 * l.val = l.val by omega)

theorem z17_at (r e : Fin 512) : k0_pay17 (k0_pay91 x0 x1 x2) (View.ld x1 r0_13) (ix2 r e) = prod x0 x1 r ⟨512 + e.val, by omega⟩ := by
  refine (pay17_at _ _ r e).trans (Finset.sum_congr rfl fun k _ => ?_)
  rw [row_at]
  refine congrArg (fun y => x0 (ix2 r k) * y) (congrArg x1 (funext fun a => Fin.ext ?_))
  match a with
  | ⟨0, _⟩ => exact (show 0 + 1 * k.val = k.val by omega)
  | ⟨1, _⟩ => exact (show 512 + 1 * e.val = 512 + e.val by omega)

theorem z53_at (r : Fin 512) (e : Fin 128) : k0_pay53 (k0_pay91 x0 x1 x2) (View.ld x1 r0_28) (ix2 r e) = prod x0 x1 r ⟨1792 + e.val, by omega⟩ := by
  refine (pay53_at _ _ r e).trans (Finset.sum_congr rfl fun k _ => ?_)
  rw [row_at]
  refine congrArg (fun y => x0 (ix2 r k) * y) (congrArg x1 (funext fun a => Fin.ext ?_))
  match a with
  | ⟨0, _⟩ => exact (show 0 + 1 * k.val = k.val by omega)
  | ⟨1, _⟩ => exact (show 1792 + 1 * e.val = 1792 + e.val by omega)

theorem prod_congr (r : Fin 512) {a b : ℕ} (h : a = b) (ha : a < 5504) (hb : b < 5504) : prod x0 x1 r ⟨a, ha⟩ = prod x0 x1 r ⟨b, hb⟩ := by
  subst h; rfl

theorem out4_0 (r : Fin 512) (l : Fin 128) :
    out0_4 x0 x1 x2 (ix2 r ⟨0 + l.val, by omega⟩) = ropeAt x0 x1 x2 0 (by omega) 120 8 512 (by omega) r l := by
  unfold out0_4
  rw [View.canon_cons_unit_lit _ _ _ (fun a => by match a with | ⟨0, _⟩ => rfl | ⟨1, _⟩ => rfl)]
  refine (pay20_0 _ _ _ _ _ _ _ _ _ r l).trans ((pay18_at _ _ _ _ _ r l).trans ?_)
  exact turn_congr (fun l => (z17_at x0 x1 x2 r _).trans (prod_congr x0 x1 r (show 512 + (0 + l.val) = 512 + l.val by omega) _ _))
    (fun l => tab0_at x2 r l) (fun l => tab1_at x2 r l) (fun l => tab2_at x2 r l)

theorem out4_1 (r : Fin 512) (l : Fin 128) :
    out0_4 x0 x1 x2 (ix2 r ⟨128 + l.val, by omega⟩) = ropeAt x0 x1 x2 0 (by omega) 120 8 640 (by omega) r l := by
  unfold out0_4
  rw [View.canon_cons_unit_lit _ _ _ (fun a => by match a with | ⟨0, _⟩ => rfl | ⟨1, _⟩ => rfl)]
  refine (pay20_1 _ _ _ _ _ _ _ _ _ r l).trans ((pay19_at _ _ _ _ _ r l).trans ?_)
  exact turn_congr (fun l => (z17_at x0 x1 x2 r _).trans (prod_congr x0 x1 r (show 512 + (128 + l.val) = 640 + l.val by omega) _ _))
    (fun l => tab0_at x2 r l) (fun l => tab1_at x2 r l) (fun l => tab2_at x2 r l)

theorem out4_2 (r : Fin 512) (l : Fin 128) :
    out0_4 x0 x1 x2 (ix2 r ⟨256 + l.val, by omega⟩) = ropeAt x0 x1 x2 0 (by omega) 120 8 768 (by omega) r l := by
  unfold out0_4
  rw [View.canon_cons_unit_lit _ _ _ (fun a => by match a with | ⟨0, _⟩ => rfl | ⟨1, _⟩ => rfl)]
  refine (pay20_2 _ _ _ _ _ _ _ _ _ r l).trans ?_
  exact turn_congr (fun l => (z17_at x0 x1 x2 r _).trans (prod_congr x0 x1 r (show 512 + (256 + l.val) = 768 + l.val by omega) _ _))
    (fun l => tab0_at x2 r l) (fun l => tab1_at x2 r l) (fun l => tab2_at x2 r l)

theorem out4_3 (r : Fin 512) (l : Fin 128) :
    out0_4 x0 x1 x2 (ix2 r ⟨384 + l.val, by omega⟩) = ropeAt x0 x1 x2 0 (by omega) 120 8 896 (by omega) r l := by
  unfold out0_4
  rw [View.canon_cons_unit_lit _ _ _ (fun a => by match a with | ⟨0, _⟩ => rfl | ⟨1, _⟩ => rfl)]
  refine (pay20_3 _ _ _ _ _ _ _ _ _ r l).trans ?_
  exact turn_congr (fun l => (z17_at x0 x1 x2 r _).trans (prod_congr x0 x1 r (show 512 + (384 + l.val) = 896 + l.val by omega) _ _))
    (fun l => tab0_at x2 r l) (fun l => tab1_at x2 r l) (fun l => tab2_at x2 r l)

theorem out9_at (r : Fin 512) (e : Fin 32) :
    out0_9 x0 x1 x2 (ix2 r e) = ropeAt x0 x1 x2 6 (by omega) 124 4 1792 (by omega) r ⟨e.val, by omega⟩ := by
  unfold out0_9
  rw [View.canon_cons_unit_lit _ _ _ (fun a => by match a with | ⟨0, _⟩ => rfl | ⟨1, _⟩ => rfl)]
  refine (pay56_at _ _ _ _ _ r e).trans ?_
  exact turn_congr (fun l => z53_at x0 x1 x2 r l) (fun l => tab6_at x2 r l) (fun l => tab7_at x2 r l) (fun l => tab8_at x2 r l)

end Cert.Kernel2Ideal.Proj

end
-- ==== Proof.ProjHost.lean ====
module

public import proofs.«01_k».proof.Proof.Gen.Kernel2Ideal.Frame
public import Idealize.ShloMosaic.Lib.StableHlo.RunRead
public import Idealize.ShloMosaic.Lib.Pointwise

@[expose] public section

set_option maxRecDepth 16384

noncomputable section

namespace Cert.Kernel2Ideal.Proj

open Cert.Kernel2Ideal Cert.Kernel2Ideal.Gen
open Idealize.ShloMosaic Idealize.ShloMosaic.TcCoe Finset

/-! The weights as the launch reads them: columns of the given weights, moved. -/

section Cat

variable (p0 p1 p2 : FVec Ideal S1024x512 .f32) (p3 : FVec Ideal S1024x256 .f32) (p4 : FVec Ideal S1024x32 .f32)
variable (p5 : FVec Ideal S1024x8 .f32) (p6 : FVec Ideal S1024x88 .f32) (p7 p8 p9 : FVec Ideal S1024x512 .f32)
variable (p10 p11 : FVec Ideal S1024x1024 .f32)

/-- The twelve pieces side by side. -/
def cat : FVec Ideal S1024x5504 .f32 :=
  concatenate S1024x5504 1 [⟨S1024x512, p0⟩, ⟨S1024x512, p1⟩, ⟨S1024x512, p2⟩, ⟨S1024x256, p3⟩, ⟨S1024x32, p4⟩, ⟨S1024x8, p5⟩,
    ⟨S1024x88, p6⟩, ⟨S1024x512, p7⟩, ⟨S1024x512, p8⟩, ⟨S1024x512, p9⟩, ⟨S1024x1024, p10⟩, ⟨S1024x1024, p11⟩]
    concatenates_S1024x512_S1024x512_S1024x512_S1024x256_S1024x32_S1024x8_S1024x88_S1024x512_S1024x512_S1024x512_S1024x1024_S1024x1024_S1024x5504_d1

theorem cat_ka (k : Fin 1024) (e : Fin 512) : cat p0 p1 p2 p3 p4 p5 p6 p7 p8 p9 p10 p11 (ix2 k ⟨512 + e.val, by omega⟩) = p1 (ix2 k e) := by
  pointwise [cat]

theorem cat_va (k : Fin 1024) (e : Fin 512) : cat p0 p1 p2 p3 p4 p5 p6 p7 p8 p9 p10 p11 (ix2 k ⟨1024 + e.val, by omega⟩) = p2 (ix2 k e) := by
  pointwise [cat]
  rw [dif_neg (show ¬ 1024 + e.val < 512 by omega),
    dif_neg (show ¬ 1024 + e.val - 512 < 512 by omega),
    dif_pos (show 1024 + e.val - 512 - 512 < 512 by omega)]
  exact congrArg p2 (congrArg (ix2 k) (Fin.ext (show 1024 + e.val - 512 - 512 = e.val by omega)))

theorem cat_ki (k : Fin 1024) (e : Fin 32) : cat p0 p1 p2 p3 p4 p5 p6 p7 p8 p9 p10 p11 (ix2 k ⟨1792 + e.val, by omega⟩) = p4 (ix2 k e) := by
  pointwise [cat]
  rw [dif_neg (show ¬ 1792 + e.val < 512 by omega),
    dif_neg (show ¬ 1792 + e.val - 512 < 512 by omega),
    dif_neg (show ¬ 1792 + e.val - 512 - 512 < 512 by omega),
    dif_neg (show ¬ 1792 + e.val - 512 - 512 - 512 < 256 by omega),
    dif_pos (show 1792 + e.val - 512 - 512 - 512 - 256 < 32 by omega)]
  exact congrArg p4 (congrArg (ix2 k) (Fin.ext (show 1792 + e.val - 512 - 512 - 512 - 256 = e.val by omega)))

theorem cat_kb (k : Fin 1024) (e : Fin 512) : cat p0 p1 p2 p3 p4 p5 p6 p7 p8 p9 p10 p11 (ix2 k ⟨2432 + e.val, by omega⟩) = p8 (ix2 k e) := by
  pointwise [cat]
  rw [dif_neg (show ¬ 2432 + e.val < 512 by omega),
    dif_neg (show ¬ 2432 + e.val - 512 < 512 by omega),
    dif_neg (show ¬ 2432 + e.val - 512 - 512 < 512 by omega),
    dif_neg (show ¬ 2432 + e.val - 512 - 512 - 512 < 256 by omega),
    dif_neg (show ¬ 2432 + e.val - 512 - 512 - 512 - 256 < 32 by omega),
    dif_neg (show ¬ 2432 + e.val - 512 - 512 - 512 - 256 - 32 < 8 by omega),
    dif_neg (show ¬ 2432 + e.val - 512 - 512 - 512 - 256 - 32 - 8 < 88 by omega),
    dif_neg (show ¬ 2432 + e.val - 512 - 512 - 512 - 256 - 32 - 8 - 88 < 512 by omega),
    dif_pos (show 2432 + e.val - 512 - 512 - 512 - 256 - 32 - 8 - 88 - 512 < 512 by omega)]
  exact congrArg p8 (congrArg (ix2 k) (Fin.ext (show 2432 + e.val - 512 - 512 - 512 - 256 - 32 - 8 - 88 - 512 = e.val by omega)))

theorem cat_vb (k : Fin 1024) (e : Fin 512) : cat p0 p1 p2 p3 p4 p5 p6 p7 p8 p9 p10 p11 (ix2 k ⟨2944 + e.val, by omega⟩) = p9 (ix2 k e) := by
  pointwise [cat]
  rw [dif_neg (show ¬ 2944 + e.val < 512 by omega),
    dif_neg (show ¬ 2944 + e.val - 512 < 512 by omega),
    dif_neg (show ¬ 2944 + e.val - 512 - 512 < 512 by omega),
    dif_neg (show ¬ 2944 + e.val - 512 - 512 - 512 < 256 by omega),
    dif_neg (show ¬ 2944 + e.val - 512 - 512 - 512 - 256 < 32 by omega),
    dif_neg (show ¬ 2944 + e.val - 512 - 512 - 512 - 256 - 32 < 8 by omega),
    dif_neg (show ¬ 2944 + e.val - 512 - 512 - 512 - 256 - 32 - 8 < 88 by omega),
    dif_neg (show ¬ 2944 + e.val - 512 - 512 - 512 - 256 - 32 - 8 - 88 < 512 by omega),
    dif_neg (show ¬ 2944 + e.val - 512 - 512 - 512 - 256 - 32 - 8 - 88 - 512 < 512 by omega),
    dif_pos (show 2944 + e.val - 512 - 512 - 512 - 256 - 32 - 8 - 88 - 512 - 512 < 512 by omega)]
  exact congrArg p9 (congrArg (ix2 k) (Fin.ext (show 2944 + e.val - 512 - 512 - 512 - 256 - 32 - 8 - 88 - 512 - 512 = e.val by omega)))

end Cat

variable (m : (ℓ : Loc nD τ sig) → Buf (Elt Ideal) ℓ) (c : Dev nD)

theorem w_ka (k : Fin 1024) (e : Fin 512) :
    (show S1024x5504.Idx → EReal from V m c main_v17) (ix2 k ⟨512 + e.val, by omega⟩)
      = (show S1024x5416.Idx → EReal from m ((c.tc : Thread nD τ).loc main_arg1)) (ix2 k ⟨512 + e.val, by omega⟩) := by
  unfold V
  after_reads_simp [Matrix.cons_val]
  refine (cat_ka _ _ _ _ _ _ _ _ _ _ _ _ k e).trans ?_
  after_reads_simp
  pointwise

theorem w_va (k : Fin 1024) (e : Fin 512) :
    (show S1024x5504.Idx → EReal from V m c main_v17) (ix2 k ⟨1024 + e.val, by omega⟩)
      = (show S1024x5416.Idx → EReal from m ((c.tc : Thread nD τ).loc main_arg1)) (ix2 k ⟨1024 + e.val, by omega⟩) := by
  unfold V
  after_reads_simp [Matrix.cons_val]
  refine (cat_va _ _ _ _ _ _ _ _ _ _ _ _ k e).trans ?_
  after_reads_simp
  pointwise

theorem w_ki (k : Fin 1024) (e : Fin 32) :
    (show S1024x5504.Idx → EReal from V m c main_v17) (ix2 k ⟨1792 + e.val, by omega⟩)
      = (show S1024x5416.Idx → EReal from m ((c.tc : Thread nD τ).loc main_arg1)) (ix2 k ⟨1792 + e.val, by omega⟩) := by
  unfold V
  after_reads_simp [Matrix.cons_val]
  refine (cat_ki _ _ _ _ _ _ _ _ _ _ _ _ k e).trans ?_
  after_reads_simp
  pointwise

theorem w_kb (k : Fin 1024) (e : Fin 512) :
    (show S1024x5504.Idx → EReal from V m c main_v17) (ix2 k ⟨2432 + e.val, by omega⟩)
      = (show S1024x5416.Idx → EReal from m ((c.tc : Thread nD τ).loc main_arg1)) (ix2 k ⟨2344 + e.val, by omega⟩) := by
  unfold V
  after_reads_simp [Matrix.cons_val]
  refine (cat_kb _ _ _ _ _ _ _ _ _ _ _ _ k e).trans ?_
  after_reads_simp
  pointwise

theorem w_vb (k : Fin 1024) (e : Fin 512) :
    (show S1024x5504.Idx → EReal from V m c main_v17) (ix2 k ⟨2944 + e.val, by omega⟩)
      = (show S1024x5416.Idx → EReal from m ((c.tc : Thread nD τ).loc main_arg1)) (ix2 k ⟨2856 + e.val, by omega⟩) := by
  unfold V
  after_reads_simp [Matrix.cons_val]
  refine (cat_vb _ _ _ _ _ _ _ _ _ _ _ _ k e).trans ?_
  after_reads_simp
  pointwise

end Cert.Kernel2Ideal.Proj

end
-- ==== Proof.ProjLit.lean ====
module

public import proofs.«01_k».proof.Proof.Gen.Kernel2Ideal.Frame

@[expose] public section

set_option maxRecDepth 16384

noncomputable section

namespace Cert.Kernel2Ideal.Proj

open Cert.Kernel2Ideal Cert.Kernel2Ideal.Gen
open Idealize.ShloMosaic Finset

/-! The lanes the tables mark, and the columns they read. -/

theorem lit1_at : ∀ l : Fin 128, lit1 l = if l.val % 64 < 16 then 1#1 else 0#1 := by decide +kernel
theorem lit2_at : ∀ l : Fin 128, lit2 l = if l.val % 64 < 8 then 1#1 else 0#1 := by decide +kernel
theorem lit3_at : ∀ l : Fin 128, lit3 l = if 8 ≤ l.val % 64 ∧ l.val % 64 < 16 then 1#1 else 0#1 := by decide +kernel
theorem lit0_at : ∀ l : Fin 128, l.val % 64 < 16 → min (lit0 l).toInt.toNat 7 = l.val % 8 := by decide +kernel
theorem lit9_at : ∀ l : Fin 128, l.val < 32 → lit9 l = if l.val < 8 then 1#1 else 0#1 := by decide +kernel
theorem lit10_at : ∀ l : Fin 128, l.val < 32 → lit10 l = if l.val < 4 then 1#1 else 0#1 := by decide +kernel
theorem lit11_at : ∀ l : Fin 128, l.val < 32 → lit11 l = if 4 ≤ l.val ∧ l.val < 8 then 1#1 else 0#1 := by decide +kernel
theorem lit8_at : ∀ l : Fin 128, l.val < 8 → min (lit8 l).toInt.toNat 3 = l.val % 4 := by decide +kernel

end Cert.Kernel2Ideal.Proj

end
-- ==== Proof.ProjRef.lean ====
module

public import proofs.«01_k».proof.Proof.Gen.Reference2Ideal.Read
public import Idealize.ShloMosaic.Lib.Pointwise

@[expose] public section

set_option maxRecDepth 16384

noncomputable section

namespace Cert.Reference2Ideal.Proj

open Cert.Reference2Ideal Cert.Reference2Ideal.Gen Cert.Reference2Ideal.Read
open Idealize.ShloMosaic Finset

/-! What the reference computes, read at an index. -/

/-- A row against a column. -/
def col (X : S16384x1024.Idx → EReal) (W : S1024x5416.Idx → EReal) (t : Fin 16384) (n : Fin 5416) : EReal :=
  ∑ k : Fin 1024, X (ix2 t k) * W (ix2 k n)

variable (X : S16384x1024.Idx → EReal) (W : S1024x5416.Idx → EReal)

theorem v1_at (i : S16384x5416.Idx) (t : Fin 16384) (n : Fin 5416) (h0 : (i 0).val = t.val) (h1 : (i 1).val = n.val) :
    val_main_v1 (F := Ideal) X W i = col X W t n := by
  refine (val_main_v1_apply X W i).trans (Finset.sum_congr rfl fun k _ => ?_)
  have e1 : lidx_main_v1 i k = ix2 t k := funext fun a => Fin.ext (by
    match a with
    | ⟨0, _⟩ => exact h0
    | ⟨1, _⟩ => rfl)
  have e2 : ridx_main_v1 i k = ix2 k n := funext fun a => Fin.ext (by
    match a with
    | ⟨0, _⟩ => rfl
    | ⟨1, _⟩ => exact h1)
  rw [e1, e2]

theorem v3_at (t : Fin 16384) (e : Fin 512) : val_main_v3 (F := Ideal) X W (ix2 t e) = col X W t ⟨512 + e.val, by omega⟩ :=
  (val_main_v3_apply (F := Ideal) X W (ix2 t e)).trans (v1_at X W (idx_main_v3 (ix2 t e)) t ⟨512 + e.val, by omega⟩ rfl rfl)
theorem v4_at (t : Fin 16384) (e : Fin 512) : val_main_v4 (F := Ideal) X W (ix2 t e) = col X W t ⟨1024 + e.val, by omega⟩ :=
  (val_main_v4_apply (F := Ideal) X W (ix2 t e)).trans (v1_at X W (idx_main_v4 (ix2 t e)) t ⟨1024 + e.val, by omega⟩ rfl rfl)
theorem v9_at (t : Fin 16384) (e : Fin 512) : val_main_v9 (F := Ideal) X W (ix2 t e) = col X W t ⟨2344 + e.val, by omega⟩ :=
  (val_main_v9_apply (F := Ideal) X W (ix2 t e)).trans (v1_at X W (idx_main_v9 (ix2 t e)) t ⟨2344 + e.val, by omega⟩ rfl rfl)
theorem v10_at (t : Fin 16384) (e : Fin 512) : val_main_v10 (F := Ideal) X W (ix2 t e) = col X W t ⟨2856 + e.val, by omega⟩ :=
  (val_main_v10_apply (F := Ideal) X W (ix2 t e)).trans (v1_at X W (idx_main_v10 (ix2 t e)) t ⟨2856 + e.val, by omega⟩ rfl rfl)
theorem v6_at (t : Fin 16384) (e : Fin 32) : val_main_v6 (F := Ideal) X W (ix2 t e) = col X W t ⟨1792 + e.val, by omega⟩ :=
  (val_main_v6_apply (F := Ideal) X W (ix2 t e)).trans (v1_at X W (idx_main_v6 (ix2 t e)) t ⟨1792 + e.val, by omega⟩ rfl rfl)

theorem v13_at (i : S16384x8x64.Idx) (t : Fin 16384) (e : Fin 512) (h0 : (i 0).val = t.val) (h1 : 64 * (i 1).val + (i 2).val = e.val) :
    val_main_v13 (F := Ideal) X W i = col X W t ⟨512 + e.val, by omega⟩ := by
  refine (val_main_v13_apply (F := Ideal) X W i).trans (Eq.trans (congrArg (val_main_v3 (F := Ideal) X W) (funext fun a => Fin.ext ?_)) (v3_at X W t e))
  have h2 : (i 2).val < 64 := (i 2).isLt
  have h3 : (i 1).val < 8 := (i 1).isLt
  match a with
  | ⟨0, _⟩ => exact (show (((i 0).val * 8 + (i 1).val) * 64 + (i 2).val) / 512 = t.val by omega)
  | ⟨1, _⟩ => exact (show (((i 0).val * 8 + (i 1).val) * 64 + (i 2).val) % 512 = e.val by omega)

theorem v45_lo (t : Fin 16384) (h d : Fin 8) : val_main_v45 (F := Ideal) X W (ix3 t h ⟨d.val, by omega⟩) = val_main_v38 (F := Ideal) X W (ix3 t h d) := by
  unfold val_main_v45
  generalize val_main_v38 (F := Ideal) X W = a
  generalize val_main_v43 (F := Ideal) X W = b
  generalize val_main_v44 (F := Ideal) X W = z
  pointwise
  all_goals trace_state

theorem v45_hi (t : Fin 16384) (h d : Fin 8) : val_main_v45 (F := Ideal) X W (ix3 t h ⟨8 + d.val, by omega⟩) = val_main_v43 (F := Ideal) X W (ix3 t h d) := by
  unfold val_main_v45
  generalize val_main_v38 (F := Ideal) X W = a
  generalize val_main_v43 (F := Ideal) X W = b
  generalize val_main_v44 (F := Ideal) X W = z
  pointwise
  all_goals trace_state

theorem v45_rest (t : Fin 16384) (h : Fin 8) (d : Fin 48) : val_main_v45 (F := Ideal) X W (ix3 t h ⟨16 + d.val, by omega⟩) = val_main_v44 (F := Ideal) X W (ix3 t h d) := by
  unfold val_main_v45
  generalize val_main_v38 (F := Ideal) X W = a
  generalize val_main_v43 (F := Ideal) X W = b
  generalize val_main_v44 (F := Ideal) X W = z
  pointwise
  rw [dif_neg (show ¬ 16 + d.val < 8 by omega), dif_neg (show ¬ 16 + d.val - 8 < 8 by omega)]
  exact congrArg z (congrArg (ix3 t h) (Fin.ext (show 16 + d.val - 8 - 8 = d.val by omega)))

theorem v75_lo (t : Fin 16384) (d : Fin 4) : val_main_v75 (F := Ideal) X W (ix3 t 0 ⟨d.val, by omega⟩) = val_main_v70 (F := Ideal) X W (ix3 t 0 d) := by
  unfold val_main_v75
  generalize val_main_v70 (F := Ideal) X W = a
  generalize val_main_v73 (F := Ideal) X W = b
  generalize val_main_v74 (F := Ideal) X W = z
  pointwise
  all_goals trace_state

theorem v75_hi (t : Fin 16384) (d : Fin 4) : val_main_v75 (F := Ideal) X W (ix3 t 0 ⟨4 + d.val, by omega⟩) = val_main_v73 (F := Ideal) X W (ix3 t 0 d) := by
  unfold val_main_v75
  generalize val_main_v70 (F := Ideal) X W = a
  generalize val_main_v73 (F := Ideal) X W = b
  generalize val_main_v74 (F := Ideal) X W = z
  pointwise
  all_goals trace_state

theorem v75_rest (t : Fin 16384) (d : Fin 24) : val_main_v75 (F := Ideal) X W (ix3 t 0 ⟨8 + d.val, by omega⟩) = val_main_v74 (F := Ideal) X W (ix3 t 0 d) := by
  unfold val_main_v75
  generalize val_main_v70 (F := Ideal) X W = a
  generalize val_main_v73 (F := Ideal) X W = b
  generalize val_main_v74 (F := Ideal) X W = z
  pointwise
  rw [dif_neg (show ¬ 8 + d.val < 4 by omega), dif_neg (show ¬ 8 + d.val - 4 < 4 by omega)]
  exact congrArg z (congrArg (ix3 t 0) (Fin.ext (show 8 + d.val - 4 - 4 = d.val by omega)))

theorem v46_at (t : Fin 16384) (e : Fin 512) (h : Fin 8) (d : Fin 64) (he : e.val = 64 * h.val + d.val) :
    val_main_v46 (F := Ideal) X W (ix2 t e) = val_main_v45 (F := Ideal) X W (ix3 t h d) := by
  refine (val_main_v46_apply (F := Ideal) X W (ix2 t e)).trans (congrArg (val_main_v45 (F := Ideal) X W) (funext fun a => Fin.ext ?_))
  match a with
  | ⟨0, _⟩ => exact (show (t.val * 512 + e.val) / 512 = t.val by omega)
  | ⟨1, _⟩ => exact (show (t.val * 512 + e.val) / 64 % 8 = h.val by omega)
  | ⟨2, _⟩ => exact (show (t.val * 512 + e.val) % 64 = d.val by omega)

theorem v76_at (t : Fin 16384) (e : Fin 32) :
    val_main_v76 (F := Ideal) X W (ix2 t e) = val_main_v75 (F := Ideal) X W (ix3 t 0 e) := by
  refine (val_main_v76_apply (F := Ideal) X W (ix2 t e)).trans (congrArg (val_main_v75 (F := Ideal) X W) (funext fun a => Fin.ext ?_))
  match a with
  | ⟨0, _⟩ => exact (show (t.val * 32 + e.val) / 32 = t.val by omega)
  | ⟨1, _⟩ => rfl
  | ⟨2, _⟩ => exact (show (t.val * 32 + e.val) % 32 = e.val by omega)

/-- The cosines and sines. -/
def cosA (t : Fin 16384) (d : Fin 8) : EReal := val_main_v28 (F := Ideal) (ix2 t d)
def sinA (t : Fin 16384) (d : Fin 8) : EReal := val_main_v30 (F := Ideal) (ix2 t d)
def cosB (t : Fin 16384) (d : Fin 4) : EReal := val_main_v62 (F := Ideal) (ix2 t d)
def sinB (t : Fin 16384) (d : Fin 4) : EReal := val_main_v64 (F := Ideal) (ix2 t d)

theorem ka_lo (t : Fin 16384) (e : Fin 512) (h d : Fin 8) (he : e.val = 64 * h.val + d.val) :
    val_main_v46 (F := Ideal) X W (ix2 t e)
      = col X W t ⟨512 + e.val, by omega⟩ * cosA t d - col X W t ⟨512 + (e.val + 8), by omega⟩ * sinA t d := by
  refine (v46_at X W t e h ⟨d.val, by omega⟩ he).trans ((v45_lo X W t h d).trans ?_)
  rw [val_main_v38_apply, val_main_v35_apply, val_main_v37_apply, val_main_v32_apply, val_main_v33_apply, val_main_v34_apply, val_main_v36_apply,
    val_main_v29_apply, val_main_v31_apply, v13_at X W _ t e rfl (show 64 * h.val + d.val = e.val from he.symm),
    v13_at X W _ t ⟨e.val + 8, by omega⟩ rfl (show 64 * h.val + (8 + d.val) = e.val + 8 by omega)]
  have ei : idx_main_v29 (idx_main_v34 (ix3 t h d)) = ix2 t d := funext fun a => Fin.ext (by
    match a with
    | ⟨0, _⟩ => rfl
    | ⟨1, _⟩ => rfl)
  have ej : idx_main_v31 (idx_main_v36 (ix3 t h d)) = ix2 t d := funext fun a => Fin.ext (by
    match a with
    | ⟨0, _⟩ => rfl
    | ⟨1, _⟩ => rfl)
  rw [ei, ej]
  rfl

theorem ka_hi (t : Fin 16384) (e : Fin 512) (h d : Fin 8) (he : e.val = 64 * h.val + (8 + d.val)) :
    val_main_v46 (F := Ideal) X W (ix2 t e)
      = col X W t ⟨512 + e.val, by omega⟩ * cosA t d + col X W t ⟨512 + (e.val - 8), by omega⟩ * sinA t d := by
  refine (v46_at X W t e h ⟨8 + d.val, by omega⟩ he).trans ((v45_hi X W t h d).trans ?_)
  rw [val_main_v43_apply, val_main_v40_apply, val_main_v42_apply, val_main_v32_apply, val_main_v33_apply, val_main_v39_apply, val_main_v41_apply,
    val_main_v29_apply, val_main_v31_apply, v13_at X W _ t e rfl (show 64 * h.val + (8 + d.val) = e.val from he.symm),
    v13_at X W _ t ⟨e.val - 8, by omega⟩ rfl (show 64 * h.val + d.val = e.val - 8 by omega)]
  have ei : idx_main_v29 (idx_main_v39 (ix3 t h d)) = ix2 t d := funext fun a => Fin.ext (by
    match a with
    | ⟨0, _⟩ => rfl
    | ⟨1, _⟩ => rfl)
  have ej : idx_main_v31 (idx_main_v41 (ix3 t h d)) = ix2 t d := funext fun a => Fin.ext (by
    match a with
    | ⟨0, _⟩ => rfl
    | ⟨1, _⟩ => rfl)
  rw [ei, ej]
  rfl

theorem ka_rest (t : Fin 16384) (e : Fin 512) (h : Fin 8) (d : Fin 48) (he : e.val = 64 * h.val + (16 + d.val)) :
    val_main_v46 (F := Ideal) X W (ix2 t e) = col X W t ⟨512 + e.val, by omega⟩ := by
  refine (v46_at X W t e h ⟨16 + d.val, by omega⟩ he).trans ((v45_rest X W t h d).trans ?_)
  rw [val_main_v44_apply, v13_at X W _ t e rfl (show 64 * h.val + (16 + d.val) = e.val from he.symm)]

theorem v47_at (i : S16384x1x32.Idx) (t : Fin 16384) (e : Fin 32) (h0 : (i 0).val = t.val) (h1 : (i 2).val = e.val) :
    val_main_v47 (F := Ideal) X W i = col X W t ⟨1792 + e.val, by omega⟩ := by
  refine (val_main_v47_apply (F := Ideal) X W i).trans (Eq.trans (congrArg (val_main_v6 (F := Ideal) X W) (funext fun a => Fin.ext ?_)) (v6_at X W t e))
  match a with
  | ⟨0, _⟩ => exact h0
  | ⟨1, _⟩ => exact h1

theorem ki_lo (t : Fin 16384) (e : Fin 32) (d : Fin 4) (he : e.val = d.val) :
    val_main_v76 (F := Ideal) X W (ix2 t e)
      = col X W t ⟨1792 + e.val, by omega⟩ * cosB t d - col X W t ⟨1792 + (e.val + 4), by omega⟩ * sinB t d := by
  obtain rfl : e = ⟨d.val, d.isLt.trans (by decide)⟩ := Fin.ext he
  refine (v76_at X W t _).trans ((v75_lo X W t d).trans ?_)
  rw [val_main_v70_apply, val_main_v68_apply, val_main_v69_apply, val_main_v66_apply, val_main_v67_apply, val_main_v63_apply, val_main_v65_apply,
    v47_at X W _ t ⟨d.val, by omega⟩ rfl rfl,
    v47_at X W _ t ⟨d.val + 4, by omega⟩ rfl (show 4 + d.val = d.val + 4 by omega)]
  have ei : idx_main_v63 (ix3 t 0 d) = ix2 t d := funext fun a => Fin.ext (by
    match a with
    | ⟨0, _⟩ => rfl
    | ⟨1, _⟩ => rfl)
  have ej : idx_main_v65 (ix3 t 0 d) = ix2 t d := funext fun a => Fin.ext (by
    match a with
    | ⟨0, _⟩ => rfl
    | ⟨1, _⟩ => rfl)
  rw [ei, ej]
  rfl

theorem ki_hi (t : Fin 16384) (e : Fin 32) (d : Fin 4) (he : e.val = 4 + d.val) :
    val_main_v76 (F := Ideal) X W (ix2 t e)
      = col X W t ⟨1792 + e.val, by omega⟩ * cosB t d + col X W t ⟨1792 + (e.val - 4), by omega⟩ * sinB t d := by
  obtain rfl : e = ⟨4 + d.val, (Nat.add_lt_add_left d.isLt 4).trans (by decide)⟩ := Fin.ext he
  refine (v76_at X W t _).trans ((v75_hi X W t d).trans ?_)
  rw [val_main_v73_apply, val_main_v71_apply, val_main_v72_apply, val_main_v66_apply, val_main_v67_apply, val_main_v63_apply, val_main_v65_apply,
    v47_at X W _ t ⟨4 + d.val, by omega⟩ rfl rfl,
    v47_at X W _ t ⟨4 + d.val - 4, by omega⟩ rfl (show d.val = 4 + d.val - 4 by omega)]
  have ei : idx_main_v63 (ix3 t 0 d) = ix2 t d := funext fun a => Fin.ext (by
    match a with
    | ⟨0, _⟩ => rfl
    | ⟨1, _⟩ => rfl)
  have ej : idx_main_v65 (ix3 t 0 d) = ix2 t d := funext fun a => Fin.ext (by
    match a with
    | ⟨0, _⟩ => rfl
    | ⟨1, _⟩ => rfl)
  rw [ei, ej]
  rfl

theorem ki_rest (t : Fin 16384) (e : Fin 32) (he : 8 ≤ e.val) :
    val_main_v76 (F := Ideal) X W (ix2 t e) = col X W t ⟨1792 + e.val, by omega⟩ := by
  obtain ⟨d, rfl⟩ : ∃ d : Fin 24, e = ⟨8 + d.val, Nat.add_lt_add_left d.isLt 8⟩ := ⟨⟨e.val - 8, by omega⟩, Fin.ext (show e.val = 8 + (e.val - 8) by omega)⟩
  refine (v76_at X W t _).trans ((v75_rest X W t d).trans ?_)
  rw [val_main_v74_apply, v47_at X W _ t ⟨8 + d.val, by omega⟩ rfl rfl]

end Cert.Reference2Ideal.Proj

end
-- ==== Proof.ProjTab.lean ====
module

public import proofs.«01_k».proof.Proof.ProjLit
public import proofs.«01_k».proof.Proof.ProjRef
public import proofs.«01_k».proof.Proof.Gen.Kernel2Ideal.Frame
public import Idealize.ShloMosaic.Lib.StableHlo.RunRead
public import Idealize.ShloMosaic.Lib.Pointwise
public import proofs.«01_k».proof.Proof.Gen.Reference2Ideal.Read

@[expose] public section

set_option maxRecDepth 16384

noncomputable section

namespace Cert.Kernel2Ideal.Proj

open Cert.Kernel2Ideal Cert.Kernel2Ideal.Gen
open Idealize.ShloMosaic Idealize.ShloMosaic.TcCoe Finset
open Cert.Reference2Ideal.Proj (cosA sinA cosB sinB)

/-! The tables of the turning as the launch reads them. -/

section Stack
variable (p0 p1 p2 p3 p4 p5 p6 p7 p8 : FVec Ideal S1x16384x128 .f32)

theorem stack_0 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 0 t l) = p0 (ix3 0 t l) := by
  pointwise

theorem stack_1 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 1 t l) = p1 (ix3 0 t l) := by
  pointwise

theorem stack_2 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 2 t l) = p2 (ix3 0 t l) := by
  pointwise

theorem stack_6 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 6 t l) = p6 (ix3 0 t l) := by
  pointwise

theorem stack_7 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 7 t l) = p7 (ix3 0 t l) := by
  pointwise

theorem stack_8 (h) (t : Fin 16384) (l : Fin 128) :
    concatenate S9x16384x128 0 [⟨S1x16384x128, p0⟩, ⟨S1x16384x128, p1⟩, ⟨S1x16384x128, p2⟩, ⟨S1x16384x128, p3⟩, ⟨S1x16384x128, p4⟩,
      ⟨S1x16384x128, p5⟩, ⟨S1x16384x128, p6⟩, ⟨S1x16384x128, p7⟩, ⟨S1x16384x128, p8⟩] h (ix3 8 t l) = p8 (ix3 0 t l) := by
  pointwise

/-- One of the tables, laid down as a piece. -/
theorem piece_at (x : FVec Ideal S16384x128 .f32) (t : Fin 16384) (l : Fin 128) :
    broadcastInDim S1x16384x128 ![1, 2] bcast_S16384x128_S1x16384x128_1_2 x (ix3 0 t l) = x (ix2 t l) := by
  pointwise

end Stack

/-- A table: one array where the lane is marked, a number elsewhere. -/
theorem sel_at (mask : IVec S128 1) (x : FVec Ideal S16384x128 .f32) (z : FVec Ideal S_ .f32) (t : Fin 16384) (l : Fin 128) :
    select (broadcastInDim S16384x128 ![1] bcast_S128_S16384x128_1 mask) x (broadcastInDim S16384x128 ![] bcast_S_S16384x128 z) (ix2 t l)
      = if mask (ix1 l) = 1#1 then x (ix2 t l) else z ix0 := by
  pointwise
  rfl

/-- A lane reads the column its number names. -/
theorem gat8 (G : FVec Ideal S16384x8 .f32) (e ix : IVec S128 32) (t : Fin 16384) (l : Fin 128) :
    Host.gather gather_S16384x8_S128x1_S16384x128_0_1_n_n_1_1_163841 G
      (broadcastInDim S128x1 ![0] bcast_S128_S128x1_0 (select (constantI S128 1 0#1) e ix)) (ix2 t l)
      = G (ix2 t ⟨min (ix (ix1 l)).toInt.toNat 7, by omega⟩) := by
  set I : IVec S128x1 32 := broadcastInDim S128x1 ![0] bcast_S128_S128x1_0 (select (constantI S128 1 0#1) e ix) with hI
  have hi : I (ix2 l 0) = ix (ix1 l) := by
    rw [hI]
    pointwise
  let D := gather_S16384x8_S128x1_S16384x128_0_1_n_n_1_1_163841
  unfold Host.gather
  refine congrArg G (funext fun a => Fin.ext ?_)
  show D.start (ix2 t l) I a + D.batchCoord (ix2 t l) a + D.offCoord (ix2 t l) a = _
  rw [D.batchCoord_eq_zero _ _ List.not_mem_nil]
  match a with
  | ⟨0, _⟩ =>
    unfold GatherDims.start GatherDims.offCoord
    rw [dif_neg (show ¬ (⟨0, by decide⟩ : Fin S16384x8.rank) ∈ D.startIndexMap by decide),
      dif_pos (show (⟨0, by decide⟩ : Fin S16384x8.rank) ∈ D.sKept by decide)]
    exact (Nat.zero_add _).trans rfl
  | ⟨1, _⟩ =>
    rw [D.offCoord_eq_zero (ix2 t l) ⟨1, by decide⟩ (fun h => ((GatherDims.mem_sKept _ _).mp h).1 (List.mem_singleton.mpr rfl))]
    unfold GatherDims.start
    rw [dif_pos (show (⟨1, by decide⟩ : Fin S16384x8.rank) ∈ D.startIndexMap from List.mem_singleton.mpr rfl)]
    have hsi : D.siIdx (ix2 t l) ⟨List.idxOf (⟨1, by decide⟩ : Fin S16384x8.rank) D.startIndexMap,
        List.idxOf_lt_length_iff.2 (List.mem_singleton.mpr rfl)⟩ = ix2 l 0 := by
      funext b; refine Fin.ext ?_
      match b with
      | ⟨0, _⟩ => rfl
      | ⟨1, _⟩ => rfl
    rw [hsi, hi]
    rfl

/-- A lane reads the column its number names. -/
theorem gat4 (G : FVec Ideal S16384x4 .f32) (e ix : IVec S128 32) (t : Fin 16384) (l : Fin 128) :
    Host.gather gather_S16384x4_S128x1_S16384x128_0_1_n_n_1_1_163841 G
      (broadcastInDim S128x1 ![0] bcast_S128_S128x1_0 (select (constantI S128 1 0#1) e ix)) (ix2 t l)
      = G (ix2 t ⟨min (ix (ix1 l)).toInt.toNat 3, by omega⟩) := by
  set I : IVec S128x1 32 := broadcastInDim S128x1 ![0] bcast_S128_S128x1_0 (select (constantI S128 1 0#1) e ix) with hI
  have hi : I (ix2 l 0) = ix (ix1 l) := by
    rw [hI]
    pointwise
  let D := gather_S16384x4_S128x1_S16384x128_0_1_n_n_1_1_163841
  unfold Host.gather
  refine congrArg G (funext fun a => Fin.ext ?_)
  show D.start (ix2 t l) I a + D.batchCoord (ix2 t l) a + D.offCoord (ix2 t l) a = _
  rw [D.batchCoord_eq_zero _ _ List.not_mem_nil]
  match a with
  | ⟨0, _⟩ =>
    unfold GatherDims.start GatherDims.offCoord
    rw [dif_neg (show ¬ (⟨0, by decide⟩ : Fin S16384x4.rank) ∈ D.startIndexMap by decide),
      dif_pos (show (⟨0, by decide⟩ : Fin S16384x4.rank) ∈ D.sKept by decide)]
    exact (Nat.zero_add _).trans rfl
  | ⟨1, _⟩ =>
    rw [D.offCoord_eq_zero (ix2 t l) ⟨1, by decide⟩ (fun h => ((GatherDims.mem_sKept _ _).mp h).1 (List.mem_singleton.mpr rfl))]
    unfold GatherDims.start
    rw [dif_pos (show (⟨1, by decide⟩ : Fin S16384x4.rank) ∈ D.startIndexMap from List.mem_singleton.mpr rfl)]
    have hsi : D.siIdx (ix2 t l) ⟨List.idxOf (⟨1, by decide⟩ : Fin S16384x4.rank) D.startIndexMap,
        List.idxOf_lt_length_iff.2 (List.mem_singleton.mpr rfl)⟩ = ix2 l 0 := by
      funext b; refine Fin.ext ?_
      match b with
      | ⟨0, _⟩ => rfl
      | ⟨1, _⟩ => rfl
    rw [hsi, hi]
    rfl

theorem row128 (l : Fin 128) : S128.rowMajor (ix1 l) = l := by
  exact Fin.ext (Shape.rowMajor_val_one (ix1 l))

/-- Table 0. -/
def tabA0 : FVec Ideal S16384x128 .f32 :=
  select (broadcastInDim S16384x128 ![1] bcast_S128_S16384x128_1 fun i => lit1 (S128.rowMajor i)) (Host.gather gather_S16384x8_S128x1_S16384x128_0_1_n_n_1_1_163841 (Cert.Reference2Ideal.Read.val_main_v28 (F := Ideal)) (broadcastInDim S128x1 ![0] bcast_S128_S128x1_0 (select (constantI S128 1 0#1) (addi (fun i => lit0 (S128.rowMajor i)) (broadcastInDim S128 ![] bcast_S_S128 (constantI S_ 32 8#32))) (fun i => lit0 (S128.rowMajor i)))))
    (broadcastInDim S16384x128 ![] bcast_S_S16384x128 (constant S_ .f32 1065353216#32))

theorem tabA0_at (t : Fin 16384) (l : Fin 128) :
    tabA0 (ix2 t l) = if l.val % 64 < 16 then cosA t ⟨l.val % 8, by omega⟩ else 1 := by
  unfold tabA0
  refine (sel_at _ _ _ t l).trans ?_
  rw [row128, lit1_at l]
  by_cases h : l.val % 64 < 16
  · rw [if_pos h, if_pos rfl, if_pos h]

    rw [gat8]
    refine congrArg (fun n => cosA t n) (Fin.ext ?_)
    show min (lit0 (S128.rowMajor (ix1 l))).toInt.toNat 7 = l.val % 8
    rw [row128]
    exact lit0_at l (by omega)
  · rw [if_neg h, if_neg (by decide), if_neg h]
    pointwise

/-- Table 1. -/
def tabA1 : FVec Ideal S16384x128 .f32 :=
  select (broadcastInDim S16384x128 ![1] bcast_S128_S16384x128_1 fun i => lit2 (S128.rowMajor i)) (Host.negf (Host.gather gather_S16384x8_S128x1_S16384x128_0_1_n_n_1_1_163841 (Cert.Reference2Ideal.Read.val_main_v30 (F := Ideal)) (broadcastInDim S128x1 ![0] bcast_S128_S128x1_0 (select (constantI S128 1 0#1) (addi (fun i => lit0 (S128.rowMajor i)) (broadcastInDim S128 ![] bcast_S_S128 (constantI S_ 32 8#32))) (fun i => lit0 (S128.rowMajor i))))))
    (broadcastInDim S16384x128 ![] bcast_S_S16384x128 (constant S_ .f32 0#32))

theorem tabA1_at (t : Fin 16384) (l : Fin 128) :
    tabA1 (ix2 t l) = if l.val % 64 < 8 then -sinA t ⟨l.val % 8, by omega⟩ else 0 := by
  unfold tabA1
  refine (sel_at _ _ _ t l).trans ?_
  rw [row128, lit2_at l]
  by_cases h : l.val % 64 < 8
  · rw [if_pos h, if_pos rfl, if_pos h]
    show -(Host.gather _ _ _ (ix2 t l)) = _
    rw [gat8]
    refine congrArg (fun n => -sinA t n) (Fin.ext ?_)
    show min (lit0 (S128.rowMajor (ix1 l))).toInt.toNat 7 = l.val % 8
    rw [row128]
    exact lit0_at l (by omega)
  · rw [if_neg h, if_neg (by decide), if_neg h]
    pointwise

/-- Table 2. -/
def tabA2 : FVec Ideal S16384x128 .f32 :=
  select (broadcastInDim S16384x128 ![1] bcast_S128_S16384x128_1 fun i => lit3 (S128.rowMajor i)) (Host.gather gather_S16384x8_S128x1_S16384x128_0_1_n_n_1_1_163841 (Cert.Reference2Ideal.Read.val_main_v30 (F := Ideal)) (broadcastInDim S128x1 ![0] bcast_S128_S128x1_0 (select (constantI S128 1 0#1) (addi (fun i => lit0 (S128.rowMajor i)) (broadcastInDim S128 ![] bcast_S_S128 (constantI S_ 32 8#32))) (fun i => lit0 (S128.rowMajor i)))))
    (broadcastInDim S16384x128 ![] bcast_S_S16384x128 (constant S_ .f32 0#32))

theorem tabA2_at (t : Fin 16384) (l : Fin 128) :
    tabA2 (ix2 t l) = if 8 ≤ l.val % 64 ∧ l.val % 64 < 16 then sinA t ⟨l.val % 8, by omega⟩ else 0 := by
  unfold tabA2
  refine (sel_at _ _ _ t l).trans ?_
  rw [row128, lit3_at l]
  by_cases h : 8 ≤ l.val % 64 ∧ l.val % 64 < 16
  · rw [if_pos h, if_pos rfl, if_pos h]

    rw [gat8]
    refine congrArg (fun n => sinA t n) (Fin.ext ?_)
    show min (lit0 (S128.rowMajor (ix1 l))).toInt.toNat 7 = l.val % 8
    rw [row128]
    exact lit0_at l (by omega)
  · rw [if_neg h, if_neg (by decide), if_neg h]
    pointwise

/-- Table 6. -/
def tabA6 : FVec Ideal S16384x128 .f32 :=
  select (broadcastInDim S16384x128 ![1] bcast_S128_S16384x128_1 fun i => lit9 (S128.rowMajor i)) (Host.gather gather_S16384x4_S128x1_S16384x128_0_1_n_n_1_1_163841 (Cert.Reference2Ideal.Read.val_main_v62 (F := Ideal)) (broadcastInDim S128x1 ![0] bcast_S128_S128x1_0 (select (constantI S128 1 0#1) (addi (fun i => lit8 (S128.rowMajor i)) (broadcastInDim S128 ![] bcast_S_S128 (constantI S_ 32 4#32))) (fun i => lit8 (S128.rowMajor i)))))
    (broadcastInDim S16384x128 ![] bcast_S_S16384x128 (constant S_ .f32 1065353216#32))

theorem tabA6_at (t : Fin 16384) (l : Fin 128) (hl : l.val < 32) :
    tabA6 (ix2 t l) = if l.val < 8 then cosB t ⟨l.val % 4, by omega⟩ else 1 := by
  unfold tabA6
  refine (sel_at _ _ _ t l).trans ?_
  rw [row128, lit9_at l hl]
  by_cases h : l.val < 8
  · rw [if_pos h, if_pos rfl, if_pos h]

    rw [gat4]
    refine congrArg (fun n => cosB t n) (Fin.ext ?_)
    show min (lit8 (S128.rowMajor (ix1 l))).toInt.toNat 3 = l.val % 4
    rw [row128]
    exact lit8_at l (by omega)
  · rw [if_neg h, if_neg (by decide), if_neg h]
    pointwise

/-- Table 7. -/
def tabA7 : FVec Ideal S16384x128 .f32 :=
  select (broadcastInDim S16384x128 ![1] bcast_S128_S16384x128_1 fun i => lit10 (S128.rowMajor i)) (Host.negf (Host.gather gather_S16384x4_S128x1_S16384x128_0_1_n_n_1_1_163841 (Cert.Reference2Ideal.Read.val_main_v64 (F := Ideal)) (broadcastInDim S128x1 ![0] bcast_S128_S128x1_0 (select (constantI S128 1 0#1) (addi (fun i => lit8 (S128.rowMajor i)) (broadcastInDim S128 ![] bcast_S_S128 (constantI S_ 32 4#32))) (fun i => lit8 (S128.rowMajor i))))))
    (broadcastInDim S16384x128 ![] bcast_S_S16384x128 (constant S_ .f32 0#32))

theorem tabA7_at (t : Fin 16384) (l : Fin 128) (hl : l.val < 32) :
    tabA7 (ix2 t l) = if l.val < 4 then -sinB t ⟨l.val % 4, by omega⟩ else 0 := by
  unfold tabA7
  refine (sel_at _ _ _ t l).trans ?_
  rw [row128, lit10_at l hl]
  by_cases h : l.val < 4
  · rw [if_pos h, if_pos rfl, if_pos h]
    show -(Host.gather _ _ _ (ix2 t l)) = _
    rw [gat4]
    refine congrArg (fun n => -sinB t n) (Fin.ext ?_)
    show min (lit8 (S128.rowMajor (ix1 l))).toInt.toNat 3 = l.val % 4
    rw [row128]
    exact lit8_at l (by omega)
  · rw [if_neg h, if_neg (by decide), if_neg h]
    pointwise

/-- Table 8. -/
def tabA8 : FVec Ideal S16384x128 .f32 :=
  select (broadcastInDim S16384x128 ![1] bcast_S128_S16384x128_1 fun i => lit11 (S128.rowMajor i)) (Host.gather gather_S16384x4_S128x1_S16384x128_0_1_n_n_1_1_163841 (Cert.Reference2Ideal.Read.val_main_v64 (F := Ideal)) (broadcastInDim S128x1 ![0] bcast_S128_S128x1_0 (select (constantI S128 1 0#1) (addi (fun i => lit8 (S128.rowMajor i)) (broadcastInDim S128 ![] bcast_S_S128 (constantI S_ 32 4#32))) (fun i => lit8 (S128.rowMajor i)))))
    (broadcastInDim S16384x128 ![] bcast_S_S16384x128 (constant S_ .f32 0#32))

theorem tabA8_at (t : Fin 16384) (l : Fin 128) (hl : l.val < 32) :
    tabA8 (ix2 t l) = if 4 ≤ l.val ∧ l.val < 8 then sinB t ⟨l.val % 4, by omega⟩ else 0 := by
  unfold tabA8
  refine (sel_at _ _ _ t l).trans ?_
  rw [row128, lit11_at l hl]
  by_cases h : 4 ≤ l.val ∧ l.val < 8
  · rw [if_pos h, if_pos rfl, if_pos h]

    rw [gat4]
    refine congrArg (fun n => sinB t n) (Fin.ext ?_)
    show min (lit8 (S128.rowMajor (ix1 l))).toInt.toNat 3 = l.val % 4
    rw [row128]
    exact lit8_at l (by omega)
  · rw [if_neg h, if_neg (by decide), if_neg h]
    pointwise

variable (m : (ℓ : Loc nD τ sig) → Buf (Elt Ideal) ℓ) (c : Dev nD)

theorem tab_0 (t : Fin 16384) (l : Fin 128) :
    (show S9x16384x128.Idx → EReal from V m c main_v116) (ix3 0 t l) = tabA0 (ix2 t l) := by
  unfold V
  after_reads_simp [Matrix.cons_val]
  refine (stack_0 _ _ _ _ _ _ _ _ _ _ t l).trans ((piece_at _ t l).trans ?_)
  rfl

theorem tab_1 (t : Fin 16384) (l : Fin 128) :
    (show S9x16384x128.Idx → EReal from V m c main_v116) (ix3 1 t l) = tabA1 (ix2 t l) := by
  unfold V
  after_reads_simp [Matrix.cons_val]
  refine (stack_1 _ _ _ _ _ _ _ _ _ _ t l).trans ((piece_at _ t l).trans ?_)
  rfl

theorem tab_2 (t : Fin 16384) (l : Fin 128) :
    (show S9x16384x128.Idx → EReal from V m c main_v116) (ix3 2 t l) = tabA2 (ix2 t l) := by
  unfold V
  after_reads_simp [Matrix.cons_val]
  refine (stack_2 _ _ _ _ _ _ _ _ _ _ t l).trans ((piece_at _ t l).trans ?_)
  rfl

theorem tab_6 (t : Fin 16384) (l : Fin 128) :
    (show S9x16384x128.Idx → EReal from V m c main_v116) (ix3 6 t l) = tabA6 (ix2 t l) := by
  unfold V
  after_reads_simp [Matrix.cons_val]
  refine (stack_6 _ _ _ _ _ _ _ _ _ _ t l).trans ((piece_at _ t l).trans ?_)
  rfl

theorem tab_7 (t : Fin 16384) (l : Fin 128) :
    (show S9x16384x128.Idx → EReal from V m c main_v116) (ix3 7 t l) = tabA7 (ix2 t l) := by
  unfold V
  after_reads_simp [Matrix.cons_val]
  refine (stack_7 _ _ _ _ _ _ _ _ _ _ t l).trans ((piece_at _ t l).trans ?_)
  rfl

theorem tab_8 (t : Fin 16384) (l : Fin 128) :
    (show S9x16384x128.Idx → EReal from V m c main_v116) (ix3 8 t l) = tabA8 (ix2 t l) := by
  unfold V
  after_reads_simp [Matrix.cons_val]
  refine (stack_8 _ _ _ _ _ _ _ _ _ _ t l).trans ((piece_at _ t l).trans ?_)
  rfl

end Cert.Kernel2Ideal.Proj

end
-- ==== Proof.ProjVal.lean ====
module

public import proofs.«01_k».proof.Proof.ProjArr
public import proofs.«01_k».proof.Proof.ProjOut
public import proofs.«01_k».proof.Proof.ProjHost
public import proofs.«01_k».proof.Proof.ProjTab

@[expose] public section

set_option maxRecDepth 16384

noncomputable section

namespace Cert.Kernel2Ideal.Proj

open Cert.Kernel2Ideal Cert.Kernel2Ideal.Gen
open Idealize.ShloMosaic Idealize.ShloMosaic.TcCoe Finset
open Cert.Reference2Ideal.Proj (col v4_at v9_at v10_at ka_lo ka_hi ka_rest ki_lo ki_hi ki_rest cosA sinA cosB sinB)
open Cert.Reference2Ideal.Read (val_main_v46 val_main_v4 val_main_v76 val_main_v9 val_main_v10)

/-! The arrays the projection leaves are the reference's. -/

/-- Turned down: the first half of a pair. -/
theorem turn_lo {z c sa sb : Fin 128 → EReal} {up down : ℕ} {l : Fin 128} {z0 z1 C S : EReal} (h0 : z l = z0)
    (h1 : z ⟨(l.val + 128 - up) % 128, Nat.mod_lt _ (by omega)⟩ = z1) (hc : c l = C) (ha : sa l = -S) (hb : sb l = 0) :
    turn z c sa sb up down l = z0 * C - z1 * S := by
  unfold turn
  rw [h0, h1, hc, ha, hb, mul_zero, add_zero, mul_neg, sub_eq_add_neg]

/-- Turned up: the second half of a pair. -/
theorem turn_hi {z c sa sb : Fin 128 → EReal} {up down : ℕ} {l : Fin 128} {z0 z1 C S : EReal} (h0 : z l = z0)
    (h1 : z ⟨(l.val + 128 - down) % 128, Nat.mod_lt _ (by omega)⟩ = z1) (hc : c l = C) (ha : sa l = 0) (hb : sb l = S) :
    turn z c sa sb up down l = z0 * C + z1 * S := by
  unfold turn
  rw [h0, h1, hc, ha, hb, mul_zero, add_zero]

/-- Left as it is. -/
theorem turn_rest {z c sa sb : Fin 128 → EReal} {up down : ℕ} {l : Fin 128} {z0 : EReal} (h0 : z l = z0)
    (hc : c l = 1) (ha : sa l = 0) (hb : sb l = 0) : turn z c sa sb up down l = z0 := by
  unfold turn
  rw [h0, hc, ha, hb, mul_zero, mul_zero, add_zero, add_zero, mul_one]

section Out
variable (x0 : Vec Ideal S512x1024 .f32) (x1 : Vec Ideal S1024x5504 .bf16) (x2 : Vec Ideal S9x512x128 .f32)

theorem out4_at (r e : Fin 512) :
    out0_4 x0 x1 x2 (ix2 r e) = turn (fun l => prod x0 x1 r ⟨512 + (128 * (e.val / 128) + l.val), by omega⟩)
      (fun l => x2 (ix3 0 r l)) (fun l => x2 (ix3 1 r l)) (fun l => x2 (ix3 2 r l)) 120 8 ⟨e.val % 128, by omega⟩ := by
  have hq : e.val / 128 = 0 ∨ e.val / 128 = 1 ∨ e.val / 128 = 2 ∨ e.val / 128 = 3 := by omega
  rcases hq with hq | hq | hq | hq
  · have he : e = ⟨0 + e.val % 128, by omega⟩ := Fin.ext (show e.val = 0 + e.val % 128 by omega)
    refine (congrArg (fun e => out0_4 x0 x1 x2 (ix2 r e)) he).trans ((out4_0 x0 x1 x2 r ⟨e.val % 128, by omega⟩).trans ?_)
    exact turn_congr (fun l => prod_congr x0 x1 r (show 512 + l.val = 512 + (128 * (e.val / 128) + l.val) by omega) _ _)
      (fun _ => rfl) (fun _ => rfl) (fun _ => rfl)
  · have he : e = ⟨128 + e.val % 128, by omega⟩ := Fin.ext (show e.val = 128 + e.val % 128 by omega)
    refine (congrArg (fun e => out0_4 x0 x1 x2 (ix2 r e)) he).trans ((out4_1 x0 x1 x2 r ⟨e.val % 128, by omega⟩).trans ?_)
    exact turn_congr (fun l => prod_congr x0 x1 r (show 640 + l.val = 512 + (128 * (e.val / 128) + l.val) by omega) _ _)
      (fun _ => rfl) (fun _ => rfl) (fun _ => rfl)
  · have he : e = ⟨256 + e.val % 128, by omega⟩ := Fin.ext (show e.val = 256 + e.val % 128 by omega)
    refine (congrArg (fun e => out0_4 x0 x1 x2 (ix2 r e)) he).trans ((out4_2 x0 x1 x2 r ⟨e.val % 128, by omega⟩).trans ?_)
    exact turn_congr (fun l => prod_congr x0 x1 r (show 768 + l.val = 512 + (128 * (e.val / 128) + l.val) by omega) _ _)
      (fun _ => rfl) (fun _ => rfl) (fun _ => rfl)
  · have he : e = ⟨384 + e.val % 128, by omega⟩ := Fin.ext (show e.val = 384 + e.val % 128 by omega)
    refine (congrArg (fun e => out0_4 x0 x1 x2 (ix2 r e)) he).trans ((out4_3 x0 x1 x2 r ⟨e.val % 128, by omega⟩).trans ?_)
    exact turn_congr (fun l => prod_congr x0 x1 r (show 896 + l.val = 512 + (128 * (e.val / 128) + l.val) by omega) _ _)
      (fun _ => rfl) (fun _ => rfl) (fun _ => rfl)

end Out

variable (m : (ℓ : Loc nD τ sig) → Buf (Elt Ideal) ℓ) (c : Dev nD)

/-- The rows and the weights given. -/
abbrev argX : S16384x1024.Idx → EReal := show S16384x1024.Idx → EReal from m ((c.tc : Thread nD τ).loc main_arg0)
abbrev argW : S1024x5416.Idx → EReal := show S1024x5416.Idx → EReal from m ((c.tc : Thread nD τ).loc main_arg1)

/-- The row a block's row is. -/
abbrev rowOf (t : Fin cfg0.N) (r : Fin 512) : Fin 16384 := ⟨512 * t.val + r.val, in512 t r⟩

theorem prod_ka (t : Fin cfg0.N) (r : Fin 512) (a : ℕ) (ha : a < 512) :
    prod (iblk m c 0 t) (iblk m c 1 t) r ⟨512 + a, by omega⟩ = col (argX m c) (argW m c) (rowOf t r) ⟨512 + a, by omega⟩ :=
  Finset.sum_congr rfl fun k _ => congrArg₂ (fun x y : EReal => x * y)
    ((blk0 m c t r k).trans (congrFun (V_main_arg0 m c) _)) ((blk1 m c t k _).trans (w_ka m c k ⟨a, ha⟩))

theorem prod_va (t : Fin cfg0.N) (r : Fin 512) (a : ℕ) (ha : a < 512) :
    prod (iblk m c 0 t) (iblk m c 1 t) r ⟨1024 + a, by omega⟩ = col (argX m c) (argW m c) (rowOf t r) ⟨1024 + a, by omega⟩ :=
  Finset.sum_congr rfl fun k _ => congrArg₂ (fun x y : EReal => x * y)
    ((blk0 m c t r k).trans (congrFun (V_main_arg0 m c) _)) ((blk1 m c t k _).trans (w_va m c k ⟨a, ha⟩))

theorem prod_ki (t : Fin cfg0.N) (r : Fin 512) (a : ℕ) (ha : a < 32) :
    prod (iblk m c 0 t) (iblk m c 1 t) r ⟨1792 + a, by omega⟩ = col (argX m c) (argW m c) (rowOf t r) ⟨1792 + a, by omega⟩ :=
  Finset.sum_congr rfl fun k _ => congrArg₂ (fun x y : EReal => x * y)
    ((blk0 m c t r k).trans (congrFun (V_main_arg0 m c) _)) ((blk1 m c t k _).trans (w_ki m c k ⟨a, ha⟩))

theorem prod_kb (t : Fin cfg0.N) (r : Fin 512) (a : ℕ) (ha : a < 512) :
    prod (iblk m c 0 t) (iblk m c 1 t) r ⟨2432 + a, by omega⟩ = col (argX m c) (argW m c) (rowOf t r) ⟨2344 + a, by omega⟩ :=
  Finset.sum_congr rfl fun k _ => congrArg₂ (fun x y : EReal => x * y)
    ((blk0 m c t r k).trans (congrFun (V_main_arg0 m c) _)) ((blk1 m c t k _).trans (w_kb m c k ⟨a, ha⟩))

theorem prod_vb (t : Fin cfg0.N) (r : Fin 512) (a : ℕ) (ha : a < 512) :
    prod (iblk m c 0 t) (iblk m c 1 t) r ⟨2944 + a, by omega⟩ = col (argX m c) (argW m c) (rowOf t r) ⟨2856 + a, by omega⟩ :=
  Finset.sum_congr rfl fun k _ => congrArg₂ (fun x y : EReal => x * y)
    ((blk0 m c t r k).trans (congrFun (V_main_arg0 m c) _)) ((blk1 m c t k _).trans (w_vb m c k ⟨a, ha⟩))

theorem prod_at {n n' : ℕ} (h : n = n') (hn : n < 5504) (hn' : n' < 5504) (t : Fin cfg0.N) (r : Fin 512) :
    prod (iblk m c 0 t) (iblk m c 1 t) r ⟨n, hn⟩ = prod (iblk m c 0 t) (iblk m c 1 t) r ⟨n', hn'⟩ := by
  subst h; rfl

theorem arr_va : (dats m 0 c).arrAt 6 cfg0.N = val_main_v4 (F := Ideal) (argX m c) (argW m c) :=
  arr6 m c _ fun t r e => (out6_at _ _ _ r e).trans ((prod_va m c t r e.val e.isLt).trans (v4_at _ _ (rowOf t r) e).symm)

theorem arr_kb : (dats m 0 c).arrAt 13 cfg0.N = val_main_v9 (F := Ideal) (argX m c) (argW m c) :=
  arr13 m c _ fun t r e => (out13_at _ _ _ r e).trans ((prod_kb m c t r e.val e.isLt).trans (v9_at _ _ (rowOf t r) e).symm)

theorem arr_vb : (dats m 0 c).arrAt 15 cfg0.N = val_main_v10 (F := Ideal) (argX m c) (argW m c) :=
  arr15 m c _ fun t r e => (out15_at _ _ _ r e).trans ((prod_vb m c t r e.val e.isLt).trans (v10_at _ _ (rowOf t r) e).symm)

set_option maxHeartbeats 2000000 in
theorem row_ka (t : Fin cfg0.N) (r e : Fin 512) :
    out0_4 (iblk m c 0 t) (iblk m c 1 t) (iblk m c 2 t) (ix2 r e) = val_main_v46 (F := Ideal) (argX m c) (argW m c) (ix2 (rowOf t r) e) := by
  refine (out4_at _ _ _ r e).trans ?_
  have z0 : prod (iblk m c 0 t) (iblk m c 1 t) r ⟨512 + (128 * (e.val / 128) + e.val % 128), by omega⟩
      = col (argX m c) (argW m c) (rowOf t r) ⟨512 + e.val, by omega⟩ :=
    (prod_at m c (show 512 + (128 * (e.val / 128) + e.val % 128) = 512 + e.val by omega) _ (by omega) t r).trans (prod_ka m c t r e.val e.isLt)
  let l : Fin 128 := ⟨e.val % 128, by omega⟩
  have hl : l.val = e.val % 128 := rfl
  have t0 := (blk2 m c t 0 r l).trans ((tab_0 m c (rowOf t r) l).trans (tabA0_at (rowOf t r) l))
  have t1 := (blk2 m c t 1 r l).trans ((tab_1 m c (rowOf t r) l).trans (tabA1_at (rowOf t r) l))
  have t2 := (blk2 m c t 2 r l).trans ((tab_2 m c (rowOf t r) l).trans (tabA2_at (rowOf t r) l))
  by_cases h8 : e.val % 64 < 8
  · have hc := t0.trans (if_pos (show l.val % 64 < 16 by rw [hl]; omega))
    have ha := t1.trans (if_pos (show l.val % 64 < 8 by rw [hl]; omega))
    have hb := t2.trans (if_neg (show ¬ (8 ≤ l.val % 64 ∧ l.val % 64 < 16) by rw [hl]; omega))
    have z1 := (prod_at m c (show 512 + (128 * (e.val / 128) + (e.val % 128 + 128 - 120) % 128) = 512 + (e.val + 8) by omega) (by omega) (by omega) t r).trans
      (prod_ka m c t r (e.val + 8) (by omega))
    refine Eq.trans ?_ (ka_lo (argX m c) (argW m c) (rowOf t r) e ⟨e.val / 64, by omega⟩ ⟨l.val % 8, by omega⟩
      (show e.val = 64 * (e.val / 64) + e.val % 128 % 8 by omega)).symm
    exact turn_lo z0 z1 hc ha hb
  · by_cases h16 : e.val % 64 < 16
    · have hc := t0.trans (if_pos (show l.val % 64 < 16 by rw [hl]; omega))
      have ha := t1.trans (if_neg (show ¬ l.val % 64 < 8 by rw [hl]; omega))
      have hb := t2.trans (if_pos (show 8 ≤ l.val % 64 ∧ l.val % 64 < 16 by rw [hl]; omega))
      have z1 := (prod_at m c (show 512 + (128 * (e.val / 128) + (e.val % 128 + 128 - 8) % 128) = 512 + (e.val - 8) by omega) (by omega) (by omega) t r).trans
        (prod_ka m c t r (e.val - 8) (by omega))
      refine Eq.trans ?_ (ka_hi (argX m c) (argW m c) (rowOf t r) e ⟨e.val / 64, by omega⟩ ⟨l.val % 8, by omega⟩
        (show e.val = 64 * (e.val / 64) + (8 + e.val % 128 % 8) by omega)).symm
      exact turn_hi z0 z1 hc ha hb
    · have hc := t0.trans (if_neg (show ¬ l.val % 64 < 16 by rw [hl]; omega))
      have ha := t1.trans (if_neg (show ¬ l.val % 64 < 8 by rw [hl]; omega))
      have hb := t2.trans (if_neg (show ¬ (8 ≤ l.val % 64 ∧ l.val % 64 < 16) by rw [hl]; omega))
      refine Eq.trans ?_ (ka_rest (argX m c) (argW m c) (rowOf t r) e ⟨e.val / 64, by omega⟩ ⟨e.val % 64 - 16, by omega⟩
        (show e.val = 64 * (e.val / 64) + (16 + (e.val % 64 - 16)) by omega)).symm
      exact turn_rest z0 hc ha hb

theorem arr_ka : (dats m 0 c).arrAt 4 cfg0.N = val_main_v46 (F := Ideal) (argX m c) (argW m c) :=
  arr4 m c _ fun t r e => row_ka m c t r e

set_option maxHeartbeats 2000000 in
theorem row_ki (t : Fin cfg0.N) (r : Fin 512) (e : Fin 32) :
    out0_9 (iblk m c 0 t) (iblk m c 1 t) (iblk m c 2 t) (ix2 r e) = val_main_v76 (F := Ideal) (argX m c) (argW m c) (ix2 (rowOf t r) e) := by
  refine (out9_at _ _ _ r e).trans ?_
  unfold ropeAt
  have z0 := prod_ki m c t r e.val e.isLt
  let l : Fin 128 := ⟨e.val, by omega⟩
  have hl : l.val = e.val := rfl
  have t0 := (blk2 m c t 6 r l).trans ((tab_6 m c (rowOf t r) l).trans (tabA6_at (rowOf t r) l (by omega)))
  have t1 := (blk2 m c t 7 r l).trans ((tab_7 m c (rowOf t r) l).trans (tabA7_at (rowOf t r) l (by omega)))
  have t2 := (blk2 m c t 8 r l).trans ((tab_8 m c (rowOf t r) l).trans (tabA8_at (rowOf t r) l (by omega)))
  by_cases h4 : e.val < 4
  · have hc := t0.trans (if_pos (show l.val < 8 by rw [hl]; omega))
    have ha := t1.trans (if_pos (show l.val < 4 by rw [hl]; omega))
    have hb := t2.trans (if_neg (show ¬ (4 ≤ l.val ∧ l.val < 8) by rw [hl]; omega))
    have z1 := (prod_at m c (show 1792 + (e.val + 128 - 124) % 128 = 1792 + (e.val + 4) by omega) (by omega) (by omega) t r).trans
      (prod_ki m c t r (e.val + 4) (by omega))
    refine Eq.trans ?_ (ki_lo (argX m c) (argW m c) (rowOf t r) e ⟨l.val % 4, by omega⟩ (show e.val = e.val % 4 by omega)).symm
    exact turn_lo z0 z1 hc ha hb
  · by_cases h8 : e.val < 8
    · have hc := t0.trans (if_pos (show l.val < 8 by rw [hl]; omega))
      have ha := t1.trans (if_neg (show ¬ l.val < 4 by rw [hl]; omega))
      have hb := t2.trans (if_pos (show 4 ≤ l.val ∧ l.val < 8 by rw [hl]; omega))
      have z1 := (prod_at m c (show 1792 + (e.val + 128 - 4) % 128 = 1792 + (e.val - 4) by omega) (by omega) (by omega) t r).trans
        (prod_ki m c t r (e.val - 4) (by omega))
      refine Eq.trans ?_ (ki_hi (argX m c) (argW m c) (rowOf t r) e ⟨l.val % 4, by omega⟩ (show e.val = 4 + e.val % 4 by omega)).symm
      exact turn_hi z0 z1 hc ha hb
    · have hc := t0.trans (if_neg (show ¬ l.val < 8 by rw [hl]; omega))
      have ha := t1.trans (if_neg (show ¬ l.val < 4 by rw [hl]; omega))
      have hb := t2.trans (if_neg (show ¬ (4 ≤ l.val ∧ l.val < 8) by rw [hl]; omega))
      refine Eq.trans ?_ (ki_rest (argX m c) (argW m c) (rowOf t r) e (by omega)).symm
      exact turn_rest z0 hc ha hb

theorem arr_ki : (dats m 0 c).arrAt 9 cfg0.N = val_main_v76 (F := Ideal) (argX m c) (argW m c) :=
  arr9 m c _ fun t r e => row_ki m c t r e

end Cert.Kernel2Ideal.Proj

end
-- ==== Proof.ProjAlg.lean ====
module

public import proofs.«01_k».proof.Defs
public import proofs.«01_k».proof.Proof.ProjVal
public import Idealize.ShloMosaic.Lib.Claim

@[expose] public section

set_option maxRecDepth 16384

noncomputable section

namespace Cert.Proof

open Idealize.ShloMosaic Idealize.SL.Sem
open Cert.Kernel2Ideal.Proj (argX argW arr_ka arr_va arr_ki arr_kb arr_vb)
open Cert.Reference2Ideal.Read

/-- The projection leaves the keys, the values, the index keys and the second keys and values the reference computes. -/
theorem algebraic_Kernel2Ideal_Reference2Ideal : Cert.algebraic_Kernel2Ideal_Reference2Ideal
    (hKernel2Ideal := Cert.Kernel2Ideal.Gen.facts) (hReference2Ideal := Cert.Reference2Ideal.Gen.facts) := by
  intro m g m' g' _ hargs
  refine ⟨fun c => val_main_v46 (F := Ideal) (argX m c) (argW m c), fun c => val_main_v4 (F := Ideal) (argX m c) (argW m c),
    fun c => val_main_v76 (F := Ideal) (argX m c) (argW m c), fun c => val_main_v9 (F := Ideal) (argX m c) (argW m c),
    fun c => val_main_v10 (F := Ideal) (argX m c) (argW m c), ?_, ?_⟩
  · refine (θ_run _ _ _).mono (fun r h c => ?_) (Cert.Kernel2Ideal.Value.run_blocks m g)
    obtain ⟨_, h1, _, h3, _, _, h6, _, _, _, h10, _, h12, _, _, _, h16⟩ := h c
    exact ⟨h1.trans (arr_ka m c), h3.trans (arr_va m c), h6.trans (arr_ki m c), h10.trans (arr_kb m c), h12.trans (arr_vb m c), h16⟩
  · refine (θ_run _ _ _).mono (fun r h c => ?_) (Cert.Reference2Ideal.Value.run m' g')
    obtain ⟨h1, h2, h3, h4, h5, h6⟩ := h c
    refine ⟨h1.trans ((val_main_v46_eq m' c).trans ?_), h2.trans ((val_main_v4_eq _ _).trans ?_), h3.trans ((val_main_v76_eq m' c).trans ?_),
      h4.trans ((val_main_v9_eq _ _).trans ?_), h5.trans ((val_main_v10_eq _ _).trans ?_), h6⟩
    all_goals rw [(hargs c).1, (hargs c).2]
    all_goals rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Frames
public import proofs.«01_k».proof.Proof.Algebraic
public import proofs.«01_k».proof.Proof.ProjFrames
public import proofs.«01_k».proof.Proof.ProjAlg
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  quiescent_Kernel, quiescent_KernelIdeal, quiescent_ReferenceIdeal, quiescent_Kernel2, quiescent_Kernel2Ideal, quiescent_Reference2Ideal,
  preserves, algebraic, preserves_Kernel2_Kernel2Ideal, algebraic_Kernel2Ideal_Reference2Ideal⟩

end Cert.Proof

end
